-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Analyze (m : (ℓ : Loc Cert.Analyze.nD Cert.Analyze.τ Cert.Analyze.sig) → Buf (Elt Bits) ℓ) : Prop :=
  True

def Pre_AnalyzeIdeal (m : (ℓ : Loc Cert.AnalyzeIdeal.nD Cert.AnalyzeIdeal.τ Cert.AnalyzeIdeal.sig) → Buf (Elt Ideal) ℓ) : Prop :=
  True

def Pre_AnalyzeReferenceIdeal (m : (ℓ : Loc Cert.AnalyzeReferenceIdeal.nD Cert.AnalyzeReferenceIdeal.τ Cert.AnalyzeReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Analyze [hAnalyze : Cert.Analyze.Facts] : Prop :=
  ∀ (m : (ℓ : Loc Cert.Analyze.nD Cert.Analyze.τ Cert.Analyze.sig) → Buf (Elt Bits) ℓ) (g : Dev Cert.Analyze.nD → PrngReg), Pre_Analyze m →
    θ_run (Cert.Analyze.defs (F := Bits)) (onTc (τ := Cert.Analyze.τ) (Cert.Analyze.main (F := Bits))) ⟨m, fun _ => 0, g⟩ (fun r => (∀ c : Dev Cert.Analyze.nD,
      r.2.mem ((c.tc : Thread Cert.Analyze.nD Cert.Analyze.τ).loc Cert.Analyze.main_arg0) = m ((c.tc : Thread Cert.Analyze.nD Cert.Analyze.τ).loc Cert.Analyze.main_arg0)
      ∧ r.2.mem ((c.tc : Thread Cert.Analyze.nD Cert.Analyze.τ).loc Cert.Analyze.main_arg1) = m ((c.tc : Thread Cert.Analyze.nD Cert.Analyze.τ).loc Cert.Analyze.main_arg1)
      ∧ r.2.mem ((c.tc : Thread Cert.Analyze.nD Cert.Analyze.τ).loc Cert.Analyze.main_arg2) = m ((c.tc : Thread Cert.Analyze.nD Cert.Analyze.τ).loc Cert.Analyze.main_arg2))
      ∧ r.2.sem = fun _ => 0)

def quiescent_AnalyzeIdeal [hAnalyzeIdeal : Cert.AnalyzeIdeal.Facts] : Prop :=
  ∀ (m : (ℓ : Loc Cert.AnalyzeIdeal.nD Cert.AnalyzeIdeal.τ Cert.AnalyzeIdeal.sig) → Buf (Elt Ideal) ℓ) (g : Dev Cert.AnalyzeIdeal.nD → PrngReg), Pre_AnalyzeIdeal m →
    θ_run (Cert.AnalyzeIdeal.defs (F := Ideal)) (onTc (τ := Cert.AnalyzeIdeal.τ) (Cert.AnalyzeIdeal.main (F := Ideal))) ⟨m, fun _ => 0, g⟩ (fun r => (∀ c : Dev Cert.AnalyzeIdeal.nD,
      r.2.mem ((c.tc : Thread Cert.AnalyzeIdeal.nD Cert.AnalyzeIdeal.τ).loc Cert.AnalyzeIdeal.main_arg0) = m ((c.tc : Thread Cert.AnalyzeIdeal.nD Cert.AnalyzeIdeal.τ).loc Cert.AnalyzeIdeal.main_arg0)
      ∧ r.2.mem ((c.tc : Thread Cert.AnalyzeIdeal.nD Cert.AnalyzeIdeal.τ).loc Cert.AnalyzeIdeal.main_arg1) = m ((c.tc : Thread Cert.AnalyzeIdeal.nD Cert.AnalyzeIdeal.τ).loc Cert.AnalyzeIdeal.main_arg1)
      ∧ r.2.mem ((c.tc : Thread Cert.AnalyzeIdeal.nD Cert.AnalyzeIdeal.τ).loc Cert.AnalyzeIdeal.main_arg2) = m ((c.tc : Thread Cert.AnalyzeIdeal.nD Cert.AnalyzeIdeal.τ).loc Cert.AnalyzeIdeal.main_arg2))
      ∧ r.2.sem = fun _ => 0)

def quiescent_AnalyzeReferenceIdeal [hAnalyzeReferenceIdeal : Cert.AnalyzeReferenceIdeal.Facts] : Prop :=
  ∀ (m : (ℓ : Loc Cert.AnalyzeReferenceIdeal.nD Cert.AnalyzeReferenceIdeal.τ Cert.AnalyzeReferenceIdeal.sig) → Buf (Elt Ideal) ℓ) (g : Dev Cert.AnalyzeReferenceIdeal.nD → PrngReg), Pre_AnalyzeReferenceIdeal m →
    θ_run (Cert.AnalyzeReferenceIdeal.defs (F := Ideal)) (onTc (τ := Cert.AnalyzeReferenceIdeal.τ) (Cert.AnalyzeReferenceIdeal.main (F := Ideal))) ⟨m, fun _ => 0, g⟩ (fun r => (∀ c : Dev Cert.AnalyzeReferenceIdeal.nD,
      r.2.mem ((c.tc : Thread Cert.AnalyzeReferenceIdeal.nD Cert.AnalyzeReferenceIdeal.τ).loc Cert.AnalyzeReferenceIdeal.main_arg0) = m ((c.tc : Thread Cert.AnalyzeReferenceIdeal.nD Cert.AnalyzeReferenceIdeal.τ).loc Cert.AnalyzeReferenceIdeal.main_arg0)
      ∧ r.2.mem ((c.tc : Thread Cert.AnalyzeReferenceIdeal.nD Cert.AnalyzeReferenceIdeal.τ).loc Cert.AnalyzeReferenceIdeal.main_arg1) = m ((c.tc : Thread Cert.AnalyzeReferenceIdeal.nD Cert.AnalyzeReferenceIdeal.τ).loc Cert.AnalyzeReferenceIdeal.main_arg1)
      ∧ r.2.mem ((c.tc : Thread Cert.AnalyzeReferenceIdeal.nD Cert.AnalyzeReferenceIdeal.τ).loc Cert.AnalyzeReferenceIdeal.main_arg2) = m ((c.tc : Thread Cert.AnalyzeReferenceIdeal.nD Cert.AnalyzeReferenceIdeal.τ).loc Cert.AnalyzeReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Analyze_AnalyzeIdeal : Prop :=
  True

def algebraic_AnalyzeIdeal_AnalyzeReferenceIdeal [hAnalyzeIdeal : Cert.AnalyzeIdeal.Facts] [hAnalyzeReferenceIdeal : Cert.AnalyzeReferenceIdeal.Facts] : Prop :=
  ∀ (m : (ℓ : Loc Cert.AnalyzeIdeal.nD Cert.AnalyzeIdeal.τ Cert.AnalyzeIdeal.sig) → Buf (Elt Ideal) ℓ) (g : Dev Cert.AnalyzeIdeal.nD → PrngReg)
    (m' : (ℓ : Loc Cert.AnalyzeReferenceIdeal.nD Cert.AnalyzeReferenceIdeal.τ Cert.AnalyzeReferenceIdeal.sig) → Buf (Elt Ideal) ℓ) (g' : Dev Cert.AnalyzeReferenceIdeal.nD → PrngReg), Pre_AnalyzeIdeal m →
    (∀ c : Dev Cert.AnalyzeIdeal.nD,
      m' ((c.tc : Thread Cert.AnalyzeReferenceIdeal.nD Cert.AnalyzeReferenceIdeal.τ).loc Cert.AnalyzeReferenceIdeal.main_arg0) = m ((c.tc : Thread Cert.AnalyzeIdeal.nD Cert.AnalyzeIdeal.τ).loc Cert.AnalyzeIdeal.main_arg0)
      ∧ m' ((c.tc : Thread Cert.AnalyzeReferenceIdeal.nD Cert.AnalyzeReferenceIdeal.τ).loc Cert.AnalyzeReferenceIdeal.main_arg1) = m ((c.tc : Thread Cert.AnalyzeIdeal.nD Cert.AnalyzeIdeal.τ).loc Cert.AnalyzeIdeal.main_arg1)
      ∧ m' ((c.tc : Thread Cert.AnalyzeReferenceIdeal.nD Cert.AnalyzeReferenceIdeal.τ).loc Cert.AnalyzeReferenceIdeal.main_arg2) = m ((c.tc : Thread Cert.AnalyzeIdeal.nD Cert.AnalyzeIdeal.τ).loc Cert.AnalyzeIdeal.main_arg2)) →
    ∃ (v0 : (c : Dev Cert.AnalyzeIdeal.nD) → Buf (Elt Ideal) ((c.tc : Thread Cert.AnalyzeIdeal.nD Cert.AnalyzeIdeal.τ).loc Cert.AnalyzeIdeal.main_v8_0)) (v1 : (c : Dev Cert.AnalyzeIdeal.nD) → Buf (Elt Ideal) ((c.tc : Thread Cert.AnalyzeIdeal.nD Cert.AnalyzeIdeal.τ).loc Cert.AnalyzeIdeal.main_v8_1)) (v2 : (c : Dev Cert.AnalyzeIdeal.nD) → Buf (Elt Ideal) ((c.tc : Thread Cert.AnalyzeIdeal.nD Cert.AnalyzeIdeal.τ).loc Cert.AnalyzeIdeal.main_v8_2)),
      θ_run (Cert.AnalyzeIdeal.defs (F := Ideal)) (onTc (τ := Cert.AnalyzeIdeal.τ) (Cert.AnalyzeIdeal.main (F := Ideal))) ⟨m, fun _ => 0, g⟩ (fun r => ∀ c : Dev Cert.AnalyzeIdeal.nD,
          r.2.mem ((c.tc : Thread Cert.AnalyzeIdeal.nD Cert.AnalyzeIdeal.τ).loc Cert.AnalyzeIdeal.main_v8_0) = v0 c
          ∧ r.2.mem ((c.tc : Thread Cert.AnalyzeIdeal.nD Cert.AnalyzeIdeal.τ).loc Cert.AnalyzeIdeal.main_v8_1) = v1 c
          ∧ r.2.mem ((c.tc : Thread Cert.AnalyzeIdeal.nD Cert.AnalyzeIdeal.τ).loc Cert.AnalyzeIdeal.main_v8_2) = v2 c
          ∧ r.2.mem ((c.tc : Thread Cert.AnalyzeIdeal.nD Cert.AnalyzeIdeal.τ).loc Cert.AnalyzeIdeal.main_arg0) = m ((c.tc : Thread Cert.AnalyzeIdeal.nD Cert.AnalyzeIdeal.τ).loc Cert.AnalyzeIdeal.main_arg0)
          ∧ r.2.mem ((c.tc : Thread Cert.AnalyzeIdeal.nD Cert.AnalyzeIdeal.τ).loc Cert.AnalyzeIdeal.main_arg1) = m ((c.tc : Thread Cert.AnalyzeIdeal.nD Cert.AnalyzeIdeal.τ).loc Cert.AnalyzeIdeal.main_arg1)
          ∧ r.2.mem ((c.tc : Thread Cert.AnalyzeIdeal.nD Cert.AnalyzeIdeal.τ).loc Cert.AnalyzeIdeal.main_arg2) = m ((c.tc : Thread Cert.AnalyzeIdeal.nD Cert.AnalyzeIdeal.τ).loc Cert.AnalyzeIdeal.main_arg2))
      ∧ θ_run (Cert.AnalyzeReferenceIdeal.defs (F := Ideal)) (onTc (τ := Cert.AnalyzeReferenceIdeal.τ) (Cert.AnalyzeReferenceIdeal.main (F := Ideal))) ⟨m', fun _ => 0, g'⟩ (fun r => ∀ c : Dev Cert.AnalyzeReferenceIdeal.nD,
          r.2.mem ((c.tc : Thread Cert.AnalyzeReferenceIdeal.nD Cert.AnalyzeReferenceIdeal.τ).loc Cert.AnalyzeReferenceIdeal.main_v10_0) = v0 c
          ∧ r.2.mem ((c.tc : Thread Cert.AnalyzeReferenceIdeal.nD Cert.AnalyzeReferenceIdeal.τ).loc Cert.AnalyzeReferenceIdeal.main_v10_1) = v1 c
          ∧ r.2.mem ((c.tc : Thread Cert.AnalyzeReferenceIdeal.nD Cert.AnalyzeReferenceIdeal.τ).loc Cert.AnalyzeReferenceIdeal.main_v8) = v2 c
          ∧ r.2.mem ((c.tc : Thread Cert.AnalyzeReferenceIdeal.nD Cert.AnalyzeReferenceIdeal.τ).loc Cert.AnalyzeReferenceIdeal.main_arg0) = m' ((c.tc : Thread Cert.AnalyzeReferenceIdeal.nD Cert.AnalyzeReferenceIdeal.τ).loc Cert.AnalyzeReferenceIdeal.main_arg0)
          ∧ r.2.mem ((c.tc : Thread Cert.AnalyzeReferenceIdeal.nD Cert.AnalyzeReferenceIdeal.τ).loc Cert.AnalyzeReferenceIdeal.main_arg1) = m' ((c.tc : Thread Cert.AnalyzeReferenceIdeal.nD Cert.AnalyzeReferenceIdeal.τ).loc Cert.AnalyzeReferenceIdeal.main_arg1)
          ∧ r.2.mem ((c.tc : Thread Cert.AnalyzeReferenceIdeal.nD Cert.AnalyzeReferenceIdeal.τ).loc Cert.AnalyzeReferenceIdeal.main_arg2) = m' ((c.tc : Thread Cert.AnalyzeReferenceIdeal.nD Cert.AnalyzeReferenceIdeal.τ).loc Cert.AnalyzeReferenceIdeal.main_arg2))

def Claim : Prop :=
  ∃ (hKernel : Cert.Kernel.Facts) (hKernelIdeal : Cert.KernelIdeal.Facts) (hReferenceIdeal : Cert.ReferenceIdeal.Facts) (hAnalyze : Cert.Analyze.Facts) (hAnalyzeIdeal : Cert.AnalyzeIdeal.Facts) (hAnalyzeReferenceIdeal : Cert.AnalyzeReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Analyze (hAnalyze := hAnalyze)
    ∧ quiescent_AnalyzeIdeal (hAnalyzeIdeal := hAnalyzeIdeal)
    ∧ quiescent_AnalyzeReferenceIdeal (hAnalyzeReferenceIdeal := hAnalyzeReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Analyze_AnalyzeIdeal
    ∧ algebraic_AnalyzeIdeal_AnalyzeReferenceIdeal (hAnalyzeIdeal := hAnalyzeIdeal) (hAnalyzeReferenceIdeal := hAnalyzeReferenceIdeal)
-- ==== Pre_finite.lean ====
abbrev S40x200x64x256 : Shape := ⟨4, ![40, 200, 64, 256]⟩
abbrev S40x200x256 : Shape := ⟨3, ![40, 200, 256]⟩
abbrev S40x14x18x4x128 : Shape := ⟨5, ![40, 14, 18, 4, 128]⟩
abbrev S64x64 : Shape := ⟨2, ![64, 64]⟩
abbrev S64 : Shape := ⟨1, ![64]⟩
abbrev S2x256x2x36 : Shape := ⟨4, ![2, 256, 2, 36]⟩
abbrev S2x28x200 : Shape := ⟨3, ![2, 28, 200]⟩
abbrev S_ : Shape := ⟨0, ![]⟩

class Facts : Prop where
  bitsLt_bf16_f32 : FTy.bits .bf16 < FTy.bits .f32
  bcast_S_S2x28x200 : S_.BroadcastsInDim S2x28x200 (![] : Fin 0 → Fin S2x28x200.rank)
  reducesTo_S2x28x200_S_d0_1_2 : S2x28x200.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S40x200x64x256 .fp8e4m3) (main_arg1 : FVec F S40x200x256 .f32) (main_arg2 : FVec F S40x14x18x4x128 .f32) (main_arg3 : FVec F S64x64 .fp8e4m3) (main_arg4 : FVec F S64 .f32) (main_arg5 : FVec F S64 .f32) (main_arg6 : FVec F S2x256x2x36 .bf16) (main_arg7 : FVec F S2x28x200 .bf16) : IVec S_ 1 :=
  let main_v0 : FVec F S2x28x200 .f32 := (extf .f32 · bitsLt_bf16_f32) main_arg7
  let main_v1 : FVec F S2x28x200 .f32 := Host.absf main_v0
  let main_cst : FVec F S_ .f32 := constant S_ .f32 0x7F800000#32
  let main_v2 : FVec F S2x28x200 .f32 := broadcastInDim S2x28x200 ![] bcast_S_S2x28x200 main_cst
  let main_v3 : IVec S2x28x200 1 := cmpf .olt main_v1 main_v2
  let main_c : IVec S_ 1 := constantI S_ 1 1#1
  let main_v4 : IVec S_ 1 := (fun x v => Host.reduce IntOp.andi x v reducesTo_S2x28x200_S_d0_1_2 h_S_) main_v3 main_c
  let main_v5 : FVec F S64 .f32 := Host.absf main_arg5
  let main_cst_0 : FVec F S_ .f32 := constant S_ .f32 0x7F800000#32
  let main_v6 : FVec F S64 .f32 := broadcastInDim S64 ![] bcast_S_S64 main_cst_0
  let main_v7 : IVec S64 1 := cmpf .olt main_v5 main_v6
  let main_c_1 : IVec S_ 1 := constantI S_ 1 1#1
  let main_v8 : IVec S_ 1 := (fun x v => Host.reduce IntOp.andi x v reducesTo_S64_S_d0 h_S_) main_v7 main_c_1
  let main_v9 : IVec S_ 1 := andi main_v4 main_v8
  main_v9
-- ==== Kernel.lean ====
abbrev S40x200x64x256 : Shape := ⟨4, ![40, 200, 64, 256]⟩
abbrev S40x200x256 : Shape := ⟨3, ![40, 200, 256]⟩
abbrev S40x14x18x4x128 : Shape := ⟨5, ![40, 14, 18, 4, 128]⟩
abbrev S64x64 : Shape := ⟨2, ![64, 64]⟩
abbrev S64 : Shape := ⟨1, ![64]⟩
abbrev S2x256x2x36 : Shape := ⟨4, ![2, 256, 2, 36]⟩
abbrev S2x28x200 : Shape := ⟨3, ![2, 28, 200]⟩
abbrev S36x2x2x256 : Shape := ⟨4, ![36, 2, 2, 256]⟩
abbrev S72x512 : Shape := ⟨2, ![72, 512]⟩
abbrev S_ : Shape := ⟨0, ![]⟩
abbrev S1x2x28x200 : Shape := ⟨4, ![1, 2, 28, 200]⟩
abbrev S3x2x28x200 : Shape := ⟨4, ![3, 2, 28, 200]⟩
abbrev S208x208 : Shape := ⟨2, ![208, 208]⟩
abbrev S1x1x28x200 : Shape := ⟨4, ![1, 1, 28, 200]⟩
abbrev S28x200 : Shape := ⟨2, ![28, 200]⟩
abbrev S200x28 : Shape := ⟨2, ![200, 28]⟩
abbrev S1 : Shape := ⟨1, ![1]⟩
abbrev S2 : Shape := ⟨1, ![2]⟩
abbrev S208x3 : Shape := ⟨2, ![208, 3]⟩
abbrev S64x1 : Shape := ⟨2, ![64, 1]⟩
abbrev S64x128 : Shape := ⟨2, ![64, 128]⟩
abbrev S64x16x256 : Shape := ⟨3, ![64, 16, 256]⟩
abbrev S1x64 : Shape := ⟨2, ![1, 64]⟩
abbrev S3x64 : Shape := ⟨2, ![3, 64]⟩
abbrev S64x3 : Shape := ⟨2, ![64, 3]⟩
abbrev S64x3x1 : Shape := ⟨3, ![64, 3, 1]⟩
abbrev S64x3x256 : Shape := ⟨3, ![64, 3, 256]⟩
abbrev S1x200x64x256 : Shape := ⟨4, ![1, 200, 64, 256]⟩
abbrev S1x200x256 : Shape := ⟨3, ![1, 200, 256]⟩
abbrev S1x14x18x4x128 : Shape := ⟨5, ![1, 14, 18, 4, 128]⟩
abbrev S2x4352x128 : Shape := ⟨3, ![2, 4352, 128]⟩
abbrev S25856x128 : Shape := ⟨2, ![25856, 128]⟩
abbrev S1x64x128 : Shape := ⟨3, ![1, 64, 128]⟩
abbrev S1x1x18x4x128 : Shape := ⟨5, ![1, 1, 18, 4, 128]⟩
abbrev S18x4x128 : Shape := ⟨3, ![18, 4, 128]⟩
abbrev S72x128 : Shape := ⟨2, ![72, 128]⟩
abbrev S128x72 : Shape := ⟨2, ![128, 72]⟩
abbrev S128x512 : Shape := ⟨2, ![128, 512]⟩
abbrev S1x4352x128 : Shape := ⟨3, ![1, 4352, 128]⟩
abbrev S4352x128 : Shape := ⟨2, ![4352, 128]⟩
abbrev S32x128 : Shape := ⟨2, ![32, 128]⟩
abbrev S64x256 : Shape := ⟨2, ![64, 256]⟩
abbrev S1x16x256 : Shape := ⟨3, ![1, 16, 256]⟩
abbrev S16x256 : Shape := ⟨2, ![16, 256]⟩
abbrev S208x256 : Shape := ⟨2, ![208, 256]⟩
abbrev S200x128 : Shape := ⟨2, ![200, 128]⟩
abbrev S256x256 : Shape := ⟨2, ![256, 256]⟩
abbrev S1x8x256 : Shape := ⟨3, ![1, 8, 256]⟩
abbrev S8x256 : Shape := ⟨2, ![8, 256]⟩
abbrev S1x4x64x256 : Shape := ⟨4, ![1, 4, 64, 256]⟩
abbrev S4x64x256 : Shape := ⟨3, ![4, 64, 256]⟩
abbrev S1x128 : Shape := ⟨2, ![1, 128]⟩
abbrev S1x1x64x128 : Shape := ⟨4, ![1, 1, 64, 128]⟩

abbrev nBuf : Space → Nat
  | .hbm => 121
  | .vmem => 15
  | .smem => 0
  | _ => 0

abbrev bufTy : (tb : Table) → Fin (tcTables nBuf tb) → BufTy
  | .hbm, ⟨0, _⟩ => ⟨S40x200x64x256, .fp8e4m3⟩
  | .hbm, ⟨1, _⟩ => ⟨S40x200x256, .f32⟩
  | .hbm, ⟨2, _⟩ => ⟨S40x14x18x4x128, .f32⟩
  | .hbm, ⟨3, _⟩ => ⟨S64x64, .fp8e4m3⟩
  | .hbm, ⟨4, _⟩ => ⟨S64, .f32⟩
  | .hbm, ⟨5, _⟩ => ⟨S64, .f32⟩
  | .hbm, ⟨6, _⟩ => ⟨S2x256x2x36, .bf16⟩
  | .hbm, ⟨7, _⟩ => ⟨S2x28x200, .bf16⟩
  | .hbm, ⟨8, _⟩ => ⟨S36x2x2x256, .bf16⟩
  | .hbm, ⟨9, _⟩ => ⟨S72x512, .bf16⟩
  | .hbm, ⟨10, _⟩ => ⟨S2x28x200, .f32⟩
  | .hbm, ⟨11, _⟩ => ⟨S_, .f32⟩
  | .hbm, ⟨12, _⟩ => ⟨S2x28x200, .f32⟩
  | .hbm, ⟨13, _⟩ => ⟨S2x28x200, .f32⟩
  | .hbm, ⟨14, _⟩ => ⟨S2x28x200, .bf16⟩
  | .hbm, ⟨15, _⟩ => ⟨S2x28x200, .f32⟩
  | .hbm, ⟨16, _⟩ => ⟨S2x28x200, .f32⟩
  | .hbm, ⟨17, _⟩ => ⟨S2x28x200, .bf16⟩
  | .hbm, ⟨18, _⟩ => ⟨S2x28x200, .f32⟩
  | .hbm, ⟨19, _⟩ => ⟨S2x28x200, .f32⟩
  | .hbm, ⟨20, _⟩ => ⟨S2x28x200, .bf16⟩
  | .hbm, ⟨21, _⟩ => ⟨S2x28x200, .f32⟩
  | .hbm, ⟨22, _⟩ => ⟨S2x28x200, .f32⟩
  | .hbm, ⟨23, _⟩ => ⟨S1x2x28x200, .f32⟩
  | .hbm, ⟨24, _⟩ => ⟨S1x2x28x200, .f32⟩
  | .hbm, ⟨25, _⟩ => ⟨S1x2x28x200, .f32⟩
  | .hbm, ⟨26, _⟩ => ⟨S3x2x28x200, .f32⟩
  | .hbm, ⟨27, _⟩ => ⟨S3x2x28x200, .bf16⟩
  | .hbm, ⟨28, _⟩ => ⟨S_, .bf16⟩
  | .hbm, ⟨29, _⟩ => ⟨S208x208, .bf16⟩
  | .hbm, ⟨30, _⟩ => ⟨S1x1x28x200, .bf16⟩
  | .hbm, ⟨31, _⟩ => ⟨S28x200, .bf16⟩
  | .hbm, ⟨32, _⟩ => ⟨S200x28, .bf16⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S208x208, .bf16⟩
  | .hbm, ⟨39, _⟩ => ⟨S1x1x28x200, .bf16⟩
  | .hbm, ⟨40, _⟩ => ⟨S28x200, .bf16⟩
  | .hbm, ⟨41, _⟩ => ⟨S200x28, .bf16⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S208x208, .bf16⟩
  | .hbm, ⟨48, _⟩ => ⟨S1x1x28x200, .bf16⟩
  | .hbm, ⟨49, _⟩ => ⟨S28x200, .bf16⟩
  | .hbm, ⟨50, _⟩ => ⟨S200x28, .bf16⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S208x208, .bf16⟩
  | .hbm, ⟨57, _⟩ => ⟨S1x1x28x200, .bf16⟩
  | .hbm, ⟨58, _⟩ => ⟨S28x200, .bf16⟩
  | .hbm, ⟨59, _⟩ => ⟨S200x28, .bf16⟩
  | .hbm, ⟨60, _⟩ => ⟨S_, .i32⟩
  | .hbm, ⟨61, _⟩ => ⟨S1, .i32⟩
  | .hbm, ⟨62, _⟩ => ⟨S_, .i32⟩
  | .hbm, ⟨63, _⟩ => ⟨S1, .i32⟩
  | .hbm, ⟨64, _⟩ => ⟨S2, .i32⟩
  | .hbm, ⟨65, _⟩ => ⟨S208x208, .bf16⟩
  | .hbm, ⟨66, _⟩ => ⟨S1x1x28x200, .bf16⟩
  | .hbm, ⟨67, _⟩ => ⟨S28x200, .bf16⟩
  | .hbm, ⟨68, _⟩ => ⟨S200x28, .bf16⟩
  | .hbm, ⟨69, _⟩ => ⟨S_, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S2, .i32⟩
  | .hbm, ⟨74, _⟩ => ⟨S208x208, .bf16⟩
  | .hbm, ⟨75, _⟩ => ⟨S1x1x28x200, .bf16⟩
  | .hbm, ⟨76, _⟩ => ⟨S28x200, .bf16⟩
  | .hbm, ⟨77, _⟩ => ⟨S200x28, .bf16⟩
  | .hbm, ⟨78, _⟩ => ⟨S_, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S2, .i32⟩
  | .hbm, ⟨83, _⟩ => ⟨S208x208, .bf16⟩
  | .hbm, ⟨84, _⟩ => ⟨S_, .bf16⟩
  | .hbm, ⟨85, _⟩ => ⟨S208x3, .bf16⟩
  | .hbm, ⟨86, _⟩ => ⟨S_, .i32⟩
  | .hbm, ⟨87, _⟩ => ⟨S1, .i32⟩
  | .hbm, ⟨88, _⟩ => ⟨S208x208, .bf16⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64x1, .f32⟩
  | .hbm, ⟨93, _⟩ => ⟨S64x128, .f32⟩
  | .hbm, ⟨94, _⟩ => ⟨S_, .bf16⟩
  | .hbm, ⟨95, _⟩ => ⟨S64x16x256, .bf16⟩
  | .hbm, ⟨96, _⟩ => ⟨S_, .f32⟩
  | .hbm, ⟨97, _⟩ => ⟨S64, .f32⟩
  | .hbm, ⟨98, _⟩ => ⟨S64, .f32⟩
  | .hbm, ⟨99, _⟩ => ⟨S64, .bf16⟩
  | .hbm, ⟨100, _⟩ => ⟨S64, .f32⟩
  | .hbm, ⟨101, _⟩ => ⟨S64, .f32⟩
  | .hbm, ⟨102, _⟩ => ⟨S64, .bf16⟩
  | .hbm, ⟨103, _⟩ => ⟨S64, .f32⟩
  | .hbm, ⟨104, _⟩ => ⟨S64, .f32⟩
  | .hbm, ⟨105, _⟩ => ⟨S64, .bf16⟩
  | .hbm, ⟨106, _⟩ => ⟨S64, .f32⟩
  | .hbm, ⟨107, _⟩ => ⟨S64, .f32⟩
  | .hbm, ⟨108, _⟩ => ⟨S1x64, .f32⟩
  | .hbm, ⟨109, _⟩ => ⟨S1x64, .f32⟩
  | .hbm, ⟨110, _⟩ => ⟨S1x64, .f32⟩
  | .hbm, ⟨111, _⟩ => ⟨S3x64, .f32⟩
  | .hbm, ⟨112, _⟩ => ⟨S3x64, .bf16⟩
  | .hbm, ⟨113, _⟩ => ⟨S64x3, .bf16⟩
  | .hbm, ⟨114, _⟩ => ⟨S64x3x1, .bf16⟩
  | .hbm, ⟨115, _⟩ => ⟨S64x3x256, .bf16⟩
  | .hbm, ⟨116, _⟩ => ⟨S_, .i32⟩
  | .hbm, ⟨117, _⟩ => ⟨S1, .i32⟩
  | .hbm, ⟨118, _⟩ => ⟨S64x16x256, .bf16⟩
  | .hbm, ⟨119, _⟩ => ⟨S64x64, .fp8e4m3⟩
  | .hbm, ⟨120, _⟩ => ⟨S40x200x64x256, .bf16⟩
  | .local _ .vmem, ⟨0, _⟩ => ⟨S1x200x64x256, .fp8e4m3⟩
  | .local _ .vmem, ⟨1, _⟩ => ⟨S1x200x64x256, .fp8e4m3⟩
  | .local _ .vmem, ⟨2, _⟩ => ⟨S1x200x256, .f32⟩
  | .local _ .vmem, ⟨3, _⟩ => ⟨S1x200x256, .f32⟩
  | .local _ .vmem, ⟨4, _⟩ => ⟨S1x14x18x4x128, .f32⟩
  | .local _ .vmem, ⟨5, _⟩ => ⟨S1x14x18x4x128, .f32⟩
  | .local _ .vmem, ⟨6, _⟩ => ⟨S72x512, .bf16⟩
  | .local _ .vmem, ⟨7, _⟩ => ⟨S208x208, .bf16⟩
  | .local _ .vmem, ⟨8, _⟩ => ⟨S64x64, .fp8e4m3⟩
  | .local _ .vmem, ⟨9, _⟩ => ⟨S64x128, .f32⟩
  | .local _ .vmem, ⟨10, _⟩ => ⟨S64x16x256, .bf16⟩
  | .local _ .vmem, ⟨11, _⟩ => ⟨S1x200x64x256, .bf16⟩
  | .local _ .vmem, ⟨12, _⟩ => ⟨S1x200x64x256, .bf16⟩
  | .local _ .vmem, ⟨13, _⟩ => ⟨S2x4352x128, .f32⟩
  | .local _ .vmem, ⟨14, _⟩ => ⟨S25856x128, .f32⟩
  | _, _ => ⟨S40x200x64x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_2 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_6 : Ref sig .tc := ⟨.hbm, 60, rfl⟩
abbrev main_v44 : Ref sig .tc := ⟨.hbm, 61, rfl⟩
abbrev main_c_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c_8 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_17 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32_392 : BitVec 32 := 0#32
  let c64_i32 : BitVec 32 := 64#32
  let v563 : BitVec 32 := Scalar.addi c0_i32_392 c64_i32
  let c1_i32 : BitVec 32 := 1#32
  ⟨c0_i32_392, v563, c1_i32⟩
def k0_off1 (k0_t1 : Fin k0_t1_loop.trips) (c0_i32_400 : BitVec 32) : Fin 2 → Nat :=
  let c0_i32_392 : BitVec 32 := 0#32
  let c1_i32 : BitVec 32 := 1#32
  let arg12 : BitVec 32 := Scf.iv c0_i32_392 c1_i32 k0_t1
  let c68_i32 : BitVec 32 := 68#32
  let v573 : BitVec 32 := Scalar.muli arg12 c68_i32
  let v574 : BitVec 32 := Scalar.addi v573 c0_i32_400
  let v577 : Index := Scalar.indexCast v574
  let c0_404 : Index := 0#32
  ![v577.toNat, 0]
def k0_off2 (k0_t1 : Fin k0_t1_loop.trips) : Fin 3 → Nat :=
  let c0_i32_392 : BitVec 32 := 0#32
  let c1_i32 : BitVec 32 := 1#32
  let arg12 : BitVec 32 := Scf.iv c0_i32_392 c1_i32 k0_t1
  let v601 : Index := Scalar.indexCast arg12
  let c0_423 : Index := 0#32
  let c0_424 : Index := 0#32
  ![v601.toNat, 0, 0]
def k0_off3 (k0_t1 : Fin k0_t1_loop.trips) (c0_i32_428 : BitVec 32) : Fin 2 → Nat :=
  let c0_i32_392 : BitVec 32 := 0#32
  let c1_i32 : BitVec 32 := 1#32
  let arg12 : BitVec 32 := Scf.iv c0_i32_392 c1_i32 k0_t1
  let c404_i32 : BitVec 32 := 404#32
  let v609 : BitVec 32 := Scalar.muli arg12 c404_i32
  let v610 : BitVec 32 := Scalar.addi v609 c0_i32_428
  let v611 : Index := Scalar.indexCast v610
  let c0_429 : Index := 0#32
  ![v611.toNat, 0]
@[reducible] def k0_t2_loop : Scf.Loop 32 :=
  let c0_i32_397 : BitVec 32 := 0#32
  let c25_i32 : BitVec 32 := 25#32
  let v572 : BitVec 32 := Scalar.addi c0_i32_397 c25_i32
  let c1_i32_398 : BitVec 32 := 1#32
  ⟨c0_i32_397, v572, c1_i32_398⟩
def k0_mult1 (k0_t2 : Fin k0_t2_loop.trips) : BitVec 32 :=
  let c0_i32_397 : BitVec 32 := 0#32
  let c1_i32_398 : BitVec 32 := 1#32
  let arg12 : BitVec 32 := Scf.iv c0_i32_397 c1_i32_398 k0_t2
  let c8_i32 : BitVec 32 := 8#32
  let v573 : BitVec 32 := Scalar.muli arg12 c8_i32
  v573
def k0_off4 (k0_t2 : Fin k0_t2_loop.trips) : Fin 3 → Nat :=
  let c0_400 : Index := 0#32
  let c0_i32_397 : BitVec 32 := 0#32
  let c1_i32_398 : BitVec 32 := 1#32
  let arg12 : BitVec 32 := Scf.iv c0_i32_397 c1_i32_398 k0_t2
  let c8_i32 : BitVec 32 := 8#32
  let v573 : BitVec 32 := Scalar.muli arg12 c8_i32
  let v574 : BitVec 32 := v573
  let v575 : Index := Scalar.indexCast v574
  let c0_401 : Index := 0#32
  ![0, v575.toNat, 0]
def k0_off5 (k0_t2 : Fin k0_t2_loop.trips) (c0_i32_402 : BitVec 32) : Fin 4 → Nat :=
  let c0_403 : Index := 0#32
  let c0_i32_397 : BitVec 32 := 0#32
  let c1_i32_398 : BitVec 32 := 1#32
  let arg12 : BitVec 32 := Scf.iv c0_i32_397 c1_i32_398 k0_t2
  let c2_i32 : BitVec 32 := 2#32
  let v578 : BitVec 32 := Scalar.muli arg12 c2_i32
  let v579 : BitVec 32 := Scalar.addi v578 c0_i32_402
  let c4_i32 : BitVec 32 := 4#32
  let v580 : BitVec 32 := Scalar.muli v579 c4_i32
  let v581 : Index := Scalar.indexCast v580
  let c0_404 : Index := 0#32
  let c0_405 : Index := 0#32
  ![0, v581.toNat, 0, 0]
def k0_off6 (k0_t2 : Fin k0_t2_loop.trips) (c0_i32_402 : BitVec 32) (c0_i32_408 : BitVec 32) (c0_i32_410 : BitVec 32) : Fin 2 → Nat :=
  let c2_i32_409 : BitVec 32 := 2#32
  let c0_i32_397 : BitVec 32 := 0#32
  let c1_i32_398 : BitVec 32 := 1#32
  let arg12 : BitVec 32 := Scf.iv c0_i32_397 c1_i32_398 k0_t2
  let c2_i32 : BitVec 32 := 2#32
  let v578 : BitVec 32 := Scalar.muli arg12 c2_i32
  let v579 : BitVec 32 := Scalar.addi v578 c0_i32_402
  let c4_i32_407 : BitVec 32 := 4#32
  let v587 : BitVec 32 := Scalar.muli v579 c4_i32_407
  let v588 : BitVec 32 := Scalar.addi v587 c0_i32_408
  let v589 : BitVec 32 := Scalar.muli c2_i32_409 v588
  let v590 : BitVec 32 := Scalar.addi v589 c0_i32_410
  let v591 : Index := Scalar.indexCast v590
  let c0_411 : Index := 0#32
  ![v591.toNat, 0]
def k0_off7 (k0_t2 : Fin k0_t2_loop.trips) (c0_i32_402 : BitVec 32) (c0_i32_417 : BitVec 32) : Fin 4 → Nat :=
  let c0_418 : Index := 0#32
  let c0_i32_397 : BitVec 32 := 0#32
  let c1_i32_398 : BitVec 32 := 1#32
  let arg12 : BitVec 32 := Scf.iv c0_i32_397 c1_i32_398 k0_t2
  let c2_i32 : BitVec 32 := 2#32
  let v578 : BitVec 32 := Scalar.muli arg12 c2_i32
  let v579 : BitVec 32 := Scalar.addi v578 c0_i32_402
  let c4_i32_416 : BitVec 32 := 4#32
  let v607 : BitVec 32 := Scalar.muli v579 c4_i32_416
  let v608 : BitVec 32 := Scalar.addi v607 c0_i32_417
  let v609 : Index := Scalar.indexCast v608
  let c0_419 : Index := 0#32
  let c0_420 : Index := 0#32
  ![0, v609.toNat, 0, 0]
def k0_off8 (k0_t2 : Fin k0_t2_loop.trips) (c0_i32_402 : BitVec 32) (c0_i32_431 : BitVec 32) : Fin 4 → Nat :=
  let c0_432 : Index := 0#32
  let c0_i32_397 : BitVec 32 := 0#32
  let c1_i32_398 : BitVec 32 := 1#32
  let arg12 : BitVec 32 := Scf.iv c0_i32_397 c1_i32_398 k0_t2
  let c2_i32 : BitVec 32 := 2#32
  let v578 : BitVec 32 := Scalar.muli arg12 c2_i32
  let v579 : BitVec 32 := Scalar.addi v578 c0_i32_402
  let c4_i32_430 : BitVec 32 := 4#32
  let v634 : BitVec 32 := Scalar.muli v579 c4_i32_430
  let v635 : BitVec 32 := Scalar.addi v634 c0_i32_431
  let v636 : Index := Scalar.indexCast v635
  let c0_433 : Index := 0#32
  let c128 : Index := 128#32
  ![0, v636.toNat, 0, 128]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x200x64x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x14x18x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S72x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S208x208 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x16x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x200x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S40x200x64x256 : Shape := ⟨4, ![40, 200, 64, 256]⟩
abbrev S40x200x256 : Shape := ⟨3, ![40, 200, 256]⟩
abbrev S40x14x18x4x128 : Shape := ⟨5, ![40, 14, 18, 4, 128]⟩
abbrev S64x64 : Shape := ⟨2, ![64, 64]⟩
abbrev S64 : Shape := ⟨1, ![64]⟩
abbrev S2x256x2x36 : Shape := ⟨4, ![2, 256, 2, 36]⟩
abbrev S2x28x200 : Shape := ⟨3, ![2, 28, 200]⟩
abbrev S40x14x18x2x2x2x64 : Shape := ⟨7, ![40, 14, 18, 2, 2, 2, 64]⟩
abbrev S40x18x2x14x2x2x64 : Shape := ⟨7, ![40, 18, 2, 14, 2, 2, 64]⟩
abbrev S40x36x28x2x64 : Shape := ⟨5, ![40, 36, 28, 2, 64]⟩
abbrev S256x2x40x28x64 : Shape := ⟨5, ![256, 2, 40, 28, 64]⟩
abbrev S40x256x28x2x64 : Shape := ⟨5, ![40, 256, 28, 2, 64]⟩
abbrev S200x40x256x64 : Shape := ⟨4, ![200, 40, 256, 64]⟩
abbrev S40x256x200x64 : Shape := ⟨4, ![40, 256, 200, 64]⟩
abbrev S_ : Shape := ⟨0, ![]⟩
abbrev S40x200x256x64 : Shape := ⟨4, ![40, 200, 256, 64]⟩
abbrev S2048000x64 : Shape := ⟨2, ![2048000, 64]⟩
abbrev S40x200x1x256 : Shape := ⟨4, ![40, 200, 1, 256]⟩
abbrev S1x1x64x1 : Shape := ⟨4, ![1, 1, 64, 1]⟩

abbrev nBuf : Space → Nat
  | .hbm => 22
  | .vmem => 7
  | .smem => 0
  | _ => 0

abbrev bufTy : (tb : Table) → Fin (tcTables nBuf tb) → BufTy
  | .hbm, ⟨0, _⟩ => ⟨S40x200x64x256, .fp8e4m3⟩
  | .hbm, ⟨1, _⟩ => ⟨S40x200x256, .f32⟩
  | .hbm, ⟨2, _⟩ => ⟨S40x14x18x4x128, .f32⟩
  | .hbm, ⟨3, _⟩ => ⟨S64x64, .fp8e4m3⟩
  | .hbm, ⟨4, _⟩ => ⟨S64, .f32⟩
  | .hbm, ⟨5, _⟩ => ⟨S64, .f32⟩
  | .hbm, ⟨6, _⟩ => ⟨S2x256x2x36, .bf16⟩
  | .hbm, ⟨7, _⟩ => ⟨S2x28x200, .bf16⟩
  | .hbm, ⟨8, _⟩ => ⟨S40x14x18x2x2x2x64, .f32⟩
  | .hbm, ⟨9, _⟩ => ⟨S40x18x2x14x2x2x64, .f32⟩
  | .hbm, ⟨10, _⟩ => ⟨S40x36x28x2x64, .f32⟩
  | .hbm, ⟨11, _⟩ => ⟨S40x36x28x2x64, .bf16⟩
  | .hbm, ⟨12, _⟩ => ⟨S256x2x40x28x64, .f32⟩
  | .hbm, ⟨13, _⟩ => ⟨S40x256x28x2x64, .f32⟩
  | .hbm, ⟨14, _⟩ => ⟨S40x256x28x2x64, .bf16⟩
  | .hbm, ⟨15, _⟩ => ⟨S200x40x256x64, .f32⟩
  | .hbm, ⟨16, _⟩ => ⟨S40x256x200x64, .f32⟩
  | .hbm, ⟨17, _⟩ => ⟨S_, .f32⟩
  | .hbm, ⟨18, _⟩ => ⟨S40x256x200x64, .f32⟩
  | .hbm, ⟨19, _⟩ => ⟨S40x256x200x64, .f32⟩
  | .hbm, ⟨20, _⟩ => ⟨S40x200x64x256, .f32⟩
  | .hbm, ⟨21, _⟩ => ⟨S40x200x64x256, .bf16⟩
  | .local _ .vmem, ⟨0, _⟩ => ⟨S40x200x64x256, .fp8e4m3⟩
  | .local _ .vmem, ⟨1, _⟩ => ⟨S40x200x256, .f32⟩
  | .local _ .vmem, ⟨2, _⟩ => ⟨S40x200x64x256, .f32⟩
  | .local _ .vmem, ⟨3, _⟩ => ⟨S64x64, .fp8e4m3⟩
  | .local _ .vmem, ⟨4, _⟩ => ⟨S64, .f32⟩
  | .local _ .vmem, ⟨5, _⟩ => ⟨S64, .f32⟩
  | .local _ .vmem, ⟨6, _⟩ => ⟨S40x200x64x256, .bf16⟩
  | _, _ => ⟨S40x200x64x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S40x200x64x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x200x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x200x64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S40x200x64x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Analyze.lean ====
abbrev S40x256x200x64 : Shape := ⟨4, ![40, 256, 200, 64]⟩
abbrev S2x36x256 : Shape := ⟨3, ![2, 36, 256]⟩
abbrev S2x200x2x28 : Shape := ⟨4, ![2, 200, 2, 28]⟩
abbrev S40x200x64x256 : Shape := ⟨4, ![40, 200, 64, 256]⟩
abbrev S72x256 : Shape := ⟨2, ![72, 256]⟩
abbrev S_ : Shape := ⟨0, ![]⟩
abbrev S80x256 : Shape := ⟨2, ![80, 256]⟩
abbrev S2x2x28x200 : Shape := ⟨4, ![2, 2, 28, 200]⟩
abbrev S2x2x28x50x2x2 : Shape := ⟨6, ![2, 2, 28, 50, 2, 2]⟩
abbrev S2x2x28x2x2x50 : Shape := ⟨6, ![2, 2, 28, 2, 2, 50]⟩
abbrev S2x2x32x2x2x56 : Shape := ⟨6, ![2, 2, 32, 2, 2, 56]⟩
abbrev S128x224 : Shape := ⟨2, ![128, 224]⟩
abbrev S40x200x256 : Shape := ⟨3, ![40, 200, 256]⟩
abbrev S40x18x64x128 : Shape := ⟨4, ![40, 18, 64, 128]⟩
abbrev S1x200x64x256 : Shape := ⟨4, ![1, 200, 64, 256]⟩
abbrev S1x200x256 : Shape := ⟨3, ![1, 200, 256]⟩
abbrev S1x18x64x128 : Shape := ⟨4, ![1, 18, 64, 128]⟩
abbrev S8288x128 : Shape := ⟨2, ![8288, 128]⟩
abbrev S888x128 : Shape := ⟨2, ![888, 128]⟩
abbrev S1x4x64x256 : Shape := ⟨4, ![1, 4, 64, 256]⟩
abbrev S4x64x256 : Shape := ⟨3, ![4, 64, 256]⟩
abbrev S256x256 : Shape := ⟨2, ![256, 256]⟩
abbrev S72x128 : Shape := ⟨2, ![72, 128]⟩
abbrev S1x64x256 : Shape := ⟨3, ![1, 64, 256]⟩
abbrev S64x256 : Shape := ⟨2, ![64, 256]⟩
abbrev S256 : Shape := ⟨1, ![256]⟩
abbrev S1x256 : Shape := ⟨2, ![1, 256]⟩
abbrev S255x256 : Shape := ⟨2, ![255, 256]⟩
abbrev S1x1x64x256 : Shape := ⟨4, ![1, 1, 64, 256]⟩
abbrev S8x256 : Shape := ⟨2, ![8, 256]⟩
abbrev S1x8x256 : Shape := ⟨3, ![1, 8, 256]⟩
abbrev S64x128 : Shape := ⟨2, ![64, 128]⟩
abbrev S56x128 : Shape := ⟨2, ![56, 128]⟩
abbrev S224x128 : Shape := ⟨2, ![224, 128]⟩
abbrev S224x256 : Shape := ⟨2, ![224, 256]⟩
abbrev S128x256 : Shape := ⟨2, ![128, 256]⟩
abbrev S1x1x64x128 : Shape := ⟨4, ![1, 1, 64, 128]⟩

abbrev nBuf : Space → Nat
  | .hbm => 18
  | .vmem => 11
  | .smem => 0
  | _ => 0

abbrev bufTy : (tb : Table) → Fin (tcTables nBuf tb) → BufTy
  | .hbm, ⟨0, _⟩ => ⟨S40x256x200x64, .bf16⟩
  | .hbm, ⟨1, _⟩ => ⟨S2x36x256, .bf16⟩
  | .hbm, ⟨2, _⟩ => ⟨S2x200x2x28, .bf16⟩
  | .hbm, ⟨3, _⟩ => ⟨S40x200x64x256, .bf16⟩
  | .hbm, ⟨4, _⟩ => ⟨S72x256, .bf16⟩
  | .hbm, ⟨5, _⟩ => ⟨S_, .i32⟩
  | .hbm, ⟨6, _⟩ => ⟨S_, .bf16⟩
  | .hbm, ⟨7, _⟩ => ⟨S80x256, .bf16⟩
  | .hbm, ⟨8, _⟩ => ⟨S2x2x28x200, .bf16⟩
  | .hbm, ⟨9, _⟩ => ⟨S2x2x28x50x2x2, .bf16⟩
  | .hbm, ⟨10, _⟩ => ⟨S2x2x28x2x2x50, .bf16⟩
  | .hbm, ⟨11, _⟩ => ⟨S_, .i32⟩
  | .hbm, ⟨12, _⟩ => ⟨S_, .bf16⟩
  | .hbm, ⟨13, _⟩ => ⟨S2x2x32x2x2x56, .bf16⟩
  | .hbm, ⟨14, _⟩ => ⟨S128x224, .bf16⟩
  | .hbm, ⟨15, _⟩ => ⟨S40x200x64x256, .fp8e4m3⟩
  | .hbm, ⟨16, _⟩ => ⟨S40x200x256, .f32⟩
  | .hbm, ⟨17, _⟩ => ⟨S40x18x64x128, .f32⟩
  | .local _ .vmem, ⟨0, _⟩ => ⟨S1x200x64x256, .bf16⟩
  | .local _ .vmem, ⟨1, _⟩ => ⟨S1x200x64x256, .bf16⟩
  | .local _ .vmem, ⟨2, _⟩ => ⟨S80x256, .bf16⟩
  | .local _ .vmem, ⟨3, _⟩ => ⟨S128x224, .bf16⟩
  | .local _ .vmem, ⟨4, _⟩ => ⟨S1x200x64x256, .fp8e4m3⟩
  | .local _ .vmem, ⟨5, _⟩ => ⟨S1x200x64x256, .fp8e4m3⟩
  | .local _ .vmem, ⟨6, _⟩ => ⟨S1x200x256, .f32⟩
  | .local _ .vmem, ⟨7, _⟩ => ⟨S1x200x256, .f32⟩
  | .local _ .vmem, ⟨8, _⟩ => ⟨S1x18x64x128, .f32⟩
  | .local _ .vmem, ⟨9, _⟩ => ⟨S1x18x64x128, .f32⟩
  | .local _ .vmem, ⟨10, _⟩ => ⟨S8288x128, .f32⟩
  | _, _ => ⟨S40x256x200x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![40], ![false]⟩

@[reducible] def k0_t1_loop : Scf.Loop 32 :=
  let c0_i32_1 : BitVec 32 := 0#32
  let c25_i32 : BitVec 32 := 25#32
  let v3 : BitVec 32 := Scalar.addi c0_i32_1 c25_i32
  let c1_i32 : BitVec 32 := 1#32
  ⟨c0_i32_1, v3, c1_i32⟩
def k0_off1 (k0_t1 : Fin k0_t1_loop.trips) (c0_i32_6 : BitVec 32) : Fin 4 → Nat :=
  let c0 : Index := 0#32
  let c0_i32_1 : BitVec 32 := 0#32
  let c1_i32 : BitVec 32 := 1#32
  let arg8 : BitVec 32 := Scf.iv c0_i32_1 c1_i32 k0_t1
  let c2_i32 : BitVec 32 := 2#32
  let v8 : BitVec 32 := Scalar.muli arg8 c2_i32
  let v9 : BitVec 32 := Scalar.addi v8 c0_i32_6
  let c4_i32 : BitVec 32 := 4#32
  let v10 : BitVec 32 := Scalar.muli v9 c4_i32
  let v11 : Index := Scalar.indexCast v10
  let c0_7 : Index := 0#32
  let c0_8 : Index := 0#32
  ![0, v11.toNat, 0, 0]
def k0_off2 (k0_t1 : Fin k0_t1_loop.trips) (c0_i32_6 : BitVec 32) (c0_i32_11 : BitVec 32) : Fin 2 → Nat :=
  let c0_i32_1 : BitVec 32 := 0#32
  let c1_i32 : BitVec 32 := 1#32
  let arg8 : BitVec 32 := Scf.iv c0_i32_1 c1_i32 k0_t1
  let c2_i32 : BitVec 32 := 2#32
  let v8 : BitVec 32 := Scalar.muli arg8 c2_i32
  let v9 : BitVec 32 := Scalar.addi v8 c0_i32_6
  let c148_i32 : BitVec 32 := 148#32
  let v19 : BitVec 32 := Scalar.muli v9 c148_i32
  let v20 : BitVec 32 := Scalar.addi v19 c0_i32_11
  let v21 : Index := Scalar.indexCast v20
  let c0_12 : Index := 0#32
  ![v21.toNat, 0]
def k0_off3 (k0_t1 : Fin k0_t1_loop.trips) (c0_i32_6 : BitVec 32) (c0_i32_27 : BitVec 32) : Fin 4 → Nat :=
  let c0_28 : Index := 0#32
  let c0_i32_1 : BitVec 32 := 0#32
  let c1_i32 : BitVec 32 := 1#32
  let arg8 : BitVec 32 := Scf.iv c0_i32_1 c1_i32 k0_t1
  let c2_i32 : BitVec 32 := 2#32
  let v8 : BitVec 32 := Scalar.muli arg8 c2_i32
  let v9 : BitVec 32 := Scalar.addi v8 c0_i32_6
  let c4_i32_26 : BitVec 32 := 4#32
  let v73 : BitVec 32 := Scalar.muli v9 c4_i32_26
  let v74 : BitVec 32 := Scalar.addi v73 c0_i32_27
  let v75 : Index := Scalar.indexCast v74
  let c0_29 : Index := 0#32
  let c0_30 : Index := 0#32
  ![0, v75.toNat, 0, 0]
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c8_i32 : BitVec 32 := 8#32
  let v433 : BitVec 32 := Scalar.muli arg8 c8_i32
  v433
def k0_off4 (k0_t1 : Fin k0_t1_loop.trips) : Fin 3 → Nat :=
  let c0_171 : Index := 0#32
  let c0_i32_1 : BitVec 32 := 0#32
  let c1_i32 : BitVec 32 := 1#32
  let arg8 : BitVec 32 := Scf.iv c0_i32_1 c1_i32 k0_t1
  let c8_i32 : BitVec 32 := 8#32
  let v433 : BitVec 32 := Scalar.muli arg8 c8_i32
  let v434 : BitVec 32 := v433
  let v435 : Index := Scalar.indexCast v434
  let c0_172 : Index := 0#32
  ![0, v435.toNat, 0]
@[reducible] def k0_t2_loop : Scf.Loop 32 :=
  let c0_i32_3 : BitVec 32 := 0#32
  let c18_i32 : BitVec 32 := 18#32
  let v7 : BitVec 32 := Scalar.addi c0_i32_3 c18_i32
  let c1_i32_4 : BitVec 32 := 1#32
  ⟨c0_i32_3, v7, c1_i32_4⟩
def k0_off5 (k0_t2 : Fin k0_t2_loop.trips) (c0_i32_6 : BitVec 32) (c0_i32_7 : BitVec 32) (c0_i32_9 : BitVec 32) : Fin 2 → Nat :=
  let c2_i32_8 : BitVec 32 := 2#32
  let c0_i32_3 : BitVec 32 := 0#32
  let c1_i32_4 : BitVec 32 := 1#32
  let arg8 : BitVec 32 := Scf.iv c0_i32_3 c1_i32_4 k0_t2
  let c2_i32 : BitVec 32 := 2#32
  let v8 : BitVec 32 := Scalar.muli arg8 c2_i32
  let v9 : BitVec 32 := Scalar.addi c0_i32_6 v8
  let v10 : BitVec 32 := Scalar.addi v9 c0_i32_7
  let v11 : BitVec 32 := Scalar.muli c2_i32_8 v10
  let v12 : BitVec 32 := Scalar.addi v11 c0_i32_9
  let v13 : Index := Scalar.indexCast v12
  let c0 : Index := 0#32
  ![v13.toNat, 0]
def k0_off6 (k0_t2 : Fin k0_t2_loop.trips) : Fin 4 → Nat :=
  let c0_54 : Index := 0#32
  let c0_i32_3 : BitVec 32 := 0#32
  let c1_i32_4 : BitVec 32 := 1#32
  let arg8 : BitVec 32 := Scf.iv c0_i32_3 c1_i32_4 k0_t2
  let v80 : Index := Scalar.indexCast arg8
  let c0_55 : Index := 0#32
  let c0_56 : Index := 0#32
  ![0, v80.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x200x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x200x64x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x200x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x18x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AnalyzeReferenceIdeal.lean ====
abbrev S40x256x200x64 : Shape := ⟨4, ![40, 256, 200, 64]⟩
abbrev S2x36x256 : Shape := ⟨3, ![2, 36, 256]⟩
abbrev S2x200x2x28 : Shape := ⟨4, ![2, 200, 2, 28]⟩
abbrev S40x200x64x2x36 : Shape := ⟨5, ![40, 200, 64, 2, 36]⟩
abbrev S40x2x36x200x64 : Shape := ⟨5, ![40, 2, 36, 200, 64]⟩
abbrev S2x28x40x36x64 : Shape := ⟨5, ![2, 28, 40, 36, 64]⟩
abbrev S40x36x28x2x64 : Shape := ⟨5, ![40, 36, 28, 2, 64]⟩
abbrev S_ : Shape := ⟨0, ![]⟩
abbrev S40x36x32x2x64 : Shape := ⟨5, ![40, 36, 32, 2, 64]⟩
abbrev S40x18x2x32x2x64 : Shape := ⟨6, ![40, 18, 2, 32, 2, 64]⟩
abbrev S40x18x64x128 : Shape := ⟨4, ![40, 18, 64, 128]⟩
abbrev S40x200x64x256 : Shape := ⟨4, ![40, 200, 64, 256]⟩
abbrev S40x200x256 : Shape := ⟨3, ![40, 200, 256]⟩
abbrev S40x200x255x256 : Shape := ⟨4, ![40, 200, 255, 256]⟩
abbrev S40x200x1x256 : Shape := ⟨4, ![40, 200, 1, 256]⟩

abbrev nBuf : Space → Nat
  | .hbm => 17
  | .vmem => 3
  | .smem => 0
  | _ => 0

abbrev bufTy : (tb : Table) → Fin (tcTables nBuf tb) → BufTy
  | .hbm, ⟨0, _⟩ => ⟨S40x256x200x64, .bf16⟩
  | .hbm, ⟨1, _⟩ => ⟨S2x36x256, .bf16⟩
  | .hbm, ⟨2, _⟩ => ⟨S2x200x2x28, .bf16⟩
  | .hbm, ⟨3, _⟩ => ⟨S40x200x64x2x36, .f32⟩
  | .hbm, ⟨4, _⟩ => ⟨S40x2x36x200x64, .f32⟩
  | .hbm, ⟨5, _⟩ => ⟨S40x2x36x200x64, .bf16⟩
  | .hbm, ⟨6, _⟩ => ⟨S2x28x40x36x64, .f32⟩
  | .hbm, ⟨7, _⟩ => ⟨S40x36x28x2x64, .f32⟩
  | .hbm, ⟨8, _⟩ => ⟨S_, .i32⟩
  | .hbm, ⟨9, _⟩ => ⟨S_, .f32⟩
  | .hbm, ⟨10, _⟩ => ⟨S40x36x32x2x64, .f32⟩
  | .hbm, ⟨11, _⟩ => ⟨S40x18x2x32x2x64, .f32⟩
  | .hbm, ⟨12, _⟩ => ⟨S40x18x2x32x2x64, .f32⟩
  | .hbm, ⟨13, _⟩ => ⟨S40x18x64x128, .f32⟩
  | .hbm, ⟨14, _⟩ => ⟨S40x200x64x256, .bf16⟩
  | .hbm, ⟨15, _⟩ => ⟨S40x200x64x256, .fp8e4m3⟩
  | .hbm, ⟨16, _⟩ => ⟨S40x200x256, .f32⟩
  | .local _ .vmem, ⟨0, _⟩ => ⟨S40x200x64x256, .bf16⟩
  | .local _ .vmem, ⟨1, _⟩ => ⟨S40x200x64x256, .fp8e4m3⟩
  | .local _ .vmem, ⟨2, _⟩ => ⟨S40x200x256, .f32⟩
  | _, _ => ⟨S40x256x200x64, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S40x200x64x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x200x64x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x200x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Values.lean ====
/-
  What the body of the kernel computes, as plain functions of what its operands hold.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import Idealize.ShloMosaic.Lib.PointwiseCore
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-! What the kernel leaves in its scratch buffers and in its result, as functions of what its operands read. -/

/-- The rectangle of the column pair `mp` in the spectrum block. -/
def rectY (mp : Fin 14) : Rect S1x14x18x4x128 :=
  Rect.unit ![0, mp.val, 0, 0, 0] S1x1x18x4x128.size (by
    intro a; have := mp.isLt
    match a with
    | ⟨0, _⟩ => exact Nat.le_refl 1
    | ⟨1, _⟩ => show mp.val + 1 ≤ 14; omega
    | ⟨2, _⟩ => exact Nat.le_refl 18
    | ⟨3, _⟩ => exact Nat.le_refl 4
    | ⟨4, _⟩ => exact Nat.le_refl 128)

/-- The inverse row transform of one column pair: rows are (column of the pair, channel), columns are
    (real or imaginary, spatial row). -/
def zmat (V3 : Vec F S1x14x18x4x128 .f32) (V4 : Vec F S72x512 .bf16) (mp : Fin 14) : FVec F S128x512 .f32 :=
  k0_pay53 (View.ld (Val := Elt F) (e' := .f32) V3 (rectY mp)) V4

/-- The first scratch buffer, by part `q`, channel, row within the channel and lane: rows below 56 hold the
    inverse row transform, the last eight zeros. -/
def zrow (V3 : Vec F S1x14x18x4x128 .f32) (V4 : Vec F S72x512 .bf16) (q : Fin 2) (ch r : Fin 64) (l : Fin 128) :
    Elt F .f32 :=
  if h : r.val < 56 then
    zmat V3 V4 ⟨r.val / 4, by omega⟩
      (ix2 ⟨r.val / 2 % 2 * 64 + ch.val, by omega⟩ ⟨q.val * 256 + r.val % 2 * 128 + l.val, by omega⟩)
  else Scalar.ofBits (F := F) .f32 0x00000000#32

/-- What a strided load of one channel's rows of the first scratch buffer reads: every second row from `t`. -/
def zwin (Z : Fin 2 → Fin 64 → Fin 64 → Fin 128 → Elt F .f32) (k : Fin 64) (q t : Fin 2) : Vec F S32x128 .f32 :=
  fun y => Z q k ⟨t.val + 2 * (y 0).val, by have h : (y 0).val < 32 := (y 0).isLt; omega⟩ (y 1)

/-- One channel's rows of the bias table. -/
def biasRow (V8 : Vec F S64x16x256 .bf16) (k : Fin 64) : Vec F S1x16x256 .bf16 := fun y => V8 (ix3 k (y 1) (y 2))

/-- The inverse column transform of one channel: rows are spatial columns, columns are spatial rows. -/
def smat (Z : Fin 2 → Fin 64 → Fin 64 → Fin 128 → Elt F .f32) (V5 : Vec F S208x208 .bf16) (V8 : Vec F S64x16x256 .bf16)
    (k : Fin 64) : FVec F S208x256 .f32 :=
  k0_pay197 (k0_pay18 (zwin Z k 0 0) (zwin Z k 1 0) (zwin Z k 0 1) (zwin Z k 1 1) (biasRow V8 k)) V5

/-- The second scratch buffer, by channel, spatial column and spatial row. -/
def srow (Z : Fin 2 → Fin 64 → Fin 64 → Fin 128 → Elt F .f32) (V5 : Vec F S208x208 .bf16) (V8 : Vec F S64x16x256 .bf16)
    (ch : Fin 64) (w : Fin 200) (h : Fin 256) : Elt F .f32 :=
  smat Z V5 V8 ch (ix2 ⟨w.val, by omega⟩ h)

/-- The first scratch buffer's contents read by part, channel, row and lane. -/
def Z10 (V : Vec F S2x4352x128 .f32) (q : Fin 2) (ch r : Fin 64) (l : Fin 128) : Elt F .f32 :=
  V (ix3 q ⟨68 * ch.val + r.val, by omega⟩ l)

/-- The second scratch buffer's contents read by channel, spatial column and spatial row. -/
def S11 (V : Vec F S25856x128 .f32) (ch : Fin 64) (w : Fin 200) (h : Fin 256) : Elt F .f32 :=
  V (ix2 ⟨404 * ch.val + 2 * w.val + h.val / 128, by omega⟩ ⟨h.val % 128, by omega⟩)

/-- The block-diagonal skip matrix. -/
def wmat (V6 : Vec F S64x64 .fp8e4m3) : FVec F S256x256 .fp8e4m3 := k0_pay1 (k0_pay200 V6) k0_pay201 (k0_pay202 V6)

/-- Four spatial columns of the codes. -/
def codes4 (V1 : Vec F S1x200x64x256 .fp8e4m3) (g : Fin 50) : Vec F S1x4x64x256 .fp8e4m3 :=
  fun y => V1 (ix4 0 ⟨4 * g.val + (y 1).val, by have h : (y 1).val < 4 := (y 1).isLt; omega⟩ (y 2) (y 3))

/-- Eight rows of the scales. -/
def scv (V2 : Vec F S1x200x256 .f32) (k : Fin 25) : Vec F S1x8x256 .f32 :=
  fun y => V2 (ix3 0 ⟨8 * k.val + (y 1).val, by have h : (y 1).val < 8 := (y 1).isLt; omega⟩ (y 2))

/-- Half of one spatial column of the second scratch buffer. -/
def scol (S : Fin 64 → Fin 200 → Fin 256 → Elt F .f32) (w : Fin 200) (t : Fin 2) : Vec F S64x128 .f32 :=
  fun y => S (y 0) w ⟨128 * t.val + (y 1).val, by have h : (y 1).val < 128 := (y 1).isLt; omega⟩

/-- Half of what the activation is applied to. -/
def halfv (V1 : Vec F S1x200x64x256 .fp8e4m3) (V2 : Vec F S1x200x256 .f32) (W : FVec F S256x256 .fp8e4m3)
    (V7 : Vec F S64x128 .f32) (S : Fin 64 → Fin 200 → Fin 256 → Elt F .f32) (w : Fin 200) (ch : Fin 64) (h : Fin 256) :
    F .f32 :=
  FloatOps.addf (S ch w h)
    (FloatOps.mulf (k0_pay20 W (codes4 V1 ⟨w.val / 4, by omega⟩) (ix2 ⟨w.val % 4 * 64 + ch.val, by omega⟩ h))
      (FloatOps.mulf (V2 (ix3 0 w h)) (V7 (ix2 ch ⟨h.val % 128, by omega⟩))))

/-- One element of the result. -/
def outv (V1 : Vec F S1x200x64x256 .fp8e4m3) (V2 : Vec F S1x200x256 .f32) (W : FVec F S256x256 .fp8e4m3)
    (V7 : Vec F S64x128 .f32) (S : Fin 64 → Fin 200 → Fin 256 → Elt F .f32) (w : Fin 200) (ch : Fin 64) (h : Fin 256) :
    F .bf16 :=
  FloatOps.truncf .bf16 bitsLt_bf16_f32
    (FloatOps.mulf (halfv V1 V2 W V7 S w ch h)
      (FloatOps.addf
        (FloatOps.erf (FloatOps.mulf (halfv V1 V2 W V7 S w ch h) (FloatOps.ofBits .f32 0x3FB504F3#32)))
        (FloatOps.ofBits .f32 0x3F800000#32)))

/-- The block of the result at one batch element. -/
def outBlock (V1 : Vec F S1x200x64x256 .fp8e4m3) (V2 : Vec F S1x200x256 .f32) (V3 : Vec F S1x14x18x4x128 .f32)
    (V4 : Vec F S72x512 .bf16) (V5 : Vec F S208x208 .bf16) (V6 : Vec F S64x64 .fp8e4m3) (V7 : Vec F S64x128 .f32)
    (V8 : Vec F S64x16x256 .bf16) : Vec F S1x200x64x256 .bf16 :=
  fun y => outv V1 V2 (wmat V6) V7 (srow (zrow V3 V4) V5 V8) (y 1) (y 2) (y 3)

omit [FloatOps F] in
/-- A place whose coordinates no index of the rectangle reaches lies outside it. -/
theorem not_mem_rect {s : Shape} (r : Rect s) (y : s.Idx)
    (h : ∀ x : r.shape.Idx, (∀ a, (y a).val = r.off a + r.stride a * (x a).val) → False) : y ∉ r.set := by
  intro hy
  obtain ⟨x, rfl⟩ := r.exists_idx_of_mem hy
  exact h x fun a => Rect.emb_apply ..

omit [FloatOps F] in
/-- Reading after a list of writes that all agree with `G`, at a place that already agreed or that one of them covers. -/
theorem read_writes_of {κ : Kind} {sp : Space} {s : Shape} {e : EltTy} (v : View sig κ sp s e) (f : v.ty.Contents (Elt F)) (G : s.Idx → Elt F e) :
    ∀ L : List (View.Piece (Elt F) s e), (∀ p ∈ L, ∀ x, p.2 x = G (p.1.emb x)) →
      ∀ y, (v.read (Elt F) f y = G y ∨ ∃ p ∈ L, y ∈ p.1.set) → v.read (Elt F) (v.writes (Elt F) f L) y = G y
  | [], _, y, h => by
    rcases h with h | ⟨p, hp, -⟩
    · exact h
    · exact absurd hp List.not_mem_nil
  | p :: L, hL, y, h => by
    by_cases hy : y ∈ p.1.set
    · obtain ⟨x, rfl⟩ := p.1.exists_idx_of_mem hy
      exact (View.read_writes_cons_emb v f p.1 p.2 L x).trans (hL p List.mem_cons_self x)
    · rw [View.read_writes_cons_miss _ _ _ _ _ hy]
      refine read_writes_of v f G L (fun q hq => hL q (List.mem_cons_of_mem _ hq)) y ?_
      rcases h with h | ⟨q, hq, hyq⟩
      · exact Or.inl h
      · rcases List.mem_cons.1 hq with rfl | hq
        · exact absurd hyq hy
        · exact Or.inr ⟨q, hq, hyq⟩

omit [FloatOps F] in
theorem full_read2 {A B : ℕ} {η : EltTy} (m : Memref sig .tc .vmem ⟨2, ![A, B]⟩ η) (X : BufTy.Contents (Elt F) m.view.ty) (inb : _) :
    View.readAt (Elt F) m.view (Rect.unit (s := ⟨2, ![A, B]⟩) ![0, 0] ![A, B] inb).toLoadRect X = m.view.read (Elt F) X := by
  funext y
  show m.view.read (Elt F) X _ = m.view.read (Elt F) X _
  congr 1
  funext a
  apply Fin.ext
  match a with
  | ⟨0, _⟩ => show 0 + 1 * (y 0).val = (y 0).val; omega
  | ⟨1, _⟩ => show 0 + 1 * (y 1).val = (y 1).val; omega

end Cert.Kernel.Hand

end
-- ==== Proof.Kernel.Loop1.lean ====
/-
  The loop over channels: one trip transforms one channel along the columns.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Kernel.Values

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .fp8e4m3) (harg1 : arg1.IsWhole)
  (arg2 : Memref sig .tc .vmem S1x200x256 .f32) (harg2 : arg2.IsWhole)
  (arg3 : Memref sig .tc .vmem S1x14x18x4x128 .f32) (harg3 : arg3.IsWhole)
  (arg4 : Memref sig .tc .vmem S72x512 .bf16) (harg4 : arg4.IsWhole)
  (arg5 : Memref sig .tc .vmem S208x208 .bf16) (harg5 : arg5.IsWhole)
  (arg6 : Memref sig .tc .vmem S64x64 .fp8e4m3) (harg6 : arg6.IsWhole)
  (arg7 : Memref sig .tc .vmem S64x128 .f32) (harg7 : arg7.IsWhole)
  (arg8 : Memref sig .tc .vmem S64x16x256 .bf16) (harg8 : arg8.IsWhole)
  (arg9 : Memref sig .tc .vmem S1x200x64x256 .bf16) (harg9 : arg9.IsWhole)
  (arg10 : Memref sig .tc .vmem S2x4352x128 .f32) (harg10 : arg10.IsWhole)
  (arg11 : Memref sig .tc .vmem S25856x128 .f32) (harg11 : arg11.IsWhole)

omit [FloatOps F] in
/-- Dropping the leading unit axis keeps the other coordinates. -/
theorem unsq (h : S4352x128.numel = S1x4352x128.numel) (a : Fin 4352) (b : Fin 128) :
    Shape.reshapeEquiv h (ix2 a b : S4352x128.Idx) = (ix3 0 a b : S1x4352x128.Idx) :=
  Shape.reshapeEquiv_eq_of_rowMajor h (by
    rw [Shape.rowMajor_val_three, Shape.rowMajor_val_two]
    show (0 * 4352 + a.val) * 128 + b.val = a.val * 128 + b.val
    omega)

/-- A load of one channel's rows through the view of one part of the first scratch buffer, read off the buffer. -/
theorem zwin_read (arg10 : Memref sig .tc .vmem S2x4352x128 .f32) (X10 : BufTy.Contents (Elt F) arg10.view.ty)
    (off : Fin 2 → ℕ) (ch : Fin 64) (q t : Fin 2) (hoff : off = ![68 * ch.val + t.val, 0])
    (inbq : ∀ a, (![q.val, 0, 0] : Fin 3 → ℕ) a + S1x4352x128.size a ≤ S2x4352x128.size a)
    (hc : ∀ a, (Rect.unit (s := S2x4352x128) ![q.val, 0, 0] S1x4352x128.size inbq).stride a = 1)
    (inb : ∀ a, S32x128.size a = 0 ∨ off a + (![2, 1] : Fin 2 → ℕ) a * (S32x128.size a - 1) < S4352x128.size a) :
    View.readAt (Elt F) (((arg10.slice (Rect.unit (s := S2x4352x128) ![q.val, 0, 0] S1x4352x128.size inbq) hc).squeeze
        S4352x128 squeezes_S1x4352x128_S4352x128).view) (⟨off, S32x128.size, ![2, 1], inb⟩ : LoadRect S4352x128) X10
      = zwin (Z10 (arg10.view.read (Elt F) X10)) ch q t := by
  subst hoff
  funext y
  idx_vars y
  show arg10.view.read (Elt F) X10 _ = arg10.view.read (Elt F) X10 _
  congr 1
  pointwise
  rw [Equiv.coe_toEmbedding, unsq]
  funext a
  apply Fin.ext
  match a with
  | ⟨0, _⟩ => show q.val + 1 * 0 = q.val; omega
  | ⟨1, _⟩ => show 0 + 1 * (68 * ch.val + t.val + 2 * y0.val) = 68 * ch.val + (t.val + 2 * y0.val); omega
  | ⟨2, _⟩ => show 0 + 1 * y1.val = y1.val; omega

/-- What the column loop reads and writes, before trip `k`: the tables and the first scratch buffer as they are, the
    second scratch buffer holding the inverse column transform of the channels before `k`. -/
abbrev inv1 (V10 : Vec F S2x4352x128 .f32) (V5 : Vec F S208x208 .bf16) (V8 : Vec F S64x16x256 .bf16) (V11 : Vec F S25856x128 .f32) (k : ℕ) : Prop :=
  ∀ ch : Fin 64, ch.val < k → ∀ w h, S11 V11 ch w h = srow (Z10 V10) V5 V8 ch w h

theorem bias_read (arg8 : Memref sig .tc .vmem S64x16x256 .bf16) (X8 : BufTy.Contents (Elt F) arg8.view.ty) (off : Fin 3 → ℕ)
    (ch : Fin 64) (hoff : off = ![ch.val, 0, 0]) (inb : _) :
    View.readAt (Elt F) arg8.view (Rect.unit off S1x16x256.size inb : Rect S64x16x256).toLoadRect X8 = biasRow (arg8.view.read (Elt F) X8) ch := by
  subst hoff
  funext y
  show arg8.view.read (Elt F) X8 _ = arg8.view.read (Elt F) X8 _
  congr 1
  funext a
  apply Fin.ext
  match a with
  | ⟨0, _⟩ => show ch.val + 1 * (y 0).val = ch.val; have h0 : (y 0).val < 1 := (y 0).isLt; omega
  | ⟨1, _⟩ => show 0 + 1 * (y 1).val = (y 1).val; omega
  | ⟨2, _⟩ => show 0 + 1 * (y 2).val = (y 2).val; omega

/-- One trip's two strided stores extend the property by one channel. -/
theorem step1 (V10 : Vec F S2x4352x128 .f32) (V5 : Vec F S208x208 .bf16) (V8 : Vec F S64x16x256 .bf16)
    (arg11 : Memref sig .tc .vmem S25856x128 .f32) (f : BufTy.Contents (Elt F) arg11.view.ty) (k : Fin k0_t1_loop.trips)
    (hk : k.val < 64) (hf : inv1 V10 V5 V8 (arg11.view.read (Elt F) f) k.val) (R : FVec F S208x256 .bf16) (M : Vec F S208x208 .bf16)
    (off1 off0 : Fin S25856x128.rank → ℕ) (e1 : off1 = ![404 * k.val + 1, 0]) (e0 : off0 = ![404 * k.val + 0, 0])
    (inb1 inb0 : _) (hR : k0_pay197 R M = smat (Z10 V10) V5 V8 ⟨k.val, hk⟩) :
    inv1 V10 V5 V8 (arg11.view.read (Elt F) (arg11.view.writes (Elt F) f
      [⟨({ off := off1, size := S200x128.size, stride := ![2, 1], inb := inb1, stride_pos := spos_2_1 } : Rect S25856x128), k0_pay199 R M⟩,
       ⟨({ off := off0, size := S200x128.size, stride := ![2, 1], inb := inb0, stride_pos := spos_2_1 } : Rect S25856x128), k0_pay198 R M⟩])) (k.val + 1) := by
  intro ch hch w h
  subst e1 e0
  have hw := w.isLt
  have hh := h.isLt
  unfold S11
  have hlane : h.val % 128 < 128 := by omega
  by_cases hc : ch.val = k.val
  · have hck : ch = ⟨k.val, hk⟩ := Fin.ext hc
    by_cases ht : h.val / 128 = 1
    · rw [View.read_writes_cons_hit_of_coords (x := (ix2 w ⟨h.val % 128, hlane⟩ : S200x128.Idx))]
      · pointwise [k0_pay199]
        rw [hR, ← hck]
        unfold srow
        congr 1
        congr 1
        apply Fin.ext
        show 128 + h.val % 128 = h.val
        omega
      · intro a
        match a with
        | ⟨0, _⟩ => show 404 * ch.val + 2 * w.val + h.val / 128 = 404 * k.val + 1 + 2 * w.val; omega
        | ⟨1, _⟩ => show h.val % 128 = 0 + 1 * (h.val % 128); omega
    · rw [View.read_writes_cons_miss, View.read_writes_cons_hit_of_coords (x := (ix2 w ⟨h.val % 128, hlane⟩ : S200x128.Idx))]
      · pointwise [k0_pay198]
        rw [hR, ← hck]
        unfold srow
        congr 1
        congr 1
        apply Fin.ext
        show h.val % 128 = h.val
        omega
      · intro a
        match a with
        | ⟨0, _⟩ => show 404 * ch.val + 2 * w.val + h.val / 128 = 404 * k.val + 0 + 2 * w.val; omega
        | ⟨1, _⟩ => show h.val % 128 = 0 + 1 * (h.val % 128); omega
      · refine not_mem_rect _ _ fun x hx => ?_
        have h0 := hx 0
        have hx0 : (x 0).val < 200 := (x 0).isLt
        replace h0 : 404 * ch.val + 2 * w.val + h.val / 128 = 404 * k.val + 1 + 2 * (x 0).val := h0
        omega
  · rw [View.read_writes_cons_miss, View.read_writes_cons_miss]
    · exact hf ch (by omega) w h
    · refine not_mem_rect _ _ fun x hx => ?_
      have h0 := hx 0
      have hx0 : (x 0).val < 200 := (x 0).isLt
      replace h0 : 404 * ch.val + 2 * w.val + h.val / 128 = 404 * k.val + 0 + 2 * (x 0).val := h0
      omega
    · refine not_mem_rect _ _ fun x hx => ?_
      have h0 := hx 0
      have hx0 : (x 0).val < 200 := (x 0).isLt
      replace h0 : 404 * ch.val + 2 * w.val + h.val / 128 = 404 * k.val + 1 + 2 * (x 0).val := h0
      omega

/-- What the loop over channels holds before trip `k`. -/
abbrev res1 (X5 : BufTy.Contents (Elt F) arg5.view.ty) (X8 : BufTy.Contents (Elt F) arg8.view.ty)
    (X10 : BufTy.Contents (Elt F) arg10.view.ty) (k : ℕ) : sProp 𝕄G :=
  iprop((arg5.view.loc (c : Thread nD τ) ↦[arg5.view.set]{fullShare} X5) ∗ (arg8.view.loc (c : Thread nD τ) ↦[arg8.view.set]{fullShare} X8)
    ∗ (arg10.view.loc (c : Thread nD τ) ↦[arg10.view.set]{fullShare} X10)
    ∗ ∃ f, (arg11.view.loc (c : Thread nD τ) ↦[arg11.view.set]{fullShare} f)
      ∗ ⌜inv1 (arg10.view.read (Elt F) X10) (arg5.view.read (Elt F) X5) (arg8.view.read (Elt F) X8) (arg11.view.read (Elt F) f) k⌝)

set_option warn.classDefReducibility false in
/-- The loop over channels by its invariant. -/
@[sl_loop] def loop1 (v530 : FVec F S128x512 .f32) (v539 : FVec F S64x128 .f32)
    (X5 : BufTy.Contents (Elt F) arg5.view.ty) (X8 : BufTy.Contents (Elt F) arg8.view.ty) (X10 : BufTy.Contents (Elt F) arg10.view.ty) :
    Idealize.ShloMosaic.LoopInv (M := 𝕄G) Idealize.ShloMosaic.frame (wpE (defs₀ (F := F)) Variants.none (c : Thread nD τ) none) Set.univ
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 v530 v539) where
  inv k _ := res1 c arg5 arg8 arg10 arg11 X5 X8 X10 k
  step k acc := by
    have hk : k.val < 64 := Nat.lt_of_lt_of_le k.isLt k0_t1_abs.2.1
    unfold k0_t1_body
    iintro ⟨H5, H8, H10, ⟨%f, H11, %hf⟩⟩
    sl_exec
    sl_step
    isplitl [H5]; · iexact H5
    isplitl [H8]; · iexact H8
    isplitl [H10]; · iexact H10
    iexists _
    isplitl [H11]; · iexact H11
    ipureintro
    refine step1 _ _ _ arg11 f k hk hf _ _ _ _ (k0_off3_eq k ⟨1, by decide⟩) (k0_off3_eq k ⟨0, by decide⟩) _ _ ?_
    have e1 : k0_off1 k 0#32 = ![68 * k.val + 0, 0] := k0_off1_eq k ⟨0, by decide⟩
    have e2 : k0_off1 k 1#32 = ![68 * k.val + 1, 0] := k0_off1_eq k ⟨1, by decide⟩
    unfold smat
    refine congrArg₂ k0_pay197 ?_ ?_
    · show k0_pay18 _ _ _ _ _ = k0_pay18 _ _ _ _ _
      congr 1
      · exact zwin_read arg10 X10 _ ⟨k.val, hk⟩ 0 0 e1 _ _ _
      · exact zwin_read arg10 X10 _ ⟨k.val, hk⟩ 1 0 e1 _ _ _
      · exact zwin_read arg10 X10 _ ⟨k.val, hk⟩ 0 1 e2 _ _ _
      · exact zwin_read arg10 X10 _ ⟨k.val, hk⟩ 1 1 e2 _ _ _
      · exact bias_read arg8 X8 _ ⟨k.val, hk⟩ (k0_off2_eq k) _
    · exact full_read2 arg5 X5 _

end Cert.Kernel.Hand

end
-- ==== Proof.Kernel.Loop2.lean ====
/-
  The loop over groups of eight spatial columns: one trip writes eight columns of the result.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Kernel.Values

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .fp8e4m3) (harg1 : arg1.IsWhole)
  (arg2 : Memref sig .tc .vmem S1x200x256 .f32) (harg2 : arg2.IsWhole)
  (arg3 : Memref sig .tc .vmem S1x14x18x4x128 .f32) (harg3 : arg3.IsWhole)
  (arg4 : Memref sig .tc .vmem S72x512 .bf16) (harg4 : arg4.IsWhole)
  (arg5 : Memref sig .tc .vmem S208x208 .bf16) (harg5 : arg5.IsWhole)
  (arg6 : Memref sig .tc .vmem S64x64 .fp8e4m3) (harg6 : arg6.IsWhole)
  (arg7 : Memref sig .tc .vmem S64x128 .f32) (harg7 : arg7.IsWhole)
  (arg8 : Memref sig .tc .vmem S64x16x256 .bf16) (harg8 : arg8.IsWhole)
  (arg9 : Memref sig .tc .vmem S1x200x64x256 .bf16) (harg9 : arg9.IsWhole)
  (arg10 : Memref sig .tc .vmem S2x4352x128 .f32) (harg10 : arg10.IsWhole)
  (arg11 : Memref sig .tc .vmem S25856x128 .f32) (harg11 : arg11.IsWhole)

theorem pay35 : k0_pay35 (F := F) = k0_pay20 := rfl

omit [FloatOps F] in
theorem sc_read (m : Memref sig .tc .vmem S1x200x256 .f32) (X : BufTy.Contents (Elt F) m.view.ty) (off : Fin 3 → ℕ)
    (k : Fin 25) (hoff : off = ![0, 8 * k.val, 0]) (inb : _) :
    View.readAt (Elt F) m.view (Rect.unit off S1x8x256.size inb : Rect S1x200x256).toLoadRect X = scv (m.view.read (Elt F) X) k := by
  subst hoff
  funext y
  show m.view.read (Elt F) X _ = m.view.read (Elt F) X _
  congr 1
  funext a
  apply Fin.ext
  match a with
  | ⟨0, _⟩ => show 0 + 1 * (y 0).val = 0; have h0 : (y 0).val < 1 := (y 0).isLt; omega
  | ⟨1, _⟩ => show 8 * k.val + 1 * (y 1).val = 8 * k.val + (y 1).val; omega
  | ⟨2, _⟩ => show 0 + 1 * (y 2).val = (y 2).val; omega

omit [FloatOps F] in
theorem codes_read (m : Memref sig .tc .vmem S1x200x64x256 .fp8e4m3) (X : BufTy.Contents (Elt F) m.view.ty) (off : Fin 4 → ℕ)
    (g : Fin 50) (hoff : off = ![0, 4 * g.val, 0, 0]) (inb : _) :
    View.readAt (Elt F) m.view (Rect.unit off S1x4x64x256.size inb : Rect S1x200x64x256).toLoadRect X = codes4 (m.view.read (Elt F) X) g := by
  subst hoff
  funext y
  show m.view.read (Elt F) X _ = m.view.read (Elt F) X _
  congr 1
  funext a
  apply Fin.ext
  match a with
  | ⟨0, _⟩ => show 0 + 1 * (y 0).val = 0; have h0 : (y 0).val < 1 := (y 0).isLt; omega
  | ⟨1, _⟩ => show 4 * g.val + 1 * (y 1).val = 4 * g.val + (y 1).val; omega
  | ⟨2, _⟩ => show 0 + 1 * (y 2).val = (y 2).val; omega
  | ⟨3, _⟩ => show 0 + 1 * (y 3).val = (y 3).val; omega

omit [FloatOps F] in
theorem s_read (m : Memref sig .tc .vmem S25856x128 .f32) (X : BufTy.Contents (Elt F) m.view.ty) (off : Fin 2 → ℕ)
    (w : Fin 200) (t : Fin 2) (hoff : off = ![2 * w.val + t.val, 0]) (inb : _) :
    View.readAt (Elt F) m.view (⟨off, S64x128.size, ![404, 1], inb⟩ : LoadRect S25856x128) X = scol (S11 (m.view.read (Elt F) X)) w t := by
  subst hoff
  funext y
  have hy1 : (y 1).val < 128 := (y 1).isLt
  show m.view.read (Elt F) X _ = m.view.read (Elt F) X _
  congr 1
  funext a
  apply Fin.ext
  match a with
  | ⟨0, _⟩ => show 2 * w.val + t.val + 404 * (y 0).val = 404 * (y 0).val + 2 * w.val + (128 * t.val + (y 1).val) / 128; omega
  | ⟨1, _⟩ => show 0 + 1 * (y 1).val = (128 * t.val + (y 1).val) % 128; omega

/-- The loop's result read at a place of the block. -/
def outG (V1 : Vec F S1x200x64x256 .fp8e4m3) (V2 : Vec F S1x200x256 .f32) (W : FVec F S256x256 .fp8e4m3) (V7 : Vec F S64x128 .f32)
    (S : Fin 64 → Fin 200 → Fin 256 → Elt F .f32) : S1x200x64x256.Idx → Elt F .bf16 := fun y => outv V1 V2 W V7 S (y 1) (y 2) (y 3)

/-- Half of what the activation is applied to, at lane `l` of one tile. -/
def tileh (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (ch : Fin 64) (l : Fin 128) : F .f32 :=
  FloatOps.addf (S ch ⟨8 * k.val + 4 * g.val + wi.val, by omega⟩ ⟨128 * t.val + l.val, by omega⟩)
    (FloatOps.mulf (k0_pay20 W (codes4 V1 ⟨2 * k.val + g.val, by omega⟩) (ix2 ⟨64 * wi.val + ch.val, by omega⟩ ⟨128 * t.val + l.val, by omega⟩))
      (FloatOps.mulf (V2 (ix3 0 ⟨8 * k.val + (4 * g.val + wi.val), by omega⟩ ⟨128 * t.val + l.val, by omega⟩)) (V7 (ix2 ch l))))

/-- One tile of the result. -/
def tilev (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (ch : Fin 64) (l : Fin 128) : F .bf16 :=
  FloatOps.truncf .bf16 bitsLt_bf16_f32
    (FloatOps.mulf (tileh V1 V2 W V7 S k g wi t ch l)
      (FloatOps.addf
        (FloatOps.erf (FloatOps.mulf (tileh V1 V2 W V7 S k g wi t ch l) (FloatOps.ofBits .f32 0x3FB504F3#32)))
        (FloatOps.ofBits .f32 0x3F800000#32)))

theorem tileh_eq (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (ch : Fin 64) (l : Fin 128) :
    tileh V1 V2 W V7 S k g wi t ch l
      = halfv V1 V2 W V7 S ⟨8 * k.val + 4 * g.val + wi.val, by omega⟩ ch ⟨128 * t.val + l.val, by omega⟩ := by
  have a1 : (⟨(8 * k.val + 4 * g.val + wi.val) / 4, by omega⟩ : Fin 50) = ⟨2 * k.val + g.val, by omega⟩ := Fin.ext (by show (8 * k.val + 4 * g.val + wi.val) / 4 = 2 * k.val + g.val; omega)
  have a2 : (⟨(8 * k.val + 4 * g.val + wi.val) % 4 * 64 + ch.val, by omega⟩ : Fin 256) = ⟨64 * wi.val + ch.val, by omega⟩ := Fin.ext (by show (8 * k.val + 4 * g.val + wi.val) % 4 * 64 + ch.val = 64 * wi.val + ch.val; omega)
  have a3 : (⟨(128 * t.val + l.val) % 128, by omega⟩ : Fin 128) = l := Fin.ext (by show (128 * t.val + l.val) % 128 = l.val; omega)
  have a4 : (⟨8 * k.val + (4 * g.val + wi.val), by omega⟩ : Fin 200) = ⟨8 * k.val + 4 * g.val + wi.val, by omega⟩ := Fin.ext (by show 8 * k.val + (4 * g.val + wi.val) = 8 * k.val + 4 * g.val + wi.val; omega)
  unfold tileh halfv
  rw [a1, a2, a3, a4]

theorem tilev_eq (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (ch : Fin 64) (l : Fin 128) :
    tilev V1 V2 W V7 S k g wi t ch l
      = outv V1 V2 W V7 S ⟨8 * k.val + 4 * g.val + wi.val, by omega⟩ ch ⟨128 * t.val + l.val, by omega⟩ := by
  unfold tilev outv
  rw [tileh_eq]

/-- One tile of the result agrees with the formula where the tile lies. -/
theorem piece2 (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (off : Fin 4 → ℕ) (hoff : off = ![0, 8 * k.val + 4 * g.val + wi.val, 0, 128 * t.val])
    (inb : _) (p : Vec F S1x1x64x128 .bf16)
    (hp : ∀ (ch : Fin 64) (l : Fin 128), p (ix4 0 0 ch l) = tilev V1 V2 W V7 S k g wi t ch l) :
    ∀ x, (⟨(Rect.unit off S1x1x64x128.size inb : Rect S1x200x64x256), p⟩ : View.Piece (Elt F) S1x200x64x256 .bf16).2 x
      = outG V1 V2 W V7 S ((⟨(Rect.unit off S1x1x64x128.size inb : Rect S1x200x64x256), p⟩ : View.Piece (Elt F) S1x200x64x256 .bf16).1.emb x) := by
  subst hoff
  intro x
  have h0 : (x 0).val < 1 := (x 0).isLt
  have h1 : (x 1).val < 1 := (x 1).isLt
  have ex : x = ix4 0 0 (x 2) (x 3) := by
    funext a
    apply Fin.ext
    match a with
    | ⟨0, _⟩ => show (x 0).val = 0; omega
    | ⟨1, _⟩ => show (x 1).val = 0; omega
    | ⟨2, _⟩ => rfl
    | ⟨3, _⟩ => rfl
  refine (congrArg p ex).trans (((hp (x 2) (x 3)).trans (tilev_eq ..)).trans ?_)
  unfold outG
  congr 1
  · apply Fin.ext; show 8 * k.val + 4 * g.val + wi.val = 8 * k.val + 4 * g.val + wi.val + 1 * (x 1).val; omega
  · apply Fin.ext; show (x 2).val = 0 + 1 * (x 2).val; omega
  · apply Fin.ext; show 128 * t.val + (x 3).val = 128 * t.val + 1 * (x 3).val; omega

/-- The tile a place of the block lies in. -/
theorem mem2 (y : S1x200x64x256.Idx) (t : Fin 2) (off : Fin 4 → ℕ) (w : Fin 200) (hoff : off = ![0, w.val, 0, 128 * t.val]) (inb : _)
    (p : Vec F S1x1x64x128 .bf16) (h1 : (y 1).val = w.val) (h3 : (y 3).val / 128 = t.val) :
    y ∈ (⟨(Rect.unit off S1x1x64x128.size inb : Rect S1x200x64x256), p⟩ : View.Piece (Elt F) S1x200x64x256 .bf16).1.set := by
  subst hoff
  have h0 : (y 0).val < 1 := (y 0).isLt
  have h2 : (y 2).val < 64 := (y 2).isLt
  have h3' : (y 3).val < 256 := (y 3).isLt
  refine (Rect.mem_set_unit (inb := inb)).2 fun a => ?_
  match a with
  | ⟨0, _⟩ => show 0 ≤ (y 0).val ∧ (y 0).val < 0 + 1; omega
  | ⟨1, _⟩ => show w.val ≤ (y 1).val ∧ (y 1).val < w.val + 1; omega
  | ⟨2, _⟩ => show 0 ≤ (y 2).val ∧ (y 2).val < 0 + 64; omega
  | ⟨3, _⟩ => show 128 * t.val ≤ (y 3).val ∧ (y 3).val < 128 * t.val + 128; omega

abbrev inv2 (G : Fin 200 → Fin 64 → Fin 256 → Elt F .bf16) (V9 : Vec F S1x200x64x256 .bf16) (k : ℕ) : Prop :=
  ∀ (w : Fin 200) (ch : Fin 64) (h : Fin 256), w.val < 8 * k → V9 (ix4 0 w ch h) = G w ch h

/-- What the loop over groups of eight spatial columns holds before trip `k`. -/
abbrev res2 (v565 : FVec F S64x64 .fp8e4m3) (v566 : FVec F S64x64 .fp8e4m3) (v567 : FVec F S64x256 .fp8e4m3)
    (X1 : BufTy.Contents (Elt F) arg1.view.ty) (X2 : BufTy.Contents (Elt F) arg2.view.ty)
    (X7 : BufTy.Contents (Elt F) arg7.view.ty) (X11 : BufTy.Contents (Elt F) arg11.view.ty) (k : ℕ) : sProp 𝕄G :=
  iprop((arg1.view.loc (c : Thread nD τ) ↦[arg1.view.set]{fullShare} X1) ∗ (arg2.view.loc (c : Thread nD τ) ↦[arg2.view.set]{fullShare} X2)
    ∗ (arg7.view.loc (c : Thread nD τ) ↦[arg7.view.set]{fullShare} X7) ∗ (arg11.view.loc (c : Thread nD τ) ↦[arg11.view.set]{fullShare} X11)
    ∗ ∃ f, (arg9.view.loc (c : Thread nD τ) ↦[arg9.view.set]{fullShare} f)
      ∗ ⌜inv2 (outv (arg1.view.read (Elt F) X1) (arg2.view.read (Elt F) X2) (k0_pay1 v565 v566 v567) (arg7.view.read (Elt F) X7)
          (S11 (arg11.view.read (Elt F) X11))) (arg9.view.read (Elt F) f) k⌝)

set_option maxHeartbeats 2000000 in
set_option warn.classDefReducibility false in
/-- The loop over groups of eight spatial columns by its invariant. -/
@[sl_loop] def loop2 (v565 : FVec F S64x64 .fp8e4m3) (v566 : FVec F S64x64 .fp8e4m3) (v567 : FVec F S64x256 .fp8e4m3)
    (X1 : BufTy.Contents (Elt F) arg1.view.ty) (X2 : BufTy.Contents (Elt F) arg2.view.ty)
    (X7 : BufTy.Contents (Elt F) arg7.view.ty) (X11 : BufTy.Contents (Elt F) arg11.view.ty) :
    Idealize.ShloMosaic.LoopInv (M := 𝕄G) Idealize.ShloMosaic.frame (wpE (defs₀ (F := F)) Variants.none (c : Thread nD τ) none) Set.univ
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 v565 v566 v567) where
  inv k _ := res2 c arg1 arg2 arg7 arg9 arg11 v565 v566 v567 X1 X2 X7 X11 k
  step k acc := by
    have hk : k.val < 25 := Nat.lt_of_lt_of_le k.isLt k0_t2_abs.2.1
    unfold k0_t2_body
    iintro ⟨H1, H2, H7, H11, ⟨%f, H9, %hf⟩⟩
    sl_exec
    sl_step
    isplitl [H1]; · iexact H1
    isplitl [H2]; · iexact H2
    isplitl [H7]; · iexact H7
    isplitl [H11]; · iexact H11
    iexists _
    isplitl [H9]; · iexact H9
    ipureintro
    have hK : k.val < 25 := hk
    have eC := sc_read arg2 X2 (k0_off4 k) ⟨k.val, hk⟩ (k0_off4_eq k)
    have eV := full_read2 arg7 X7
    intro w ch h hw
    refine read_writes_of arg9.view f (outG (arg1.view.read (Elt F) X1) (arg2.view.read (Elt F) X2) (k0_pay1 v565 v566 v567) (arg7.view.read (Elt F) X7)
      (S11 (arg11.view.read (Elt F) X11))) _ ?_ (ix4 0 w ch h) ?_
    · repeat' (refine List.forall_mem_cons.2 ⟨?_, ?_⟩)
      · refine piece2 _ _ _ _ _ ⟨k.val, hK⟩ 1 3 1 _ (k0_off8_eq k ⟨1, by decide⟩ ⟨3, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 3#32 1#32) ⟨8 * k.val + 4 * 1 + 3, by omega⟩ 1 ((k0_off6_eq k ⟨1, by decide⟩ ⟨3, by decide⟩ ⟨1, by decide⟩).trans (by congr 1; show 16 * k.val + 8 * 1 + 2 * 3 + 1 = 2 * (8 * k.val + 4 * 1 + 3) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 3 0 _ (k0_off7_eq k ⟨1, by decide⟩ ⟨3, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 3#32 0#32) ⟨8 * k.val + 4 * 1 + 3, by omega⟩ 0 ((k0_off6_eq k ⟨1, by decide⟩ ⟨3, by decide⟩ ⟨0, by decide⟩).trans (by congr 1; show 16 * k.val + 8 * 1 + 2 * 3 + 0 = 2 * (8 * k.val + 4 * 1 + 3) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 2 1 _ (k0_off8_eq k ⟨1, by decide⟩ ⟨2, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 2#32 1#32) ⟨8 * k.val + 4 * 1 + 2, by omega⟩ 1 ((k0_off6_eq k ⟨1, by decide⟩ ⟨2, by decide⟩ ⟨1, by decide⟩).trans (by congr 1; show 16 * k.val + 8 * 1 + 2 * 2 + 1 = 2 * (8 * k.val + 4 * 1 + 2) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 2 0 _ (k0_off7_eq k ⟨1, by decide⟩ ⟨2, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 2#32 0#32) ⟨8 * k.val + 4 * 1 + 2, by omega⟩ 0 ((k0_off6_eq k ⟨1, by decide⟩ ⟨2, by decide⟩ ⟨0, by decide⟩).trans (by congr 1; show 16 * k.val + 8 * 1 + 2 * 2 + 0 = 2 * (8 * k.val + 4 * 1 + 2) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 1 1 _ (k0_off8_eq k ⟨1, by decide⟩ ⟨1, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 1#32 1#32) ⟨8 * k.val + 4 * 1 + 1, by omega⟩ 1 ((k0_off6_eq k ⟨1, by decide⟩ ⟨1, by decide⟩ ⟨1, by decide⟩).trans (by congr 1; show 16 * k.val + 8 * 1 + 2 * 1 + 1 = 2 * (8 * k.val + 4 * 1 + 1) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 1 0 _ (k0_off7_eq k ⟨1, by decide⟩ ⟨1, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 1#32 0#32) ⟨8 * k.val + 4 * 1 + 1, by omega⟩ 0 ((k0_off6_eq k ⟨1, by decide⟩ ⟨1, by decide⟩ ⟨0, by decide⟩).trans (by congr 1; show 16 * k.val + 8 * 1 + 2 * 1 + 0 = 2 * (8 * k.val + 4 * 1 + 1) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 0 1 _ (k0_off8_eq k ⟨1, by decide⟩ ⟨0, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 0#32 1#32) ⟨8 * k.val + 4 * 1 + 0, by omega⟩ 1 ((k0_off6_eq k ⟨1, by decide⟩ ⟨0, by decide⟩ ⟨1, by decide⟩).trans (by congr 1; show 16 * k.val + 8 * 1 + 2 * 0 + 1 = 2 * (8 * k.val + 4 * 1 + 0) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 0 0 _ (k0_off7_eq k ⟨1, by decide⟩ ⟨0, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 0#32 0#32) ⟨8 * k.val + 4 * 1 + 0, by omega⟩ 0 ((k0_off6_eq k ⟨1, by decide⟩ ⟨0, by decide⟩ ⟨0, by decide⟩).trans (by congr 1; show 16 * k.val + 8 * 1 + 2 * 0 + 0 = 2 * (8 * k.val + 4 * 1 + 0) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
        rfl
      · refine piece2 _ _ _ _ _ ⟨k.val, hK⟩ 0 3 1 _ (k0_off8_eq k ⟨0, by decide⟩ ⟨3, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 3#32 1#32) ⟨8 * k.val + 4 * 0 + 3, by omega⟩ 1 ((k0_off6_eq k ⟨0, by decide⟩ ⟨3, by decide⟩ ⟨1, by decide⟩).trans (by congr 1; show 16 * k.val + 8 * 0 + 2 * 3 + 1 = 2 * (8 * k.val + 4 * 0 + 3) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 3 0 _ (k0_off7_eq k ⟨0, by decide⟩ ⟨3, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 3#32 0#32) ⟨8 * k.val + 4 * 0 + 3, by omega⟩ 0 ((k0_off6_eq k ⟨0, by decide⟩ ⟨3, by decide⟩ ⟨0, by decide⟩).trans (by congr 1; show 16 * k.val + 8 * 0 + 2 * 3 + 0 = 2 * (8 * k.val + 4 * 0 + 3) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 2 1 _ (k0_off8_eq k ⟨0, by decide⟩ ⟨2, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 2#32 1#32) ⟨8 * k.val + 4 * 0 + 2, by omega⟩ 1 ((k0_off6_eq k ⟨0, by decide⟩ ⟨2, by decide⟩ ⟨1, by decide⟩).trans (by congr 1; show 16 * k.val + 8 * 0 + 2 * 2 + 1 = 2 * (8 * k.val + 4 * 0 + 2) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 2 0 _ (k0_off7_eq k ⟨0, by decide⟩ ⟨2, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 2#32 0#32) ⟨8 * k.val + 4 * 0 + 2, by omega⟩ 0 ((k0_off6_eq k ⟨0, by decide⟩ ⟨2, by decide⟩ ⟨0, by decide⟩).trans (by congr 1; show 16 * k.val + 8 * 0 + 2 * 2 + 0 = 2 * (8 * k.val + 4 * 0 + 2) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 1 1 _ (k0_off8_eq k ⟨0, by decide⟩ ⟨1, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 1#32 1#32) ⟨8 * k.val + 4 * 0 + 1, by omega⟩ 1 ((k0_off6_eq k ⟨0, by decide⟩ ⟨1, by decide⟩ ⟨1, by decide⟩).trans (by congr 1; show 16 * k.val + 8 * 0 + 2 * 1 + 1 = 2 * (8 * k.val + 4 * 0 + 1) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 1 0 _ (k0_off7_eq k ⟨0, by decide⟩ ⟨1, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 1#32 0#32) ⟨8 * k.val + 4 * 0 + 1, by omega⟩ 0 ((k0_off6_eq k ⟨0, by decide⟩ ⟨1, by decide⟩ ⟨0, by decide⟩).trans (by congr 1; show 16 * k.val + 8 * 0 + 2 * 1 + 0 = 2 * (8 * k.val + 4 * 0 + 1) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 0 1 _ (k0_off8_eq k ⟨0, by decide⟩ ⟨0, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 0#32 1#32) ⟨8 * k.val + 4 * 0 + 0, by omega⟩ 1 ((k0_off6_eq k ⟨0, by decide⟩ ⟨0, by decide⟩ ⟨1, by decide⟩).trans (by congr 1; show 16 * k.val + 8 * 0 + 2 * 0 + 1 = 2 * (8 * k.val + 4 * 0 + 0) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 0 0 _ (k0_off7_eq k ⟨0, by decide⟩ ⟨0, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 0#32 0#32) ⟨8 * k.val + 4 * 0 + 0, by omega⟩ 0 ((k0_off6_eq k ⟨0, by decide⟩ ⟨0, by decide⟩ ⟨0, by decide⟩).trans (by congr 1; show 16 * k.val + 8 * 0 + 2 * 0 + 0 = 2 * (8 * k.val + 4 * 0 + 0) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · exact fun p hp => absurd hp List.not_mem_nil
    · by_cases hw8 : w.val < 8 * k.val
      · exact Or.inl (hf w ch h hw8)
      · right
        have hh := h.isLt
        have hj : w.val = 8 * k.val + 4 * 1 + 3 ∨ w.val = 8 * k.val + 4 * 1 + 2 ∨ w.val = 8 * k.val + 4 * 1 + 1 ∨ w.val = 8 * k.val + 4 * 1 + 0 ∨ w.val = 8 * k.val + 4 * 0 + 3 ∨ w.val = 8 * k.val + 4 * 0 + 2 ∨ w.val = 8 * k.val + 4 * 0 + 1 ∨ w.val = 8 * k.val + 4 * 0 + 0 := by omega
        have ht : h.val / 128 = 1 ∨ h.val / 128 = 0 := by omega
        rcases hj with hj | hj | hj | hj | hj | hj | hj | hj <;> rcases ht with ht | ht
        · exact ⟨_, (List.Mem.head _), mem2 (ix4 0 w ch h) 1 _ ⟨8 * k.val + 4 * 1 + 3, by omega⟩ (k0_off8_eq k ⟨1, by decide⟩ ⟨3, by decide⟩) _ _ hj ht⟩
        · exact ⟨_, (List.Mem.tail _ (List.Mem.head _)), mem2 (ix4 0 w ch h) 0 _ ⟨8 * k.val + 4 * 1 + 3, by omega⟩ (k0_off7_eq k ⟨1, by decide⟩ ⟨3, by decide⟩) _ _ hj ht⟩
        · exact ⟨_, (List.Mem.tail _ (List.Mem.tail _ (List.Mem.head _))), mem2 (ix4 0 w ch h) 1 _ ⟨8 * k.val + 4 * 1 + 2, by omega⟩ (k0_off8_eq k ⟨1, by decide⟩ ⟨2, by decide⟩) _ _ hj ht⟩
        · exact ⟨_, (List.Mem.tail _ (List.Mem.tail _ (List.Mem.tail _ (List.Mem.head _)))), mem2 (ix4 0 w ch h) 0 _ ⟨8 * k.val + 4 * 1 + 2, by omega⟩ (k0_off7_eq k ⟨1, by decide⟩ ⟨2, by decide⟩) _ _ hj ht⟩
        · exact ⟨_, (List.Mem.tail _ (List.Mem.tail _ (List.Mem.tail _ (List.Mem.tail _ (List.Mem.head _))))), mem2 (ix4 0 w ch h) 1 _ ⟨8 * k.val + 4 * 1 + 1, by omega⟩ (k0_off8_eq k ⟨1, by decide⟩ ⟨1, by decide⟩) _ _ hj ht⟩
        · exact ⟨_, (List.Mem.tail _ (List.Mem.tail _ (List.Mem.tail _ (List.Mem.tail _ (List.Mem.tail _ (List.Mem.head _)))))), mem2 (ix4 0 w ch h) 0 _ ⟨8 * k.val + 4 * 1 + 1, by omega⟩ (k0_off7_eq k ⟨1, by decide⟩ ⟨1, by decide⟩) _ _ hj ht⟩
        · exact ⟨_, (List.Mem.tail _ (List.Mem.tail _ (List.Mem.tail _ (List.Mem.tail _ (List.Mem.tail _ (List.Mem.tail _ (List.Mem.head _))))))), mem2 (ix4 0 w ch h) 1 _ ⟨8 * k.val + 4 * 1 + 0, by omega⟩ (k0_off8_eq k ⟨1, by decide⟩ ⟨0, by decide⟩) _ _ hj ht⟩
        · exact ⟨_, (List.Mem.tail _ (List.Mem.tail _ (List.Mem.tail _ (List.Mem.tail _ (List.Mem.tail _ (List.Mem.tail _ (List.Mem.tail _ (List.Mem.head _)))))))), mem2 (ix4 0 w ch h) 0 _ ⟨8 * k.val + 4 * 1 + 0, by omega⟩ (k0_off7_eq k ⟨1, by decide⟩ ⟨0, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.head _))))))))), mem2 (ix4 0 w ch h) 1 _ ⟨8 * k.val + 4 * 0 + 3, by omega⟩ (k0_off8_eq k ⟨0, by decide⟩ ⟨3, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.head _)))))))))), mem2 (ix4 0 w ch h) 0 _ ⟨8 * k.val + 4 * 0 + 3, by omega⟩ (k0_off7_eq k ⟨0, by decide⟩ ⟨3, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem2 (ix4 0 w ch h) 1 _ ⟨8 * k.val + 4 * 0 + 2, by omega⟩ (k0_off8_eq k ⟨0, by decide⟩ ⟨2, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem2 (ix4 0 w ch h) 0 _ ⟨8 * k.val + 4 * 0 + 2, by omega⟩ (k0_off7_eq k ⟨0, by decide⟩ ⟨2, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem2 (ix4 0 w ch h) 1 _ ⟨8 * k.val + 4 * 0 + 1, by omega⟩ (k0_off8_eq k ⟨0, by decide⟩ ⟨1, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem2 (ix4 0 w ch h) 0 _ ⟨8 * k.val + 4 * 0 + 1, by omega⟩ (k0_off7_eq k ⟨0, by decide⟩ ⟨1, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem2 (ix4 0 w ch h) 1 _ ⟨8 * k.val + 4 * 0 + 0, by omega⟩ (k0_off8_eq k ⟨0, by decide⟩ ⟨0, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem2 (ix4 0 w ch h) 0 _ ⟨8 * k.val + 4 * 0 + 0, by omega⟩ (k0_off7_eq k ⟨0, by decide⟩ ⟨0, by decide⟩) _ _ hj ht⟩

end Cert.Kernel.Hand

end
-- ==== Proof.Kernel.Rows.lean ====
/-
  Reading the first scratch buffer after the writes of its rows, and what the loops then leave.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Kernel.Loop1
public import proofs.«01_k».proof.Proof.Kernel.Loop2

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The condition under which the kernel clears the last rows of the first scratch buffer: it is at the first grid point. -/
abbrev first (i : grid0.Coords) : Prop :=
  Scalar.cmpi .ne (Scalar.extui (Scalar.cmpi .eq (BitVec.ofNat 32 (i 0).val) 0#32) : BitVec 32) 0#32 = 1#1

/-- The last eight rows of every channel of the first scratch buffer hold zeros. -/
def zeros (d : Vec F S2x4352x128 .f32) : Prop :=
  ∀ (q : Fin 2) (ch r : Fin 64) (l : Fin 128), 56 ≤ r.val → Z10 d q ch r l = Scalar.ofBits (F := F) .f32 0x00000000#32

/-- Row `r` of every channel of part `q` of the first scratch buffer. -/
def rectZ (q : Fin 2) (r : Fin 64) : Rect S2x4352x128 :=
  ⟨⟨![q.val, r.val, 0], S1x64x128.size, ![1, 68, 1], by
    intro a
    match a with
    | ⟨0, _⟩ => right; show q.val + 1 * (1 - 1) < 2; omega
    | ⟨1, _⟩ => right; show r.val + 68 * (64 - 1) < 4352; omega
    | ⟨2, _⟩ => right; show 0 + 1 * (128 - 1) < 128; omega⟩, spos_1_68_1⟩

/-- A write of one row of every channel that agrees with `G` there. -/
def ZOk (G : Fin 2 → Fin 64 → Fin 64 → Fin 128 → Elt F .f32) (p : View.Piece (Elt F) S2x4352x128 .f32) : Prop :=
  ∃ (q : Fin 2) (r : Fin 64) (pay : Vec F S1x64x128 .f32), p = ⟨rectZ q r, pay⟩ ∧ ∀ ch l, pay (ix3 0 ch l) = G q ch r l

omit [FloatOps F] in
/-- Reading a row after writes that all agree with `G`, where it already agreed or one of them wrote it. -/
theorem zread (m : Memref sig .tc .vmem S2x4352x128 .f32) (f : BufTy.Contents (Elt F) m.view.ty)
    (G : Fin 2 → Fin 64 → Fin 64 → Fin 128 → Elt F .f32) :
    ∀ L : List (View.Piece (Elt F) S2x4352x128 .f32), (∀ p ∈ L, ZOk G p) → ∀ (q : Fin 2) (ch r : Fin 64) (l : Fin 128),
      (Z10 (m.view.read (Elt F) f) q ch r l = G q ch r l ∨ (q.val, r.val) ∈ L.map fun p => (p.1.off 0, p.1.off 1)) →
        Z10 (m.view.read (Elt F) (m.view.writes (Elt F) f L)) q ch r l = G q ch r l
  | [], _, q, ch, r, l, h => by
    rcases h with h | h
    · exact h
    · exact absurd h List.not_mem_nil
  | p :: L, hL, q, ch, r, l, h => by
    obtain ⟨q', r', pay, rfl, hp⟩ := hL p List.mem_cons_self
    by_cases hy : q = q' ∧ r = r'
    · obtain ⟨rfl, rfl⟩ := hy
      refine (View.read_writes_cons_hit_of_coords m.view f (rectZ q r) pay L (ix3 0 ch l) _ fun a => ?_).trans (hp ch l)
      match a with
      | ⟨0, _⟩ => show q.val = q.val + 1 * 0; omega
      | ⟨1, _⟩ => show 68 * ch.val + r.val = r.val + 68 * ch.val; omega
      | ⟨2, _⟩ => show l.val = 0 + 1 * l.val; omega
    · have hr := r.isLt
      have hr' := r'.isLt
      refine (View.read_writes_cons_miss m.view f _ L _ (not_mem_rect _ _ fun x hx => hy ?_)).trans
        (zread m f G L (fun p hp => hL p (List.mem_cons_of_mem _ hp)) q ch r l ?_)
      · have h0 : q.val = q'.val + 1 * (x 0).val := hx 0
        have h1 : 68 * ch.val + r.val = r'.val + 68 * (x 1).val := hx 1
        have hx0 : (x 0).val < 1 := (x 0).isLt
        exact ⟨Fin.ext (by omega), Fin.ext (by omega)⟩
      · rcases h with h | h
        · exact Or.inl h
        · rcases List.mem_cons.1 h with h | h
          · exfalso
            have h0 : q.val = q'.val := congrArg Prod.fst h
            have h1 : r.val = r'.val := congrArg Prod.snd h
            exact hy ⟨Fin.ext h0, Fin.ext h1⟩
          · exact Or.inr h

/-- Row `2m + t` of a column pair's inverse row transform, `m = 2 mp + m2`. -/
theorem zok_mat (V3 : Vec F S1x14x18x4x128 .f32) (V4 : Vec F S72x512 .bf16) (q : Fin 2) (mp : Fin 14) (m2 t : Fin 2) (pay : Vec F S1x64x128 .f32)
    (hp : ∀ (ch : Fin 64) (l : Fin 128), pay (ix3 0 ch l)
      = zmat V3 V4 mp (ix2 ⟨64 * m2.val + ch.val, by omega⟩ ⟨256 * q.val + 128 * t.val + l.val, by omega⟩)) :
    ZOk (zrow V3 V4) ⟨rectZ q ⟨4 * mp.val + 2 * m2.val + t.val, by omega⟩, pay⟩ := by
  refine ⟨q, _, pay, rfl, fun ch l => (hp ch l).trans ?_⟩
  unfold zrow
  rw [dif_pos (show 4 * mp.val + 2 * m2.val + t.val < 56 by omega)]
  have e0 : (⟨(4 * mp.val + 2 * m2.val + t.val) / 4, by omega⟩ : Fin 14) = mp := Fin.ext (by show (4 * mp.val + 2 * m2.val + t.val) / 4 = mp.val; omega)
  have e1 : (⟨(4 * mp.val + 2 * m2.val + t.val) / 2 % 2 * 64 + ch.val, by omega⟩ : Fin 128) = ⟨64 * m2.val + ch.val, by omega⟩ :=
    Fin.ext (by show (4 * mp.val + 2 * m2.val + t.val) / 2 % 2 * 64 + ch.val = 64 * m2.val + ch.val; omega)
  have e2 : (⟨q.val * 256 + (4 * mp.val + 2 * m2.val + t.val) % 2 * 128 + l.val, by omega⟩ : Fin 512) = ⟨256 * q.val + 128 * t.val + l.val, by omega⟩ :=
    Fin.ext (by show q.val * 256 + (4 * mp.val + 2 * m2.val + t.val) % 2 * 128 + l.val = 256 * q.val + 128 * t.val + l.val; omega)
  rw [e0, e1, e2]

/-- A cleared row. -/
theorem zok_zero (q : Fin 2) (r : Fin 64) (pay : Vec F S1x64x128 .f32)
    (hp : ∀ (ch : Fin 64) (l : Fin 128), pay (ix3 0 ch l) = Scalar.ofBits (F := F) .f32 0x00000000#32) :
    ZOk (fun _ _ _ _ => Scalar.ofBits (F := F) .f32 0x00000000#32) ⟨rectZ q r, pay⟩ := ⟨q, r, pay, rfl, hp⟩

/-- A quarter of the inverse row transform of a column pair is a write of one row of every channel. -/
theorem zok_slice (V3 : Vec F S1x14x18x4x128 .f32) (V4 : Vec F S72x512 .bf16) (q : Fin 2) (mp : Fin 14) (m2 t : Fin 2)
    (h : S128x512.Slices ![64 * m2.val, 256 * q.val + 128 * t.val] S64x128) :
    ZOk (zrow V3 V4) ⟨rectZ q ⟨4 * mp.val + 2 * m2.val + t.val, by omega⟩,
      shapeCast S1x64x128 (extractStridedSlice S64x128 ![64 * m2.val, 256 * q.val + 128 * t.val] (zmat V3 V4 mp) h)
        shapeCasts_S64x128_S1x64x128⟩ :=
  zok_mat V3 V4 q mp m2 t _ fun ch l => by
    pointwise []

/-- A write of zeros. -/
theorem zok_bcast (q : Fin 2) (r : Fin 64) :
    ZOk (fun _ _ _ _ => Scalar.ofBits (F := F) .f32 0x00000000#32) ⟨rectZ q r,
      shapeCast S1x64x128 (broadcast S64x128 (Scalar.ofBits (F := F) .f32 0x00000000#32)) shapeCasts_S64x128_S1x64x128⟩ :=
  zok_zero q r _ fun ch l => by pointwise []

theorem mem_low : ∀ (q : Fin 2) (r : Fin 64), r.val < 56 → (q.val, r.val) ∈ [(1, 55), (1, 54), (0, 55), (0, 54), (1, 53), (1, 52), (0, 53), (0, 52), (1, 51), (1, 50), (0, 51), (0, 50), (1, 49), (1, 48), (0, 49), (0, 48), (1, 47), (1, 46), (0, 47), (0, 46), (1, 45), (1, 44), (0, 45), (0, 44), (1, 43), (1, 42), (0, 43), (0, 42), (1, 41), (1, 40), (0, 41), (0, 40), (1, 39), (1, 38), (0, 39), (0, 38), (1, 37), (1, 36), (0, 37), (0, 36), (1, 35), (1, 34), (0, 35), (0, 34), (1, 33), (1, 32), (0, 33), (0, 32), (1, 31), (1, 30), (0, 31), (0, 30), (1, 29), (1, 28), (0, 29), (0, 28), (1, 27), (1, 26), (0, 27), (0, 26), (1, 25), (1, 24), (0, 25), (0, 24), (1, 23), (1, 22), (0, 23), (0, 22), (1, 21), (1, 20), (0, 21), (0, 20), (1, 19), (1, 18), (0, 19), (0, 18), (1, 17), (1, 16), (0, 17), (0, 16), (1, 15), (1, 14), (0, 15), (0, 14), (1, 13), (1, 12), (0, 13), (0, 12), (1, 11), (1, 10), (0, 11), (0, 10), (1, 9), (1, 8), (0, 9), (0, 8), (1, 7), (1, 6), (0, 7), (0, 6), (1, 5), (1, 4), (0, 5), (0, 4), (1, 3), (1, 2), (0, 3), (0, 2), (1, 1), (1, 0), (0, 1), (0, 0)] := by decide +kernel
theorem mem_high : ∀ (q : Fin 2) (r : Fin 64), 56 ≤ r.val → (q.val, r.val) ∈ [(1, 63), (1, 62), (1, 61), (1, 60), (1, 59), (1, 58), (1, 57), (1, 56), (0, 63), (0, 62), (0, 61), (0, 60), (0, 59), (0, 58), (0, 57), (0, 56)] := by decide +kernel

/-- What the two loops leave, once the first scratch buffer holds the inverse row transform. -/
theorem finish (V1 : Vec F S1x200x64x256 .fp8e4m3) (V2 : Vec F S1x200x256 .f32) (V3 : Vec F S1x14x18x4x128 .f32) (V4 : Vec F S72x512 .bf16)
    (V5 : Vec F S208x208 .bf16) (V6 : Vec F S64x64 .fp8e4m3) (V7 : Vec F S64x128 .f32) (V8 : Vec F S64x16x256 .bf16)
    (V9 : Vec F S1x200x64x256 .bf16) (V10 : Vec F S2x4352x128 .f32) (V11 : Vec F S25856x128 .f32) (n1 n2 : ℕ) (hn1 : 64 ≤ n1) (hn2 : 25 ≤ n2)
    (h1 : inv1 V10 V5 V8 V11 n1) (h2 : inv2 (outv V1 V2 (wmat V6) V7 (S11 V11)) V9 n2)
    (hZ : ∀ q ch r l, Z10 V10 q ch r l = zrow V3 V4 q ch r l) : V9 = outBlock V1 V2 V3 V4 V5 V6 V7 V8 ∧ zeros V10 := by
  have eZ : Z10 V10 = zrow V3 V4 := by funext q ch r l; exact hZ q ch r l
  have eS : S11 V11 = srow (zrow V3 V4) V5 V8 := by
    funext ch w h
    rw [h1 ch (by have := ch.isLt; omega) w h, eZ]
  constructor
  · funext y
    have h0 : (y 0).val < 1 := (y 0).isLt
    have ey : y = ix4 0 (y 1) (y 2) (y 3) := by
      funext a
      apply Fin.ext
      match a with
      | ⟨0, _⟩ => show (y 0).val = 0; omega
      | ⟨1, _⟩ => rfl
      | ⟨2, _⟩ => rfl
      | ⟨3, _⟩ => rfl
    refine (congrArg V9 ey).trans ((h2 (y 1) (y 2) (y 3) ?_).trans ?_)
    · have h1 : (y 1).val < 200 := (y 1).isLt
      omega
    · rw [eS]; rfl
  · intro q ch r l hr
    rw [hZ]
    unfold zrow
    rw [dif_neg (by omega)]

end Cert.Kernel.Hand

end
-- ==== Proof.Kernel.Body.lean ====
/-
  The body of the kernel at one grid point.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Kernel.Rows

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .fp8e4m3) (harg1 : arg1.IsWhole)
  (arg2 : Memref sig .tc .vmem S1x200x256 .f32) (harg2 : arg2.IsWhole)
  (arg3 : Memref sig .tc .vmem S1x14x18x4x128 .f32) (harg3 : arg3.IsWhole)
  (arg4 : Memref sig .tc .vmem S72x512 .bf16) (harg4 : arg4.IsWhole)
  (arg5 : Memref sig .tc .vmem S208x208 .bf16) (harg5 : arg5.IsWhole)
  (arg6 : Memref sig .tc .vmem S64x64 .fp8e4m3) (harg6 : arg6.IsWhole)
  (arg7 : Memref sig .tc .vmem S64x128 .f32) (harg7 : arg7.IsWhole)
  (arg8 : Memref sig .tc .vmem S64x16x256 .bf16) (harg8 : arg8.IsWhole)
  (arg9 : Memref sig .tc .vmem S1x200x64x256 .bf16) (harg9 : arg9.IsWhole)
  (arg10 : Memref sig .tc .vmem S2x4352x128 .f32) (harg10 : arg10.IsWhole)
  (arg11 : Memref sig .tc .vmem S25856x128 .f32) (harg11 : arg11.IsWhole)

set_option maxHeartbeats 4000000 in
theorem sound_kernel (x1 : Vec F S1x200x64x256 .fp8e4m3) (x2 : Vec F S1x200x256 .f32) (x3 : Vec F S1x14x18x4x128 .f32)
    (x4 : Vec F S72x512 .bf16) (x5 : Vec F S208x208 .bf16) (x6 : Vec F S64x64 .fp8e4m3) (x7 : Vec F S64x128 .f32)
    (x8 : Vec F S64x16x256 .bf16) (K : PUnit → sProp 𝕄G) :
    iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare x7 ∗ owns (c : Thread nD τ) arg8 fullShare x8 ∗ (∃ d, owns (c : Thread nD τ) arg9 fullShare d)
      ∗ (∃ d, owns (c : Thread nD τ) arg10 fullShare d ∗ ⌜¬ first i → zeros d⌝) ∗ (∃ d, owns (c : Thread nD τ) arg11 fullShare d)
      ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare (outBlock x1 x2 x3 x4 x5 x6 x7 x8)
        ∗ (∃ d, owns (c : Thread nD τ) arg10 fullShare d ∗ ⌜zeros d⌝) ∗ (∃ d, owns (c : Thread nD τ) arg11 fullShare d)) -∗ K ⟨⟩))
      ⊢ wp frame (wpE (defs₀ (F := F)) Variants.none c none) Set.univ (cc0_synthesize (F := F) i arg1 harg1 arg2 harg2 arg3 harg3 arg4 harg4 arg5 harg5 arg6 harg6 arg7 harg7 arg8 harg8 arg9 harg9 arg10 harg10 arg11 harg11) K := by
  simp only [cc0_synthesize_eq_skeleton]; unfold cc0_synthesize_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, ⟨%f10, %hf10, H10⟩, %hz⟩, ⟨%d11, %f11, -, H11⟩, Hk⟩
  subst hf1 hf2 hf3 hf4 hf5 hf6 hf7 hf8 hf10
  sl_exec
  sl_step
  iapply Hk
  have hfin : _ ∧ _ := finish (arg1.view.read (Elt F) f1) (arg2.view.read (Elt F) f2) (arg3.view.read (Elt F) f3) (arg4.view.read (Elt F) f4)
    (arg5.view.read (Elt F) f5) (arg6.view.read (Elt F) f6) (arg7.view.read (Elt F) f7) (arg8.view.read (Elt F) f8)
    (arg9.view.read (Elt F) fL1) _ (arg11.view.read (Elt F) fL0) _ (Scf.trips k0_t2_loop.lb k0_t2_loop.ub k0_t2_loop.st) (by decide) (by decide) hL4
    (by unfold wmat; rw [← full_read2 arg6 f6 inb_S64x64_S64x64_0_0]; exact hL10) (by
    intro q ch r l
    rw [← full_read2 arg4 f4 inb_S72x512_S72x512_0_0]
    refine zread arg10 _ _ _ ?_ q ch r l ?_
    rotate_left
    · by_cases hr : r.val < 56
      · exact Or.inr (mem_low q r hr)
      · left
        refine Eq.trans ?_ (show Scalar.ofBits (F := F) .f32 0x00000000#32 = _ from by unfold zrow; rw [dif_neg hr])
        split
        · refine zread arg10 _ (fun _ _ _ _ => Scalar.ofBits (F := F) .f32 0x00000000#32) _ ?_ q ch r l (Or.inr (mem_high q r (by omega)))
          refine List.forall_mem_cons.2 ⟨zok_bcast 1 63, ?_⟩
          refine List.forall_mem_cons.2 ⟨zok_bcast 1 62, ?_⟩
          refine List.forall_mem_cons.2 ⟨zok_bcast 1 61, ?_⟩
          refine List.forall_mem_cons.2 ⟨zok_bcast 1 60, ?_⟩
          refine List.forall_mem_cons.2 ⟨zok_bcast 1 59, ?_⟩
          refine List.forall_mem_cons.2 ⟨zok_bcast 1 58, ?_⟩
          refine List.forall_mem_cons.2 ⟨zok_bcast 1 57, ?_⟩
          refine List.forall_mem_cons.2 ⟨zok_bcast 1 56, ?_⟩
          refine List.forall_mem_cons.2 ⟨zok_bcast 0 63, ?_⟩
          refine List.forall_mem_cons.2 ⟨zok_bcast 0 62, ?_⟩
          refine List.forall_mem_cons.2 ⟨zok_bcast 0 61, ?_⟩
          refine List.forall_mem_cons.2 ⟨zok_bcast 0 60, ?_⟩
          refine List.forall_mem_cons.2 ⟨zok_bcast 0 59, ?_⟩
          refine List.forall_mem_cons.2 ⟨zok_bcast 0 58, ?_⟩
          refine List.forall_mem_cons.2 ⟨zok_bcast 0 57, ?_⟩
          refine List.forall_mem_cons.2 ⟨zok_bcast 0 56, ?_⟩
          exact fun p hp => absurd hp List.not_mem_nil
        · exact hz ‹_› q ch r l (by omega)
    refine List.forall_mem_cons.2 ⟨zok_slice _ _ 1 13 1 1 slices_S128x512_o64_384_S64x128, ?_⟩
    refine List.forall_mem_cons.2 ⟨zok_slice _ _ 1 13 1 0 slices_S128x512_o64_256_S64x128, ?_⟩
    refine List.forall_mem_cons.2 ⟨zok_slice _ _ 0 13 1 1 slices_S128x512_o64_128_S64x128, ?_⟩
    refine List.forall_mem_cons.2 ⟨zok_slice _ _ 0 13 1 0 slices_S128x512_o64_0_S64x128, ?_⟩
    refine List.forall_mem_cons.2 ⟨zok_slice _ _ 1 13 0 1 slices_S128x512_o0_384_S64x128, ?_⟩
    refine List.forall_mem_cons.2 ⟨zok_slice _ _ 1 13 0 0 slices_S128x512_o0_256_S64x128, ?_⟩
    refine List.forall_mem_cons.2 ⟨zok_slice _ _ 0 13 0 1 slices_S128x512_o0_128_S64x128, ?_⟩
    refine List.forall_mem_cons.2 ⟨zok_slice _ _ 0 13 0 0 slices_S128x512_o0_0_S64x128, ?_⟩
    refine List.forall_mem_cons.2 ⟨zok_slice _ _ 1 12 1 1 slices_S128x512_o64_384_S64x128, ?_⟩
    refine List.forall_mem_cons.2 ⟨zok_slice _ _ 1 12 1 0 slices_S128x512_o64_256_S64x128, ?_⟩
    refine List.forall_mem_cons.2 ⟨zok_slice _ _ 0 12 1 1 slices_S128x512_o64_128_S64x128, ?_⟩
    refine List.forall_mem_cons.2 ⟨zok_slice _ _ 0 12 1 0 slices_S128x512_o64_0_S64x128, ?_⟩
    refine List.forall_mem_cons.2 ⟨zok_slice _ _ 1 12 0 1 slices_S128x512_o0_384_S64x128, ?_⟩
    refine List.forall_mem_cons.2 ⟨zok_slice _ _ 1 12 0 0 slices_S128x512_o0_256_S64x128, ?_⟩
    refine List.forall_mem_cons.2 ⟨zok_slice _ _ 0 12 0 1 slices_S128x512_o0_128_S64x128, ?_⟩
    refine List.forall_mem_cons.2 ⟨zok_slice _ _ 0 12 0 0 slices_S128x512_o0_0_S64x128, ?_⟩
    refine List.forall_mem_cons.2 ⟨zok_slice _ _ 1 11 1 1 slices_S128x512_o64_384_S64x128, ?_⟩
    refine List.forall_mem_cons.2 ⟨zok_slice _ _ 1 11 1 0 slices_S128x512_o64_256_S64x128, ?_⟩
    refine List.forall_mem_cons.2 ⟨zok_slice _ _ 0 11 1 1 slices_S128x512_o64_128_S64x128, ?_⟩
    refine List.forall_mem_cons.2 ⟨zok_slice _ _ 0 11 1 0 slices_S128x512_o64_0_S64x128, ?_⟩
    refine List.forall_mem_cons.2 ⟨zok_slice _ _ 1 11 0 1 slices_S128x512_o0_384_S64x128, ?_⟩
    refine List.forall_mem_cons.2 ⟨zok_slice _ _ 1 11 0 0 slices_S128x512_o0_256_S64x128, ?_⟩
    refine List.forall_mem_cons.2 ⟨zok_slice _ _ 0 11 0 1 slices_S128x512_o0_128_S64x128, ?_⟩
    refine List.forall_mem_cons.2 ⟨zok_slice _ _ 0 11 0 0 slices_S128x512_o0_0_S64x128, ?_⟩
    refine List.forall_mem_cons.2 ⟨zok_slice _ _ 1 10 1 1 slices_S128x512_o64_384_S64x128, ?_⟩
    refine List.forall_mem_cons.2 ⟨zok_slice _ _ 1 10 1 0 slices_S128x512_o64_256_S64x128, ?_⟩
    refine List.forall_mem_cons.2 ⟨zok_slice _ _ 0 10 1 1 slices_S128x512_o64_128_S64x128, ?_⟩
    refine List.forall_mem_cons.2 ⟨zok_slice _ _ 0 10 1 0 slices_S128x512_o64_0_S64x128, ?_⟩
    refine List.forall_mem_cons.2 ⟨zok_slice _ _ 1 10 0 1 slices_S128x512_o0_384_S64x128, ?_⟩
    refine List.forall_mem_cons.2 ⟨zok_slice _ _ 1 10 0 0 slices_S128x512_o0_256_S64x128, ?_⟩
    refine List.forall_mem_cons.2 ⟨zok_slice _ _ 0 10 0 1 slices_S128x512_o0_128_S64x128, ?_⟩
    refine List.forall_mem_cons.2 ⟨zok_slice _ _ 0 10 0 0 slices_S128x512_o0_0_S64x128, ?_⟩
    refine List.forall_mem_cons.2 ⟨zok_slice _ _ 1 9 1 1 slices_S128x512_o64_384_S64x128, ?_⟩
    refine List.forall_mem_cons.2 ⟨zok_slice _ _ 1 9 1 0 slices_S128x512_o64_256_S64x128, ?_⟩
    refine List.forall_mem_cons.2 ⟨zok_slice _ _ 0 9 1 1 slices_S128x512_o64_128_S64x128, ?_⟩
    refine List.forall_mem_cons.2 ⟨zok_slice _ _ 0 9 1 0 slices_S128x512_o64_0_S64x128, ?_⟩
    refine List.forall_mem_cons.2 ⟨zok_slice _ _ 1 9 0 1 slices_S128x512_o0_384_S64x128, ?_⟩
    refine List.forall_mem_cons.2 ⟨zok_slice _ _ 1 9 0 0 slices_S128x512_o0_256_S64x128, ?_⟩
    refine List.forall_mem_cons.2 ⟨zok_slice _ _ 0 9 0 1 slices_S128x512_o0_128_S64x128, ?_⟩
    refine List.forall_mem_cons.2 ⟨zok_slice _ _ 0 9 0 0 slices_S128x512_o0_0_S64x128, ?_⟩
    refine List.forall_mem_cons.2 ⟨zok_slice _ _ 1 8 1 1 slices_S128x512_o64_384_S64x128, ?_⟩
    refine List.forall_mem_cons.2 ⟨zok_slice _ _ 1 8 1 0 slices_S128x512_o64_256_S64x128, ?_⟩
    refine List.forall_mem_cons.2 ⟨zok_slice _ _ 0 8 1 1 slices_S128x512_o64_128_S64x128, ?_⟩
    refine List.forall_mem_cons.2 ⟨zok_slice _ _ 0 8 1 0 slices_S128x512_o64_0_S64x128, ?_⟩
    refine List.forall_mem_cons.2 ⟨zok_slice _ _ 1 8 0 1 slices_S128x512_o0_384_S64x128, ?_⟩
    refine List.forall_mem_cons.2 ⟨zok_slice _ _ 1 8 0 0 slices_S128x512_o0_256_S64x128, ?_⟩
    refine List.forall_mem_cons.2 ⟨zok_slice _ _ 0 8 0 1 slices_S128x512_o0_128_S64x128, ?_⟩
    refine List.forall_mem_cons.2 ⟨zok_slice _ _ 0 8 0 0 slices_S128x512_o0_0_S64x128, ?_⟩
    refine List.forall_mem_cons.2 ⟨zok_slice _ _ 1 7 1 1 slices_S128x512_o64_384_S64x128, ?_⟩
    refine List.forall_mem_cons.2 ⟨zok_slice _ _ 1 7 1 0 slices_S128x512_o64_256_S64x128, ?_⟩
    refine List.forall_mem_cons.2 ⟨zok_slice _ _ 0 7 1 1 slices_S128x512_o64_128_S64x128, ?_⟩
    refine List.forall_mem_cons.2 ⟨zok_slice _ _ 0 7 1 0 slices_S128x512_o64_0_S64x128, ?_⟩
    refine List.forall_mem_cons.2 ⟨zok_slice _ _ 1 7 0 1 slices_S128x512_o0_384_S64x128, ?_⟩
    refine List.forall_mem_cons.2 ⟨zok_slice _ _ 1 7 0 0 slices_S128x512_o0_256_S64x128, ?_⟩
    refine List.forall_mem_cons.2 ⟨zok_slice _ _ 0 7 0 1 slices_S128x512_o0_128_S64x128, ?_⟩
    refine List.forall_mem_cons.2 ⟨zok_slice _ _ 0 7 0 0 slices_S128x512_o0_0_S64x128, ?_⟩
    refine List.forall_mem_cons.2 ⟨zok_slice _ _ 1 6 1 1 slices_S128x512_o64_384_S64x128, ?_⟩
    refine List.forall_mem_cons.2 ⟨zok_slice _ _ 1 6 1 0 slices_S128x512_o64_256_S64x128, ?_⟩
    refine List.forall_mem_cons.2 ⟨zok_slice _ _ 0 6 1 1 slices_S128x512_o64_128_S64x128, ?_⟩
    refine List.forall_mem_cons.2 ⟨zok_slice _ _ 0 6 1 0 slices_S128x512_o64_0_S64x128, ?_⟩
    refine List.forall_mem_cons.2 ⟨zok_slice _ _ 1 6 0 1 slices_S128x512_o0_384_S64x128, ?_⟩
    refine List.forall_mem_cons.2 ⟨zok_slice _ _ 1 6 0 0 slices_S128x512_o0_256_S64x128, ?_⟩
    refine List.forall_mem_cons.2 ⟨zok_slice _ _ 0 6 0 1 slices_S128x512_o0_128_S64x128, ?_⟩
    refine List.forall_mem_cons.2 ⟨zok_slice _ _ 0 6 0 0 slices_S128x512_o0_0_S64x128, ?_⟩
    refine List.forall_mem_cons.2 ⟨zok_slice _ _ 1 5 1 1 slices_S128x512_o64_384_S64x128, ?_⟩
    refine List.forall_mem_cons.2 ⟨zok_slice _ _ 1 5 1 0 slices_S128x512_o64_256_S64x128, ?_⟩
    refine List.forall_mem_cons.2 ⟨zok_slice _ _ 0 5 1 1 slices_S128x512_o64_128_S64x128, ?_⟩
    refine List.forall_mem_cons.2 ⟨zok_slice _ _ 0 5 1 0 slices_S128x512_o64_0_S64x128, ?_⟩
    refine List.forall_mem_cons.2 ⟨zok_slice _ _ 1 5 0 1 slices_S128x512_o0_384_S64x128, ?_⟩
    refine List.forall_mem_cons.2 ⟨zok_slice _ _ 1 5 0 0 slices_S128x512_o0_256_S64x128, ?_⟩
    refine List.forall_mem_cons.2 ⟨zok_slice _ _ 0 5 0 1 slices_S128x512_o0_128_S64x128, ?_⟩
    refine List.forall_mem_cons.2 ⟨zok_slice _ _ 0 5 0 0 slices_S128x512_o0_0_S64x128, ?_⟩
    refine List.forall_mem_cons.2 ⟨zok_slice _ _ 1 4 1 1 slices_S128x512_o64_384_S64x128, ?_⟩
    refine List.forall_mem_cons.2 ⟨zok_slice _ _ 1 4 1 0 slices_S128x512_o64_256_S64x128, ?_⟩
    refine List.forall_mem_cons.2 ⟨zok_slice _ _ 0 4 1 1 slices_S128x512_o64_128_S64x128, ?_⟩
    refine List.forall_mem_cons.2 ⟨zok_slice _ _ 0 4 1 0 slices_S128x512_o64_0_S64x128, ?_⟩
    refine List.forall_mem_cons.2 ⟨zok_slice _ _ 1 4 0 1 slices_S128x512_o0_384_S64x128, ?_⟩
    refine List.forall_mem_cons.2 ⟨zok_slice _ _ 1 4 0 0 slices_S128x512_o0_256_S64x128, ?_⟩
    refine List.forall_mem_cons.2 ⟨zok_slice _ _ 0 4 0 1 slices_S128x512_o0_128_S64x128, ?_⟩
    refine List.forall_mem_cons.2 ⟨zok_slice _ _ 0 4 0 0 slices_S128x512_o0_0_S64x128, ?_⟩
    refine List.forall_mem_cons.2 ⟨zok_slice _ _ 1 3 1 1 slices_S128x512_o64_384_S64x128, ?_⟩
    refine List.forall_mem_cons.2 ⟨zok_slice _ _ 1 3 1 0 slices_S128x512_o64_256_S64x128, ?_⟩
    refine List.forall_mem_cons.2 ⟨zok_slice _ _ 0 3 1 1 slices_S128x512_o64_128_S64x128, ?_⟩
    refine List.forall_mem_cons.2 ⟨zok_slice _ _ 0 3 1 0 slices_S128x512_o64_0_S64x128, ?_⟩
    refine List.forall_mem_cons.2 ⟨zok_slice _ _ 1 3 0 1 slices_S128x512_o0_384_S64x128, ?_⟩
    refine List.forall_mem_cons.2 ⟨zok_slice _ _ 1 3 0 0 slices_S128x512_o0_256_S64x128, ?_⟩
    refine List.forall_mem_cons.2 ⟨zok_slice _ _ 0 3 0 1 slices_S128x512_o0_128_S64x128, ?_⟩
    refine List.forall_mem_cons.2 ⟨zok_slice _ _ 0 3 0 0 slices_S128x512_o0_0_S64x128, ?_⟩
    refine List.forall_mem_cons.2 ⟨zok_slice _ _ 1 2 1 1 slices_S128x512_o64_384_S64x128, ?_⟩
    refine List.forall_mem_cons.2 ⟨zok_slice _ _ 1 2 1 0 slices_S128x512_o64_256_S64x128, ?_⟩
    refine List.forall_mem_cons.2 ⟨zok_slice _ _ 0 2 1 1 slices_S128x512_o64_128_S64x128, ?_⟩
    refine List.forall_mem_cons.2 ⟨zok_slice _ _ 0 2 1 0 slices_S128x512_o64_0_S64x128, ?_⟩
    refine List.forall_mem_cons.2 ⟨zok_slice _ _ 1 2 0 1 slices_S128x512_o0_384_S64x128, ?_⟩
    refine List.forall_mem_cons.2 ⟨zok_slice _ _ 1 2 0 0 slices_S128x512_o0_256_S64x128, ?_⟩
    refine List.forall_mem_cons.2 ⟨zok_slice _ _ 0 2 0 1 slices_S128x512_o0_128_S64x128, ?_⟩
    refine List.forall_mem_cons.2 ⟨zok_slice _ _ 0 2 0 0 slices_S128x512_o0_0_S64x128, ?_⟩
    refine List.forall_mem_cons.2 ⟨zok_slice _ _ 1 1 1 1 slices_S128x512_o64_384_S64x128, ?_⟩
    refine List.forall_mem_cons.2 ⟨zok_slice _ _ 1 1 1 0 slices_S128x512_o64_256_S64x128, ?_⟩
    refine List.forall_mem_cons.2 ⟨zok_slice _ _ 0 1 1 1 slices_S128x512_o64_128_S64x128, ?_⟩
    refine List.forall_mem_cons.2 ⟨zok_slice _ _ 0 1 1 0 slices_S128x512_o64_0_S64x128, ?_⟩
    refine List.forall_mem_cons.2 ⟨zok_slice _ _ 1 1 0 1 slices_S128x512_o0_384_S64x128, ?_⟩
    refine List.forall_mem_cons.2 ⟨zok_slice _ _ 1 1 0 0 slices_S128x512_o0_256_S64x128, ?_⟩
    refine List.forall_mem_cons.2 ⟨zok_slice _ _ 0 1 0 1 slices_S128x512_o0_128_S64x128, ?_⟩
    refine List.forall_mem_cons.2 ⟨zok_slice _ _ 0 1 0 0 slices_S128x512_o0_0_S64x128, ?_⟩
    refine List.forall_mem_cons.2 ⟨zok_slice _ _ 1 0 1 1 slices_S128x512_o64_384_S64x128, ?_⟩
    refine List.forall_mem_cons.2 ⟨zok_slice _ _ 1 0 1 0 slices_S128x512_o64_256_S64x128, ?_⟩
    refine List.forall_mem_cons.2 ⟨zok_slice _ _ 0 0 1 1 slices_S128x512_o64_128_S64x128, ?_⟩
    refine List.forall_mem_cons.2 ⟨zok_slice _ _ 0 0 1 0 slices_S128x512_o64_0_S64x128, ?_⟩
    refine List.forall_mem_cons.2 ⟨zok_slice _ _ 1 0 0 1 slices_S128x512_o0_384_S64x128, ?_⟩
    refine List.forall_mem_cons.2 ⟨zok_slice _ _ 1 0 0 0 slices_S128x512_o0_256_S64x128, ?_⟩
    refine List.forall_mem_cons.2 ⟨zok_slice _ _ 0 0 0 1 slices_S128x512_o0_128_S64x128, ?_⟩
    refine List.forall_mem_cons.2 ⟨zok_slice _ _ 0 0 0 0 slices_S128x512_o0_0_S64x128, ?_⟩
    exact fun p hp => absurd hp List.not_mem_nil)
  obtain ⟨ho, hze⟩ := hfin
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists fL1; isplitr; · ipureintro; exact ho
                  iexact H9
  isplitl [H10]
  · iexists _
    isplitl [H10]
    · iexists _; isplitr
      on_goal 2 => iexact H10
      ipureintro; rfl
    · ipureintro; exact hze
  iexists _; iexists fL0
  isplitr; · ipureintro; rfl
  iexact H11

end Cert.Kernel.Hand

end
-- ==== Proof.Kernel.Run.lean ====
/-
  The run of the kernel: what every grid point leaves, and that the arguments end unchanged.
-/
module

public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Kernel.Body
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- At grid point zero the body clears the padding rows. -/
theorem first_zero : ∀ t : Fin cfg0.N, t.val = 0 → first (grid0.coords t) := by
  decide +kernel

/-- What passes from one grid point to the next: the first scratch buffer, with cleared padding rows from the first
    point on, the second scratch buffer at anything, and the generator register. -/
def track (c : Dev nD) (n : ℕ) : sProp 𝕄G :=
  iprop(((∃ d, owns (c : Thread nD τ) (Memref.whole cc0_scratch0) fullShare d ∗ ⌜n ≠ 0 → zeros d⌝)
    ∗ ∃ d, owns (c : Thread nD τ) (Memref.whole cc0_scratch1) fullShare d) ∗ ∃ r, prngReg c r)

/-- The proof data of the pipeline: after the body every input window's buffer holds its block, the output window's the
    block the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ t := track c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = outBlock (iblk m c 0 t) (iblk m c 1 t) (iblk m c 2 t) (iblk m c 3 t) (iblk m c 4 t) (iblk m c 5 t) (iblk m c 6 t) (iblk m c 7 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = track c t.val from rfl, show (dats m 0 c).Φ t.succ = track c (t.val + 1) from rfl,
    show (dats m 0 c).owesAt () t.succ = (dats m 0 c).owesAt () t.castSucc from rfl,
    after0_0, after0_1, after0_2, after0_3, after0_4, after0_5, after0_6, after0_7, after0_8]
  unfold track
  iintro ⟨⟨⟨⟨%s, Hs, %hs⟩, H11⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c (grid0.coords t) _ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Hs]
  · iexists s; isplitl [Hs]; · iexact Hs
    ipureintro; exact fun h => hs fun h0 => h (first_zero t h0)
  isplitl [H11]; · iexact H11
  iintro ⟨H0, H1, H2, H3, H4, H5, H6, H7, H8, ⟨%s', Hs, %hs'⟩, H11⟩
  isplitl [Hs H11 Hp]
  · isplitl [Hs H11]
    · isplitl [Hs]
      · iexists s'; isplitl [Hs]; · iexact Hs
        ipureintro; exact fun _ => hs'
      iexact H11
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The two scratch buffers and the register at anything are the invariant before the first point, -/
theorem track_in (c : Dev nD) : Pipeline.ΦA (U := UR sig nD τ) (Val := Elt F) spec0 c ⊢ track c 0 := by
  unfold Pipeline.ΦA track
  rw [scopedRest0_eq]
  simp only [owns_whole]
  iintro ⟨⟨⟨%f, Hf⟩, ⟨%g, Hg⟩⟩, Hp⟩
  isplitl [Hf Hg]
  · isplitl [Hf]
    · iexists f
      isplitl [Hf]
      · iexact Hf
      ipureintro; exact fun h => absurd rfl h
    iexists g
    iexact Hg
  iexact Hp

/-- and the invariant after the last point gives them back. -/
theorem track_out (c : Dev nD) (n : ℕ) : track (F := F) c n ⊢ Pipeline.ΦA (U := UR sig nD τ) spec0 c := by
  unfold Pipeline.ΦA track
  rw [scopedRest0_eq]
  simp only [owns_whole]
  iintro ⟨⟨⟨%f, Hf, -⟩, ⟨%g, Hg⟩⟩, Hp⟩
  isplitl [Hf Hg]
  · isplitl [Hf]
    · iexists f
      iexact Hf
    iexists g
    iexact Hg
  iexact Hp

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => track_in c) (hout := fun c => track_out c _)

theorem run_main : θ_run defs (onTc (τ := τ) (main (F := F))) (s₀ m ρ) (Pipeline.FramePost cfgs (dats m) 0 (V m)) :=
  (θ_run defs _ _).mono (fun _ h => h.1) (run_main_quiescent m ρ)

/-- The program runs to the end, leaves its arguments as they were and every semaphore at zero. -/
theorem frame_hand : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.Kernel.Hand

end
-- ==== Proof.KernelIdeal.Values.lean ====
/-
  What the body of the kernel computes, as plain functions of what its operands hold.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.PointwiseCore
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-! What the kernel leaves in its scratch buffers and in its result, as functions of what its operands read. -/

/-- The rectangle of the column pair `mp` in the spectrum block. -/
def rectY (mp : Fin 14) : Rect S1x14x18x4x128 :=
  Rect.unit ![0, mp.val, 0, 0, 0] S1x1x18x4x128.size (by
    intro a; have := mp.isLt
    match a with
    | ⟨0, _⟩ => exact Nat.le_refl 1
    | ⟨1, _⟩ => show mp.val + 1 ≤ 14; omega
    | ⟨2, _⟩ => exact Nat.le_refl 18
    | ⟨3, _⟩ => exact Nat.le_refl 4
    | ⟨4, _⟩ => exact Nat.le_refl 128)

/-- The inverse row transform of one column pair: rows are (column of the pair, channel), columns are
    (real or imaginary, spatial row). -/
def zmat (V3 : Vec F S1x14x18x4x128 .f32) (V4 : Vec F S72x512 .bf16) (mp : Fin 14) : FVec F S128x512 .f32 :=
  k0_pay53 (View.ld (Val := Elt F) (e' := .f32) V3 (rectY mp)) V4

/-- The first scratch buffer, by part `q`, channel, row within the channel and lane: rows below 56 hold the
    inverse row transform, the last eight zeros. -/
def zrow (V3 : Vec F S1x14x18x4x128 .f32) (V4 : Vec F S72x512 .bf16) (q : Fin 2) (ch r : Fin 64) (l : Fin 128) :
    Elt F .f32 :=
  if h : r.val < 56 then
    zmat V3 V4 ⟨r.val / 4, by omega⟩
      (ix2 ⟨r.val / 2 % 2 * 64 + ch.val, by omega⟩ ⟨q.val * 256 + r.val % 2 * 128 + l.val, by omega⟩)
  else Scalar.ofBits (F := F) .f32 0x00000000#32

/-- What a strided load of one channel's rows of the first scratch buffer reads: every second row from `t`. -/
def zwin (Z : Fin 2 → Fin 64 → Fin 64 → Fin 128 → Elt F .f32) (k : Fin 64) (q t : Fin 2) : Vec F S32x128 .f32 :=
  fun y => Z q k ⟨t.val + 2 * (y 0).val, by have h : (y 0).val < 32 := (y 0).isLt; omega⟩ (y 1)

/-- One channel's rows of the bias table. -/
def biasRow (V8 : Vec F S64x16x256 .bf16) (k : Fin 64) : Vec F S1x16x256 .bf16 := fun y => V8 (ix3 k (y 1) (y 2))

/-- The inverse column transform of one channel: rows are spatial columns, columns are spatial rows. -/
def smat (Z : Fin 2 → Fin 64 → Fin 64 → Fin 128 → Elt F .f32) (V5 : Vec F S208x208 .bf16) (V8 : Vec F S64x16x256 .bf16)
    (k : Fin 64) : FVec F S208x256 .f32 :=
  k0_pay197 (k0_pay18 (zwin Z k 0 0) (zwin Z k 1 0) (zwin Z k 0 1) (zwin Z k 1 1) (biasRow V8 k)) V5

/-- The second scratch buffer, by channel, spatial column and spatial row. -/
def srow (Z : Fin 2 → Fin 64 → Fin 64 → Fin 128 → Elt F .f32) (V5 : Vec F S208x208 .bf16) (V8 : Vec F S64x16x256 .bf16)
    (ch : Fin 64) (w : Fin 200) (h : Fin 256) : Elt F .f32 :=
  smat Z V5 V8 ch (ix2 ⟨w.val, by omega⟩ h)

/-- The first scratch buffer's contents read by part, channel, row and lane. -/
def Z10 (V : Vec F S2x4352x128 .f32) (q : Fin 2) (ch r : Fin 64) (l : Fin 128) : Elt F .f32 :=
  V (ix3 q ⟨68 * ch.val + r.val, by omega⟩ l)

/-- The second scratch buffer's contents read by channel, spatial column and spatial row. -/
def S11 (V : Vec F S25856x128 .f32) (ch : Fin 64) (w : Fin 200) (h : Fin 256) : Elt F .f32 :=
  V (ix2 ⟨404 * ch.val + 2 * w.val + h.val / 128, by omega⟩ ⟨h.val % 128, by omega⟩)

/-- The block-diagonal skip matrix. -/
def wmat (V6 : Vec F S64x64 .fp8e4m3) : FVec F S256x256 .fp8e4m3 := k0_pay1 (k0_pay200 V6) k0_pay201 (k0_pay202 V6)

/-- Four spatial columns of the codes. -/
def codes4 (V1 : Vec F S1x200x64x256 .fp8e4m3) (g : Fin 50) : Vec F S1x4x64x256 .fp8e4m3 :=
  fun y => V1 (ix4 0 ⟨4 * g.val + (y 1).val, by have h : (y 1).val < 4 := (y 1).isLt; omega⟩ (y 2) (y 3))

/-- Eight rows of the scales. -/
def scv (V2 : Vec F S1x200x256 .f32) (k : Fin 25) : Vec F S1x8x256 .f32 :=
  fun y => V2 (ix3 0 ⟨8 * k.val + (y 1).val, by have h : (y 1).val < 8 := (y 1).isLt; omega⟩ (y 2))

/-- Half of one spatial column of the second scratch buffer. -/
def scol (S : Fin 64 → Fin 200 → Fin 256 → Elt F .f32) (w : Fin 200) (t : Fin 2) : Vec F S64x128 .f32 :=
  fun y => S (y 0) w ⟨128 * t.val + (y 1).val, by have h : (y 1).val < 128 := (y 1).isLt; omega⟩

/-- Half of what the activation is applied to. -/
def halfv (V1 : Vec F S1x200x64x256 .fp8e4m3) (V2 : Vec F S1x200x256 .f32) (W : FVec F S256x256 .fp8e4m3)
    (V7 : Vec F S64x128 .f32) (S : Fin 64 → Fin 200 → Fin 256 → Elt F .f32) (w : Fin 200) (ch : Fin 64) (h : Fin 256) :
    F .f32 :=
  FloatOps.addf (S ch w h)
    (FloatOps.mulf (k0_pay20 W (codes4 V1 ⟨w.val / 4, by omega⟩) (ix2 ⟨w.val % 4 * 64 + ch.val, by omega⟩ h))
      (FloatOps.mulf (V2 (ix3 0 w h)) (V7 (ix2 ch ⟨h.val % 128, by omega⟩))))

/-- One element of the result. -/
def outv (V1 : Vec F S1x200x64x256 .fp8e4m3) (V2 : Vec F S1x200x256 .f32) (W : FVec F S256x256 .fp8e4m3)
    (V7 : Vec F S64x128 .f32) (S : Fin 64 → Fin 200 → Fin 256 → Elt F .f32) (w : Fin 200) (ch : Fin 64) (h : Fin 256) :
    F .bf16 :=
  FloatOps.truncf .bf16 bitsLt_bf16_f32
    (FloatOps.mulf (halfv V1 V2 W V7 S w ch h)
      (FloatOps.addf
        (FloatOps.erf (FloatOps.mulf (halfv V1 V2 W V7 S w ch h) (FloatOps.ofBits .f32 0x3FB504F3#32)))
        (FloatOps.ofBits .f32 0x3F800000#32)))

/-- The block of the result at one batch element. -/
def outBlock (V1 : Vec F S1x200x64x256 .fp8e4m3) (V2 : Vec F S1x200x256 .f32) (V3 : Vec F S1x14x18x4x128 .f32)
    (V4 : Vec F S72x512 .bf16) (V5 : Vec F S208x208 .bf16) (V6 : Vec F S64x64 .fp8e4m3) (V7 : Vec F S64x128 .f32)
    (V8 : Vec F S64x16x256 .bf16) : Vec F S1x200x64x256 .bf16 :=
  fun y => outv V1 V2 (wmat V6) V7 (srow (zrow V3 V4) V5 V8) (y 1) (y 2) (y 3)

omit [FloatOps F] in
/-- A place whose coordinates no index of the rectangle reaches lies outside it. -/
theorem not_mem_rect {s : Shape} (r : Rect s) (y : s.Idx)
    (h : ∀ x : r.shape.Idx, (∀ a, (y a).val = r.off a + r.stride a * (x a).val) → False) : y ∉ r.set := by
  intro hy
  obtain ⟨x, rfl⟩ := r.exists_idx_of_mem hy
  exact h x fun a => Rect.emb_apply ..

omit [FloatOps F] in
/-- Reading after a list of writes that all agree with `G`, at a place that already agreed or that one of them covers. -/
theorem read_writes_of {κ : Kind} {sp : Space} {s : Shape} {e : EltTy} (v : View sig κ sp s e) (f : v.ty.Contents (Elt F)) (G : s.Idx → Elt F e) :
    ∀ L : List (View.Piece (Elt F) s e), (∀ p ∈ L, ∀ x, p.2 x = G (p.1.emb x)) →
      ∀ y, (v.read (Elt F) f y = G y ∨ ∃ p ∈ L, y ∈ p.1.set) → v.read (Elt F) (v.writes (Elt F) f L) y = G y
  | [], _, y, h => by
    rcases h with h | ⟨p, hp, -⟩
    · exact h
    · exact absurd hp List.not_mem_nil
  | p :: L, hL, y, h => by
    by_cases hy : y ∈ p.1.set
    · obtain ⟨x, rfl⟩ := p.1.exists_idx_of_mem hy
      exact (View.read_writes_cons_emb v f p.1 p.2 L x).trans (hL p List.mem_cons_self x)
    · rw [View.read_writes_cons_miss _ _ _ _ _ hy]
      refine read_writes_of v f G L (fun q hq => hL q (List.mem_cons_of_mem _ hq)) y ?_
      rcases h with h | ⟨q, hq, hyq⟩
      · exact Or.inl h
      · rcases List.mem_cons.1 hq with rfl | hq
        · exact absurd hyq hy
        · exact Or.inr ⟨q, hq, hyq⟩

omit [FloatOps F] in
theorem full_read2 {A B : ℕ} {η : EltTy} (m : Memref sig .tc .vmem ⟨2, ![A, B]⟩ η) (X : BufTy.Contents (Elt F) m.view.ty) (inb : _) :
    View.readAt (Elt F) m.view (Rect.unit (s := ⟨2, ![A, B]⟩) ![0, 0] ![A, B] inb).toLoadRect X = m.view.read (Elt F) X := by
  funext y
  show m.view.read (Elt F) X _ = m.view.read (Elt F) X _
  congr 1
  funext a
  apply Fin.ext
  match a with
  | ⟨0, _⟩ => show 0 + 1 * (y 0).val = (y 0).val; omega
  | ⟨1, _⟩ => show 0 + 1 * (y 1).val = (y 1).val; omega

end Cert.KernelIdeal.Hand

end
-- ==== Proof.KernelIdeal.Loop1.lean ====
/-
  The loop over channels: one trip transforms one channel along the columns.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .fp8e4m3) (harg1 : arg1.IsWhole)
  (arg2 : Memref sig .tc .vmem S1x200x256 .f32) (harg2 : arg2.IsWhole)
  (arg3 : Memref sig .tc .vmem S1x14x18x4x128 .f32) (harg3 : arg3.IsWhole)
  (arg4 : Memref sig .tc .vmem S72x512 .bf16) (harg4 : arg4.IsWhole)
  (arg5 : Memref sig .tc .vmem S208x208 .bf16) (harg5 : arg5.IsWhole)
  (arg6 : Memref sig .tc .vmem S64x64 .fp8e4m3) (harg6 : arg6.IsWhole)
  (arg7 : Memref sig .tc .vmem S64x128 .f32) (harg7 : arg7.IsWhole)
  (arg8 : Memref sig .tc .vmem S64x16x256 .bf16) (harg8 : arg8.IsWhole)
  (arg9 : Memref sig .tc .vmem S1x200x64x256 .bf16) (harg9 : arg9.IsWhole)
  (arg10 : Memref sig .tc .vmem S2x4352x128 .f32) (harg10 : arg10.IsWhole)
  (arg11 : Memref sig .tc .vmem S25856x128 .f32) (harg11 : arg11.IsWhole)

omit [FloatOps F] in
/-- Dropping the leading unit axis keeps the other coordinates. -/
theorem unsq (h : S4352x128.numel = S1x4352x128.numel) (a : Fin 4352) (b : Fin 128) :
    Shape.reshapeEquiv h (ix2 a b : S4352x128.Idx) = (ix3 0 a b : S1x4352x128.Idx) :=
  Shape.reshapeEquiv_eq_of_rowMajor h (by
    rw [Shape.rowMajor_val_three, Shape.rowMajor_val_two]
    show (0 * 4352 + a.val) * 128 + b.val = a.val * 128 + b.val
    omega)

/-- A load of one channel's rows through the view of one part of the first scratch buffer, read off the buffer. -/
theorem zwin_read (arg10 : Memref sig .tc .vmem S2x4352x128 .f32) (X10 : BufTy.Contents (Elt F) arg10.view.ty)
    (off : Fin 2 → ℕ) (ch : Fin 64) (q t : Fin 2) (hoff : off = ![68 * ch.val + t.val, 0])
    (inbq : ∀ a, (![q.val, 0, 0] : Fin 3 → ℕ) a + S1x4352x128.size a ≤ S2x4352x128.size a)
    (hc : ∀ a, (Rect.unit (s := S2x4352x128) ![q.val, 0, 0] S1x4352x128.size inbq).stride a = 1)
    (inb : ∀ a, S32x128.size a = 0 ∨ off a + (![2, 1] : Fin 2 → ℕ) a * (S32x128.size a - 1) < S4352x128.size a) :
    View.readAt (Elt F) (((arg10.slice (Rect.unit (s := S2x4352x128) ![q.val, 0, 0] S1x4352x128.size inbq) hc).squeeze
        S4352x128 squeezes_S1x4352x128_S4352x128).view) (⟨off, S32x128.size, ![2, 1], inb⟩ : LoadRect S4352x128) X10
      = zwin (Z10 (arg10.view.read (Elt F) X10)) ch q t := by
  subst hoff
  funext y
  idx_vars y
  show arg10.view.read (Elt F) X10 _ = arg10.view.read (Elt F) X10 _
  congr 1
  pointwise
  rw [Equiv.coe_toEmbedding, unsq]
  funext a
  apply Fin.ext
  match a with
  | ⟨0, _⟩ => show q.val + 1 * 0 = q.val; omega
  | ⟨1, _⟩ => show 0 + 1 * (68 * ch.val + t.val + 2 * y0.val) = 68 * ch.val + (t.val + 2 * y0.val); omega
  | ⟨2, _⟩ => show 0 + 1 * y1.val = y1.val; omega

/-- What the column loop reads and writes, before trip `k`: the tables and the first scratch buffer as they are, the
    second scratch buffer holding the inverse column transform of the channels before `k`. -/
abbrev inv1 (V10 : Vec F S2x4352x128 .f32) (V5 : Vec F S208x208 .bf16) (V8 : Vec F S64x16x256 .bf16) (V11 : Vec F S25856x128 .f32) (k : ℕ) : Prop :=
  ∀ ch : Fin 64, ch.val < k → ∀ w h, S11 V11 ch w h = srow (Z10 V10) V5 V8 ch w h

theorem bias_read (arg8 : Memref sig .tc .vmem S64x16x256 .bf16) (X8 : BufTy.Contents (Elt F) arg8.view.ty) (off : Fin 3 → ℕ)
    (ch : Fin 64) (hoff : off = ![ch.val, 0, 0]) (inb : _) :
    View.readAt (Elt F) arg8.view (Rect.unit off S1x16x256.size inb : Rect S64x16x256).toLoadRect X8 = biasRow (arg8.view.read (Elt F) X8) ch := by
  subst hoff
  funext y
  show arg8.view.read (Elt F) X8 _ = arg8.view.read (Elt F) X8 _
  congr 1
  funext a
  apply Fin.ext
  match a with
  | ⟨0, _⟩ => show ch.val + 1 * (y 0).val = ch.val; have h0 : (y 0).val < 1 := (y 0).isLt; omega
  | ⟨1, _⟩ => show 0 + 1 * (y 1).val = (y 1).val; omega
  | ⟨2, _⟩ => show 0 + 1 * (y 2).val = (y 2).val; omega

/-- One trip's two strided stores extend the property by one channel. -/
theorem step1 (V10 : Vec F S2x4352x128 .f32) (V5 : Vec F S208x208 .bf16) (V8 : Vec F S64x16x256 .bf16)
    (arg11 : Memref sig .tc .vmem S25856x128 .f32) (f : BufTy.Contents (Elt F) arg11.view.ty) (k : Fin k0_t1_loop.trips)
    (hk : k.val < 64) (hf : inv1 V10 V5 V8 (arg11.view.read (Elt F) f) k.val) (R : FVec F S208x256 .bf16) (M : Vec F S208x208 .bf16)
    (off1 off0 : Fin S25856x128.rank → ℕ) (e1 : off1 = ![404 * k.val + 1, 0]) (e0 : off0 = ![404 * k.val + 0, 0])
    (inb1 inb0 : _) (hR : k0_pay197 R M = smat (Z10 V10) V5 V8 ⟨k.val, hk⟩) :
    inv1 V10 V5 V8 (arg11.view.read (Elt F) (arg11.view.writes (Elt F) f
      [⟨({ off := off1, size := S200x128.size, stride := ![2, 1], inb := inb1, stride_pos := spos_2_1 } : Rect S25856x128), k0_pay199 R M⟩,
       ⟨({ off := off0, size := S200x128.size, stride := ![2, 1], inb := inb0, stride_pos := spos_2_1 } : Rect S25856x128), k0_pay198 R M⟩])) (k.val + 1) := by
  intro ch hch w h
  subst e1 e0
  have hw := w.isLt
  have hh := h.isLt
  unfold S11
  have hlane : h.val % 128 < 128 := by omega
  by_cases hc : ch.val = k.val
  · have hck : ch = ⟨k.val, hk⟩ := Fin.ext hc
    by_cases ht : h.val / 128 = 1
    · rw [View.read_writes_cons_hit_of_coords (x := (ix2 w ⟨h.val % 128, hlane⟩ : S200x128.Idx))]
      · pointwise [k0_pay199]
        rw [hR, ← hck]
        unfold srow
        congr 1
        congr 1
        apply Fin.ext
        show 128 + h.val % 128 = h.val
        omega
      · intro a
        match a with
        | ⟨0, _⟩ => show 404 * ch.val + 2 * w.val + h.val / 128 = 404 * k.val + 1 + 2 * w.val; omega
        | ⟨1, _⟩ => show h.val % 128 = 0 + 1 * (h.val % 128); omega
    · rw [View.read_writes_cons_miss, View.read_writes_cons_hit_of_coords (x := (ix2 w ⟨h.val % 128, hlane⟩ : S200x128.Idx))]
      · pointwise [k0_pay198]
        rw [hR, ← hck]
        unfold srow
        congr 1
        congr 1
        apply Fin.ext
        show h.val % 128 = h.val
        omega
      · intro a
        match a with
        | ⟨0, _⟩ => show 404 * ch.val + 2 * w.val + h.val / 128 = 404 * k.val + 0 + 2 * w.val; omega
        | ⟨1, _⟩ => show h.val % 128 = 0 + 1 * (h.val % 128); omega
      · refine not_mem_rect _ _ fun x hx => ?_
        have h0 := hx 0
        have hx0 : (x 0).val < 200 := (x 0).isLt
        replace h0 : 404 * ch.val + 2 * w.val + h.val / 128 = 404 * k.val + 1 + 2 * (x 0).val := h0
        omega
  · rw [View.read_writes_cons_miss, View.read_writes_cons_miss]
    · exact hf ch (by omega) w h
    · refine not_mem_rect _ _ fun x hx => ?_
      have h0 := hx 0
      have hx0 : (x 0).val < 200 := (x 0).isLt
      replace h0 : 404 * ch.val + 2 * w.val + h.val / 128 = 404 * k.val + 0 + 2 * (x 0).val := h0
      omega
    · refine not_mem_rect _ _ fun x hx => ?_
      have h0 := hx 0
      have hx0 : (x 0).val < 200 := (x 0).isLt
      replace h0 : 404 * ch.val + 2 * w.val + h.val / 128 = 404 * k.val + 1 + 2 * (x 0).val := h0
      omega

/-- What the loop over channels holds before trip `k`. -/
abbrev res1 (X5 : BufTy.Contents (Elt F) arg5.view.ty) (X8 : BufTy.Contents (Elt F) arg8.view.ty)
    (X10 : BufTy.Contents (Elt F) arg10.view.ty) (k : ℕ) : sProp 𝕄G :=
  iprop((arg5.view.loc (c : Thread nD τ) ↦[arg5.view.set]{fullShare} X5) ∗ (arg8.view.loc (c : Thread nD τ) ↦[arg8.view.set]{fullShare} X8)
    ∗ (arg10.view.loc (c : Thread nD τ) ↦[arg10.view.set]{fullShare} X10)
    ∗ ∃ f, (arg11.view.loc (c : Thread nD τ) ↦[arg11.view.set]{fullShare} f)
      ∗ ⌜inv1 (arg10.view.read (Elt F) X10) (arg5.view.read (Elt F) X5) (arg8.view.read (Elt F) X8) (arg11.view.read (Elt F) f) k⌝)

set_option warn.classDefReducibility false in
/-- The loop over channels by its invariant. -/
@[sl_loop] def loop1 (v530 : FVec F S128x512 .f32) (v539 : FVec F S64x128 .f32)
    (X5 : BufTy.Contents (Elt F) arg5.view.ty) (X8 : BufTy.Contents (Elt F) arg8.view.ty) (X10 : BufTy.Contents (Elt F) arg10.view.ty) :
    Idealize.ShloMosaic.LoopInv (M := 𝕄G) Idealize.ShloMosaic.frame (wpE (defs₀ (F := F)) Variants.none (c : Thread nD τ) none) Set.univ
      k0_t1_loop.lb k0_t1_loop.ub k0_t1_loop.st k0_t1_ok () (k0_t1_body (F := F) i arg1 harg1 arg2 harg2 arg3 harg3 arg4 harg4 arg5 harg5 arg6 harg6 arg7 harg7 arg8 harg8 arg9 harg9 arg10 harg10 arg11 harg11 v530 v539) where
  inv k _ := res1 c arg5 arg8 arg10 arg11 X5 X8 X10 k
  step k acc := by
    have hk : k.val < 64 := Nat.lt_of_lt_of_le k.isLt k0_t1_abs.2.1
    unfold k0_t1_body
    iintro ⟨H5, H8, H10, ⟨%f, H11, %hf⟩⟩
    sl_exec
    sl_step
    isplitl [H5]; · iexact H5
    isplitl [H8]; · iexact H8
    isplitl [H10]; · iexact H10
    iexists _
    isplitl [H11]; · iexact H11
    ipureintro
    refine step1 _ _ _ arg11 f k hk hf _ _ _ _ (k0_off3_eq k ⟨1, by decide⟩) (k0_off3_eq k ⟨0, by decide⟩) _ _ ?_
    have e1 : k0_off1 k 0#32 = ![68 * k.val + 0, 0] := k0_off1_eq k ⟨0, by decide⟩
    have e2 : k0_off1 k 1#32 = ![68 * k.val + 1, 0] := k0_off1_eq k ⟨1, by decide⟩
    unfold smat
    refine congrArg₂ k0_pay197 ?_ ?_
    · show k0_pay18 _ _ _ _ _ = k0_pay18 _ _ _ _ _
      congr 1
      · exact zwin_read arg10 X10 _ ⟨k.val, hk⟩ 0 0 e1 _ _ _
      · exact zwin_read arg10 X10 _ ⟨k.val, hk⟩ 1 0 e1 _ _ _
      · exact zwin_read arg10 X10 _ ⟨k.val, hk⟩ 0 1 e2 _ _ _
      · exact zwin_read arg10 X10 _ ⟨k.val, hk⟩ 1 1 e2 _ _ _
      · exact bias_read arg8 X8 _ ⟨k.val, hk⟩ (k0_off2_eq k) _
    · exact full_read2 arg5 X5 _

end Cert.KernelIdeal.Hand

end
-- ==== Proof.KernelIdeal.Loop2.lean ====
/-
  The loop over groups of eight spatial columns: one trip writes eight columns of the result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Values

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .fp8e4m3) (harg1 : arg1.IsWhole)
  (arg2 : Memref sig .tc .vmem S1x200x256 .f32) (harg2 : arg2.IsWhole)
  (arg3 : Memref sig .tc .vmem S1x14x18x4x128 .f32) (harg3 : arg3.IsWhole)
  (arg4 : Memref sig .tc .vmem S72x512 .bf16) (harg4 : arg4.IsWhole)
  (arg5 : Memref sig .tc .vmem S208x208 .bf16) (harg5 : arg5.IsWhole)
  (arg6 : Memref sig .tc .vmem S64x64 .fp8e4m3) (harg6 : arg6.IsWhole)
  (arg7 : Memref sig .tc .vmem S64x128 .f32) (harg7 : arg7.IsWhole)
  (arg8 : Memref sig .tc .vmem S64x16x256 .bf16) (harg8 : arg8.IsWhole)
  (arg9 : Memref sig .tc .vmem S1x200x64x256 .bf16) (harg9 : arg9.IsWhole)
  (arg10 : Memref sig .tc .vmem S2x4352x128 .f32) (harg10 : arg10.IsWhole)
  (arg11 : Memref sig .tc .vmem S25856x128 .f32) (harg11 : arg11.IsWhole)

theorem pay35 : k0_pay35 (F := F) = k0_pay20 := rfl

omit [FloatOps F] in
theorem sc_read (m : Memref sig .tc .vmem S1x200x256 .f32) (X : BufTy.Contents (Elt F) m.view.ty) (off : Fin 3 → ℕ)
    (k : Fin 25) (hoff : off = ![0, 8 * k.val, 0]) (inb : _) :
    View.readAt (Elt F) m.view (Rect.unit off S1x8x256.size inb : Rect S1x200x256).toLoadRect X = scv (m.view.read (Elt F) X) k := by
  subst hoff
  funext y
  show m.view.read (Elt F) X _ = m.view.read (Elt F) X _
  congr 1
  funext a
  apply Fin.ext
  match a with
  | ⟨0, _⟩ => show 0 + 1 * (y 0).val = 0; have h0 : (y 0).val < 1 := (y 0).isLt; omega
  | ⟨1, _⟩ => show 8 * k.val + 1 * (y 1).val = 8 * k.val + (y 1).val; omega
  | ⟨2, _⟩ => show 0 + 1 * (y 2).val = (y 2).val; omega

omit [FloatOps F] in
theorem codes_read (m : Memref sig .tc .vmem S1x200x64x256 .fp8e4m3) (X : BufTy.Contents (Elt F) m.view.ty) (off : Fin 4 → ℕ)
    (g : Fin 50) (hoff : off = ![0, 4 * g.val, 0, 0]) (inb : _) :
    View.readAt (Elt F) m.view (Rect.unit off S1x4x64x256.size inb : Rect S1x200x64x256).toLoadRect X = codes4 (m.view.read (Elt F) X) g := by
  subst hoff
  funext y
  show m.view.read (Elt F) X _ = m.view.read (Elt F) X _
  congr 1
  funext a
  apply Fin.ext
  match a with
  | ⟨0, _⟩ => show 0 + 1 * (y 0).val = 0; have h0 : (y 0).val < 1 := (y 0).isLt; omega
  | ⟨1, _⟩ => show 4 * g.val + 1 * (y 1).val = 4 * g.val + (y 1).val; omega
  | ⟨2, _⟩ => show 0 + 1 * (y 2).val = (y 2).val; omega
  | ⟨3, _⟩ => show 0 + 1 * (y 3).val = (y 3).val; omega

omit [FloatOps F] in
theorem s_read (m : Memref sig .tc .vmem S25856x128 .f32) (X : BufTy.Contents (Elt F) m.view.ty) (off : Fin 2 → ℕ)
    (w : Fin 200) (t : Fin 2) (hoff : off = ![2 * w.val + t.val, 0]) (inb : _) :
    View.readAt (Elt F) m.view (⟨off, S64x128.size, ![404, 1], inb⟩ : LoadRect S25856x128) X = scol (S11 (m.view.read (Elt F) X)) w t := by
  subst hoff
  funext y
  have hy1 : (y 1).val < 128 := (y 1).isLt
  show m.view.read (Elt F) X _ = m.view.read (Elt F) X _
  congr 1
  funext a
  apply Fin.ext
  match a with
  | ⟨0, _⟩ => show 2 * w.val + t.val + 404 * (y 0).val = 404 * (y 0).val + 2 * w.val + (128 * t.val + (y 1).val) / 128; omega
  | ⟨1, _⟩ => show 0 + 1 * (y 1).val = (128 * t.val + (y 1).val) % 128; omega

/-- The loop's result read at a place of the block. -/
def outG (V1 : Vec F S1x200x64x256 .fp8e4m3) (V2 : Vec F S1x200x256 .f32) (W : FVec F S256x256 .fp8e4m3) (V7 : Vec F S64x128 .f32)
    (S : Fin 64 → Fin 200 → Fin 256 → Elt F .f32) : S1x200x64x256.Idx → Elt F .bf16 := fun y => outv V1 V2 W V7 S (y 1) (y 2) (y 3)

/-- Half of what the activation is applied to, at lane `l` of one tile. -/
def tileh (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (ch : Fin 64) (l : Fin 128) : F .f32 :=
  FloatOps.addf (S ch ⟨8 * k.val + 4 * g.val + wi.val, by omega⟩ ⟨128 * t.val + l.val, by omega⟩)
    (FloatOps.mulf (k0_pay20 W (codes4 V1 ⟨2 * k.val + g.val, by omega⟩) (ix2 ⟨64 * wi.val + ch.val, by omega⟩ ⟨128 * t.val + l.val, by omega⟩))
      (FloatOps.mulf (V2 (ix3 0 ⟨8 * k.val + (4 * g.val + wi.val), by omega⟩ ⟨128 * t.val + l.val, by omega⟩)) (V7 (ix2 ch l))))

/-- One tile of the result. -/
def tilev (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (ch : Fin 64) (l : Fin 128) : F .bf16 :=
  FloatOps.truncf .bf16 bitsLt_bf16_f32
    (FloatOps.mulf (tileh V1 V2 W V7 S k g wi t ch l)
      (FloatOps.addf
        (FloatOps.erf (FloatOps.mulf (tileh V1 V2 W V7 S k g wi t ch l) (FloatOps.ofBits .f32 0x3FB504F3#32)))
        (FloatOps.ofBits .f32 0x3F800000#32)))

theorem tileh_eq (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (ch : Fin 64) (l : Fin 128) :
    tileh V1 V2 W V7 S k g wi t ch l
      = halfv V1 V2 W V7 S ⟨8 * k.val + 4 * g.val + wi.val, by omega⟩ ch ⟨128 * t.val + l.val, by omega⟩ := by
  have a1 : (⟨(8 * k.val + 4 * g.val + wi.val) / 4, by omega⟩ : Fin 50) = ⟨2 * k.val + g.val, by omega⟩ := Fin.ext (by show (8 * k.val + 4 * g.val + wi.val) / 4 = 2 * k.val + g.val; omega)
  have a2 : (⟨(8 * k.val + 4 * g.val + wi.val) % 4 * 64 + ch.val, by omega⟩ : Fin 256) = ⟨64 * wi.val + ch.val, by omega⟩ := Fin.ext (by show (8 * k.val + 4 * g.val + wi.val) % 4 * 64 + ch.val = 64 * wi.val + ch.val; omega)
  have a3 : (⟨(128 * t.val + l.val) % 128, by omega⟩ : Fin 128) = l := Fin.ext (by show (128 * t.val + l.val) % 128 = l.val; omega)
  have a4 : (⟨8 * k.val + (4 * g.val + wi.val), by omega⟩ : Fin 200) = ⟨8 * k.val + 4 * g.val + wi.val, by omega⟩ := Fin.ext (by show 8 * k.val + (4 * g.val + wi.val) = 8 * k.val + 4 * g.val + wi.val; omega)
  unfold tileh halfv
  rw [a1, a2, a3, a4]

theorem tilev_eq (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (ch : Fin 64) (l : Fin 128) :
    tilev V1 V2 W V7 S k g wi t ch l
      = outv V1 V2 W V7 S ⟨8 * k.val + 4 * g.val + wi.val, by omega⟩ ch ⟨128 * t.val + l.val, by omega⟩ := by
  unfold tilev outv
  rw [tileh_eq]

/-- One tile of the result agrees with the formula where the tile lies. -/
theorem piece2 (V1 : Vec F S1x200x64x256 .fp8e4m3) (V2 : Vec F S1x200x256 .f32) (W : FVec F S256x256 .fp8e4m3) (V7 : Vec F S64x128 .f32)
    (S : Fin 64 → Fin 200 → Fin 256 → Elt F .f32) (k : Fin 25) (g : Fin 2) (wi : Fin 4) (t : Fin 2) (off : Fin 4 → ℕ) (hoff : off = ![0, 8 * k.val + 4 * g.val + wi.val, 0, 128 * t.val])
    (inb : _) (p : Vec F S1x1x64x128 .bf16)
    (hp : ∀ (ch : Fin 64) (l : Fin 128), p (ix4 0 0 ch l) = tilev V1 V2 W V7 S k g wi t ch l) :
    ∀ x, (⟨(Rect.unit off S1x1x64x128.size inb : Rect S1x200x64x256), p⟩ : View.Piece (Elt F) S1x200x64x256 .bf16).2 x
      = outG V1 V2 W V7 S ((⟨(Rect.unit off S1x1x64x128.size inb : Rect S1x200x64x256), p⟩ : View.Piece (Elt F) S1x200x64x256 .bf16).1.emb x) := by
  subst hoff
  intro x
  have h0 : (x 0).val < 1 := (x 0).isLt
  have h1 : (x 1).val < 1 := (x 1).isLt
  have ex : x = ix4 0 0 (x 2) (x 3) := by
    funext a
    apply Fin.ext
    match a with
    | ⟨0, _⟩ => show (x 0).val = 0; omega
    | ⟨1, _⟩ => show (x 1).val = 0; omega
    | ⟨2, _⟩ => rfl
    | ⟨3, _⟩ => rfl
  refine (congrArg p ex).trans (((hp (x 2) (x 3)).trans (tilev_eq ..)).trans ?_)
  unfold outG
  congr 1
  · apply Fin.ext; show 8 * k.val + 4 * g.val + wi.val = 8 * k.val + 4 * g.val + wi.val + 1 * (x 1).val; omega
  · apply Fin.ext; show (x 2).val = 0 + 1 * (x 2).val; omega
  · apply Fin.ext; show 128 * t.val + (x 3).val = 128 * t.val + 1 * (x 3).val; omega

/-- The tile a place of the block lies in. -/
theorem mem2 (y : S1x200x64x256.Idx) (t : Fin 2) (off : Fin 4 → ℕ) (w : Fin 200) (hoff : off = ![0, w.val, 0, 128 * t.val]) (inb : _)
    (p : Vec F S1x1x64x128 .bf16) (h1 : (y 1).val = w.val) (h3 : (y 3).val / 128 = t.val) :
    y ∈ (⟨(Rect.unit off S1x1x64x128.size inb : Rect S1x200x64x256), p⟩ : View.Piece (Elt F) S1x200x64x256 .bf16).1.set := by
  subst hoff
  have h0 : (y 0).val < 1 := (y 0).isLt
  have h2 : (y 2).val < 64 := (y 2).isLt
  have h3' : (y 3).val < 256 := (y 3).isLt
  refine (Rect.mem_set_unit (inb := inb)).2 fun a => ?_
  match a with
  | ⟨0, _⟩ => show 0 ≤ (y 0).val ∧ (y 0).val < 0 + 1; omega
  | ⟨1, _⟩ => show w.val ≤ (y 1).val ∧ (y 1).val < w.val + 1; omega
  | ⟨2, _⟩ => show 0 ≤ (y 2).val ∧ (y 2).val < 0 + 64; omega
  | ⟨3, _⟩ => show 128 * t.val ≤ (y 3).val ∧ (y 3).val < 128 * t.val + 128; omega

abbrev inv2 (G : Fin 200 → Fin 64 → Fin 256 → Elt F .bf16) (V9 : Vec F S1x200x64x256 .bf16) (k : ℕ) : Prop :=
  ∀ (w : Fin 200) (ch : Fin 64) (h : Fin 256), w.val < 8 * k → V9 (ix4 0 w ch h) = G w ch h

/-- What the loop over groups of eight spatial columns holds before trip `k`. -/
abbrev res2 (v565 : FVec F S64x64 .fp8e4m3) (v566 : FVec F S64x64 .fp8e4m3) (v567 : FVec F S64x256 .fp8e4m3)
    (X1 : BufTy.Contents (Elt F) arg1.view.ty) (X2 : BufTy.Contents (Elt F) arg2.view.ty)
    (X7 : BufTy.Contents (Elt F) arg7.view.ty) (X11 : BufTy.Contents (Elt F) arg11.view.ty) (k : ℕ) : sProp 𝕄G :=
  iprop((arg1.view.loc (c : Thread nD τ) ↦[arg1.view.set]{fullShare} X1) ∗ (arg2.view.loc (c : Thread nD τ) ↦[arg2.view.set]{fullShare} X2)
    ∗ (arg7.view.loc (c : Thread nD τ) ↦[arg7.view.set]{fullShare} X7) ∗ (arg11.view.loc (c : Thread nD τ) ↦[arg11.view.set]{fullShare} X11)
    ∗ ∃ f, (arg9.view.loc (c : Thread nD τ) ↦[arg9.view.set]{fullShare} f)
      ∗ ⌜inv2 (outv (arg1.view.read (Elt F) X1) (arg2.view.read (Elt F) X2) (k0_pay1 v565 v566 v567) (arg7.view.read (Elt F) X7)
          (S11 (arg11.view.read (Elt F) X11))) (arg9.view.read (Elt F) f) k⌝)

set_option maxHeartbeats 2000000 in
set_option warn.classDefReducibility false in
/-- The loop over groups of eight spatial columns by its invariant. -/
@[sl_loop] def loop2 (v565 : FVec F S64x64 .fp8e4m3) (v566 : FVec F S64x64 .fp8e4m3) (v567 : FVec F S64x256 .fp8e4m3)
    (X1 : BufTy.Contents (Elt F) arg1.view.ty) (X2 : BufTy.Contents (Elt F) arg2.view.ty)
    (X7 : BufTy.Contents (Elt F) arg7.view.ty) (X11 : BufTy.Contents (Elt F) arg11.view.ty) :
    Idealize.ShloMosaic.LoopInv (M := 𝕄G) Idealize.ShloMosaic.frame (wpE (defs₀ (F := F)) Variants.none (c : Thread nD τ) none) Set.univ
      k0_t2_loop.lb k0_t2_loop.ub k0_t2_loop.st k0_t2_ok () (k0_t2_body (F := F) i arg1 harg1 arg2 harg2 arg3 harg3 arg4 harg4 arg5 harg5 arg6 harg6 arg7 harg7 arg8 harg8 arg9 harg9 arg10 harg10 arg11 harg11 v565 v566 v567) where
  inv k _ := res2 c arg1 arg2 arg7 arg9 arg11 v565 v566 v567 X1 X2 X7 X11 k
  step k acc := by
    have hk : k.val < 25 := Nat.lt_of_lt_of_le k.isLt k0_t2_abs.2.1
    unfold k0_t2_body
    iintro ⟨H1, H2, H7, H11, ⟨%f, H9, %hf⟩⟩
    sl_exec
    sl_step
    isplitl [H1]; · iexact H1
    isplitl [H2]; · iexact H2
    isplitl [H7]; · iexact H7
    isplitl [H11]; · iexact H11
    iexists _
    isplitl [H9]; · iexact H9
    ipureintro
    have hK : k.val < 25 := hk
    have eC := sc_read arg2 X2 (k0_off4 k) ⟨k.val, hk⟩ (k0_off4_eq k)
    have eV := full_read2 arg7 X7
    intro w ch h hw
    refine read_writes_of arg9.view f (outG (arg1.view.read (Elt F) X1) (arg2.view.read (Elt F) X2) (k0_pay1 v565 v566 v567) (arg7.view.read (Elt F) X7)
      (S11 (arg11.view.read (Elt F) X11))) _ ?_ (ix4 0 w ch h) ?_
    · repeat' (refine List.forall_mem_cons.2 ⟨?_, ?_⟩)
      · refine piece2 _ _ _ _ _ ⟨k.val, hK⟩ 1 3 1 _ (k0_off8_eq k ⟨1, by decide⟩ ⟨3, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 3#32 1#32) ⟨8 * k.val + 4 * 1 + 3, by omega⟩ 1 ((k0_off6_eq k ⟨1, by decide⟩ ⟨3, by decide⟩ ⟨1, by decide⟩).trans (by congr 1; show 16 * k.val + 8 * 1 + 2 * 3 + 1 = 2 * (8 * k.val + 4 * 1 + 3) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 3 0 _ (k0_off7_eq k ⟨1, by decide⟩ ⟨3, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 3#32 0#32) ⟨8 * k.val + 4 * 1 + 3, by omega⟩ 0 ((k0_off6_eq k ⟨1, by decide⟩ ⟨3, by decide⟩ ⟨0, by decide⟩).trans (by congr 1; show 16 * k.val + 8 * 1 + 2 * 3 + 0 = 2 * (8 * k.val + 4 * 1 + 3) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 2 1 _ (k0_off8_eq k ⟨1, by decide⟩ ⟨2, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 2#32 1#32) ⟨8 * k.val + 4 * 1 + 2, by omega⟩ 1 ((k0_off6_eq k ⟨1, by decide⟩ ⟨2, by decide⟩ ⟨1, by decide⟩).trans (by congr 1; show 16 * k.val + 8 * 1 + 2 * 2 + 1 = 2 * (8 * k.val + 4 * 1 + 2) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 2 0 _ (k0_off7_eq k ⟨1, by decide⟩ ⟨2, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 2#32 0#32) ⟨8 * k.val + 4 * 1 + 2, by omega⟩ 0 ((k0_off6_eq k ⟨1, by decide⟩ ⟨2, by decide⟩ ⟨0, by decide⟩).trans (by congr 1; show 16 * k.val + 8 * 1 + 2 * 2 + 0 = 2 * (8 * k.val + 4 * 1 + 2) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 1 1 _ (k0_off8_eq k ⟨1, by decide⟩ ⟨1, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 1#32 1#32) ⟨8 * k.val + 4 * 1 + 1, by omega⟩ 1 ((k0_off6_eq k ⟨1, by decide⟩ ⟨1, by decide⟩ ⟨1, by decide⟩).trans (by congr 1; show 16 * k.val + 8 * 1 + 2 * 1 + 1 = 2 * (8 * k.val + 4 * 1 + 1) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 1 0 _ (k0_off7_eq k ⟨1, by decide⟩ ⟨1, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 1#32 0#32) ⟨8 * k.val + 4 * 1 + 1, by omega⟩ 0 ((k0_off6_eq k ⟨1, by decide⟩ ⟨1, by decide⟩ ⟨0, by decide⟩).trans (by congr 1; show 16 * k.val + 8 * 1 + 2 * 1 + 0 = 2 * (8 * k.val + 4 * 1 + 1) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 0 1 _ (k0_off8_eq k ⟨1, by decide⟩ ⟨0, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 0#32 1#32) ⟨8 * k.val + 4 * 1 + 0, by omega⟩ 1 ((k0_off6_eq k ⟨1, by decide⟩ ⟨0, by decide⟩ ⟨1, by decide⟩).trans (by congr 1; show 16 * k.val + 8 * 1 + 2 * 0 + 1 = 2 * (8 * k.val + 4 * 1 + 0) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 1 0 0 _ (k0_off7_eq k ⟨1, by decide⟩ ⟨0, by decide⟩) _ _ fun ch l => ?_
        have eD := codes_read arg1 X1 (k0_off5 k 1#32) ⟨2 * k.val + 1, by omega⟩ ((k0_off5_eq k ⟨1, by decide⟩).trans (by congr 2; show 8 * k.val + 4 * 1 = 4 * (2 * k.val + 1); omega))
        have eS := s_read arg11 X11 (k0_off6 k 1#32 0#32 0#32) ⟨8 * k.val + 4 * 1 + 0, by omega⟩ 0 ((k0_off6_eq k ⟨1, by decide⟩ ⟨0, by decide⟩ ⟨0, by decide⟩).trans (by congr 1; show 16 * k.val + 8 * 1 + 2 * 0 + 0 = 2 * (8 * k.val + 4 * 1 + 0) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
        rfl
      · refine piece2 _ _ _ _ _ ⟨k.val, hK⟩ 0 3 1 _ (k0_off8_eq k ⟨0, by decide⟩ ⟨3, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 3#32 1#32) ⟨8 * k.val + 4 * 0 + 3, by omega⟩ 1 ((k0_off6_eq k ⟨0, by decide⟩ ⟨3, by decide⟩ ⟨1, by decide⟩).trans (by congr 1; show 16 * k.val + 8 * 0 + 2 * 3 + 1 = 2 * (8 * k.val + 4 * 0 + 3) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 3 0 _ (k0_off7_eq k ⟨0, by decide⟩ ⟨3, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 3#32 0#32) ⟨8 * k.val + 4 * 0 + 3, by omega⟩ 0 ((k0_off6_eq k ⟨0, by decide⟩ ⟨3, by decide⟩ ⟨0, by decide⟩).trans (by congr 1; show 16 * k.val + 8 * 0 + 2 * 3 + 0 = 2 * (8 * k.val + 4 * 0 + 3) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 2 1 _ (k0_off8_eq k ⟨0, by decide⟩ ⟨2, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 2#32 1#32) ⟨8 * k.val + 4 * 0 + 2, by omega⟩ 1 ((k0_off6_eq k ⟨0, by decide⟩ ⟨2, by decide⟩ ⟨1, by decide⟩).trans (by congr 1; show 16 * k.val + 8 * 0 + 2 * 2 + 1 = 2 * (8 * k.val + 4 * 0 + 2) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 2 0 _ (k0_off7_eq k ⟨0, by decide⟩ ⟨2, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 2#32 0#32) ⟨8 * k.val + 4 * 0 + 2, by omega⟩ 0 ((k0_off6_eq k ⟨0, by decide⟩ ⟨2, by decide⟩ ⟨0, by decide⟩).trans (by congr 1; show 16 * k.val + 8 * 0 + 2 * 2 + 0 = 2 * (8 * k.val + 4 * 0 + 2) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 1 1 _ (k0_off8_eq k ⟨0, by decide⟩ ⟨1, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 1#32 1#32) ⟨8 * k.val + 4 * 0 + 1, by omega⟩ 1 ((k0_off6_eq k ⟨0, by decide⟩ ⟨1, by decide⟩ ⟨1, by decide⟩).trans (by congr 1; show 16 * k.val + 8 * 0 + 2 * 1 + 1 = 2 * (8 * k.val + 4 * 0 + 1) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 1 0 _ (k0_off7_eq k ⟨0, by decide⟩ ⟨1, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 1#32 0#32) ⟨8 * k.val + 4 * 0 + 1, by omega⟩ 0 ((k0_off6_eq k ⟨0, by decide⟩ ⟨1, by decide⟩ ⟨0, by decide⟩).trans (by congr 1; show 16 * k.val + 8 * 0 + 2 * 1 + 0 = 2 * (8 * k.val + 4 * 0 + 1) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 0 1 _ (k0_off8_eq k ⟨0, by decide⟩ ⟨0, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 0#32 1#32) ⟨8 * k.val + 4 * 0 + 0, by omega⟩ 1 ((k0_off6_eq k ⟨0, by decide⟩ ⟨0, by decide⟩ ⟨1, by decide⟩).trans (by congr 1; show 16 * k.val + 8 * 0 + 2 * 0 + 1 = 2 * (8 * k.val + 4 * 0 + 0) + 1; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · refine piece2 _ _ _ _ _ ⟨k.val, hK⟩ 0 0 0 _ (k0_off7_eq k ⟨0, by decide⟩ ⟨0, by decide⟩) _ _ fun ch l => ?_
        have eD := codes_read arg1 X1 (k0_off5 k 0#32) ⟨2 * k.val + 0, by omega⟩ ((k0_off5_eq k ⟨0, by decide⟩).trans (by congr 2; show 8 * k.val + 4 * 0 = 4 * (2 * k.val + 0); omega))
        have eS := s_read arg11 X11 (k0_off6 k 0#32 0#32 0#32) ⟨8 * k.val + 4 * 0 + 0, by omega⟩ 0 ((k0_off6_eq k ⟨0, by decide⟩ ⟨0, by decide⟩ ⟨0, by decide⟩).trans (by congr 1; show 16 * k.val + 8 * 0 + 2 * 0 + 0 = 2 * (8 * k.val + 4 * 0 + 0) + 0; omega))
        (try delta loop2.sl.r_17); (try delta loop2.sl.r_16); (try delta loop2.sl.r_15); (try delta loop2.sl.r_14); (try delta loop2.sl.r_13); (try delta loop2.sl.r_12); (try delta loop2.sl.r_11); (try delta loop2.sl.r_10); (try delta loop2.sl.r_9); (try delta loop2.sl.r_8); (try delta loop2.sl.r_7); (try delta loop2.sl.r_6); (try delta loop2.sl.r_5); (try delta loop2.sl.r_4); (try delta loop2.sl.r_3); (try delta loop2.sl.r_2); (try delta loop2.sl.r_1); (try delta loop2.sl.r)
        try simp only [eC, eD, eS, eV, pay35]
        pointwise [k0_pay2, k0_pay19, tilev, tileh, scol, scv, k0_pay21, k0_pay22, k0_pay23, k0_pay24, k0_pay25, k0_pay26, k0_pay27, k0_pay28, k0_pay29, k0_pay30, k0_pay31, k0_pay32, k0_pay33, k0_pay34, k0_pay36, k0_pay37, k0_pay38, k0_pay39, k0_pay40, k0_pay41, k0_pay42, k0_pay43, k0_pay44, k0_pay45, k0_pay46, k0_pay47, k0_pay48, k0_pay49]
      · exact fun p hp => absurd hp List.not_mem_nil
    · by_cases hw8 : w.val < 8 * k.val
      · exact Or.inl (hf w ch h hw8)
      · right
        have hh := h.isLt
        have hj : w.val = 8 * k.val + 4 * 1 + 3 ∨ w.val = 8 * k.val + 4 * 1 + 2 ∨ w.val = 8 * k.val + 4 * 1 + 1 ∨ w.val = 8 * k.val + 4 * 1 + 0 ∨ w.val = 8 * k.val + 4 * 0 + 3 ∨ w.val = 8 * k.val + 4 * 0 + 2 ∨ w.val = 8 * k.val + 4 * 0 + 1 ∨ w.val = 8 * k.val + 4 * 0 + 0 := by omega
        have ht : h.val / 128 = 1 ∨ h.val / 128 = 0 := by omega
        rcases hj with hj | hj | hj | hj | hj | hj | hj | hj <;> rcases ht with ht | ht
        · exact ⟨_, (List.Mem.head _), mem2 (ix4 0 w ch h) 1 _ ⟨8 * k.val + 4 * 1 + 3, by omega⟩ (k0_off8_eq k ⟨1, by decide⟩ ⟨3, by decide⟩) _ _ hj ht⟩
        · exact ⟨_, (List.Mem.tail _ (List.Mem.head _)), mem2 (ix4 0 w ch h) 0 _ ⟨8 * k.val + 4 * 1 + 3, by omega⟩ (k0_off7_eq k ⟨1, by decide⟩ ⟨3, by decide⟩) _ _ hj ht⟩
        · exact ⟨_, (List.Mem.tail _ (List.Mem.tail _ (List.Mem.head _))), mem2 (ix4 0 w ch h) 1 _ ⟨8 * k.val + 4 * 1 + 2, by omega⟩ (k0_off8_eq k ⟨1, by decide⟩ ⟨2, by decide⟩) _ _ hj ht⟩
        · exact ⟨_, (List.Mem.tail _ (List.Mem.tail _ (List.Mem.tail _ (List.Mem.head _)))), mem2 (ix4 0 w ch h) 0 _ ⟨8 * k.val + 4 * 1 + 2, by omega⟩ (k0_off7_eq k ⟨1, by decide⟩ ⟨2, by decide⟩) _ _ hj ht⟩
        · exact ⟨_, (List.Mem.tail _ (List.Mem.tail _ (List.Mem.tail _ (List.Mem.tail _ (List.Mem.head _))))), mem2 (ix4 0 w ch h) 1 _ ⟨8 * k.val + 4 * 1 + 1, by omega⟩ (k0_off8_eq k ⟨1, by decide⟩ ⟨1, by decide⟩) _ _ hj ht⟩
        · exact ⟨_, (List.Mem.tail _ (List.Mem.tail _ (List.Mem.tail _ (List.Mem.tail _ (List.Mem.tail _ (List.Mem.head _)))))), mem2 (ix4 0 w ch h) 0 _ ⟨8 * k.val + 4 * 1 + 1, by omega⟩ (k0_off7_eq k ⟨1, by decide⟩ ⟨1, by decide⟩) _ _ hj ht⟩
        · exact ⟨_, (List.Mem.tail _ (List.Mem.tail _ (List.Mem.tail _ (List.Mem.tail _ (List.Mem.tail _ (List.Mem.tail _ (List.Mem.head _))))))), mem2 (ix4 0 w ch h) 1 _ ⟨8 * k.val + 4 * 1 + 0, by omega⟩ (k0_off8_eq k ⟨1, by decide⟩ ⟨0, by decide⟩) _ _ hj ht⟩
        · exact ⟨_, (List.Mem.tail _ (List.Mem.tail _ (List.Mem.tail _ (List.Mem.tail _ (List.Mem.tail _ (List.Mem.tail _ (List.Mem.tail _ (List.Mem.head _)))))))), mem2 (ix4 0 w ch h) 0 _ ⟨8 * k.val + 4 * 1 + 0, by omega⟩ (k0_off7_eq k ⟨1, by decide⟩ ⟨0, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.head _))))))))), mem2 (ix4 0 w ch h) 1 _ ⟨8 * k.val + 4 * 0 + 3, by omega⟩ (k0_off8_eq k ⟨0, by decide⟩ ⟨3, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.head _)))))))))), mem2 (ix4 0 w ch h) 0 _ ⟨8 * k.val + 4 * 0 + 3, by omega⟩ (k0_off7_eq k ⟨0, by decide⟩ ⟨3, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem2 (ix4 0 w ch h) 1 _ ⟨8 * k.val + 4 * 0 + 2, by omega⟩ (k0_off8_eq k ⟨0, by decide⟩ ⟨2, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem2 (ix4 0 w ch h) 0 _ ⟨8 * k.val + 4 * 0 + 2, by omega⟩ (k0_off7_eq k ⟨0, by decide⟩ ⟨2, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem2 (ix4 0 w ch h) 1 _ ⟨8 * k.val + 4 * 0 + 1, by omega⟩ (k0_off8_eq k ⟨0, by decide⟩ ⟨1, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem2 (ix4 0 w ch h) 0 _ ⟨8 * k.val + 4 * 0 + 1, by omega⟩ (k0_off7_eq k ⟨0, by decide⟩ ⟨1, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem2 (ix4 0 w ch h) 1 _ ⟨8 * k.val + 4 * 0 + 0, by omega⟩ (k0_off8_eq k ⟨0, by decide⟩ ⟨0, by decide⟩) _ _ hj ht⟩
        · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), mem2 (ix4 0 w ch h) 0 _ ⟨8 * k.val + 4 * 0 + 0, by omega⟩ (k0_off7_eq k ⟨0, by decide⟩ ⟨0, by decide⟩) _ _ hj ht⟩

end Cert.KernelIdeal.Hand

end
-- ==== Proof.KernelIdeal.Rows.lean ====
/-
  Reading the first scratch buffer after the writes of its rows, and what the loops then leave.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Loop1
public import proofs.«01_k».proof.Proof.KernelIdeal.Loop2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The condition under which the kernel clears the last rows of the first scratch buffer: it is at the first grid point. -/
abbrev first (i : grid0.Coords) : Prop :=
  Scalar.cmpi .ne (Scalar.extui (Scalar.cmpi .eq (BitVec.ofNat 32 (i 0).val) 0#32) : BitVec 32) 0#32 = 1#1

/-- The last eight rows of every channel of the first scratch buffer hold zeros. -/
def zeros (d : Vec F S2x4352x128 .f32) : Prop :=
  ∀ (q : Fin 2) (ch r : Fin 64) (l : Fin 128), 56 ≤ r.val → Z10 d q ch r l = Scalar.ofBits (F := F) .f32 0x00000000#32

/-- Row `r` of every channel of part `q` of the first scratch buffer. -/
def rectZ (q : Fin 2) (r : Fin 64) : Rect S2x4352x128 :=
  ⟨⟨![q.val, r.val, 0], S1x64x128.size, ![1, 68, 1], by
    intro a
    match a with
    | ⟨0, _⟩ => right; show q.val + 1 * (1 - 1) < 2; omega
    | ⟨1, _⟩ => right; show r.val + 68 * (64 - 1) < 4352; omega
    | ⟨2, _⟩ => right; show 0 + 1 * (128 - 1) < 128; omega⟩, spos_1_68_1⟩

/-- A write of one row of every channel that agrees with `G` there. -/
def ZOk (G : Fin 2 → Fin 64 → Fin 64 → Fin 128 → Elt F .f32) (p : View.Piece (Elt F) S2x4352x128 .f32) : Prop :=
  ∃ (q : Fin 2) (r : Fin 64) (pay : Vec F S1x64x128 .f32), p = ⟨rectZ q r, pay⟩ ∧ ∀ ch l, pay (ix3 0 ch l) = G q ch r l

omit [FloatOps F] in
/-- Reading a row after writes that all agree with `G`, where it already agreed or one of them wrote it. -/
theorem zread (m : Memref sig .tc .vmem S2x4352x128 .f32) (f : BufTy.Contents (Elt F) m.view.ty)
    (G : Fin 2 → Fin 64 → Fin 64 → Fin 128 → Elt F .f32) :
    ∀ L : List (View.Piece (Elt F) S2x4352x128 .f32), (∀ p ∈ L, ZOk G p) → ∀ (q : Fin 2) (ch r : Fin 64) (l : Fin 128),
      (Z10 (m.view.read (Elt F) f) q ch r l = G q ch r l ∨ (q.val, r.val) ∈ L.map fun p => (p.1.off 0, p.1.off 1)) →
        Z10 (m.view.read (Elt F) (m.view.writes (Elt F) f L)) q ch r l = G q ch r l
  | [], _, q, ch, r, l, h => by
    rcases h with h | h
    · exact h
    · exact absurd h List.not_mem_nil
  | p :: L, hL, q, ch, r, l, h => by
    obtain ⟨q', r', pay, rfl, hp⟩ := hL p List.mem_cons_self
    by_cases hy : q = q' ∧ r = r'
    · obtain ⟨rfl, rfl⟩ := hy
      refine (View.read_writes_cons_hit_of_coords m.view f (rectZ q r) pay L (ix3 0 ch l) _ fun a => ?_).trans (hp ch l)
      match a with
      | ⟨0, _⟩ => show q.val = q.val + 1 * 0; omega
      | ⟨1, _⟩ => show 68 * ch.val + r.val = r.val + 68 * ch.val; omega
      | ⟨2, _⟩ => show l.val = 0 + 1 * l.val; omega
    · have hr := r.isLt
      have hr' := r'.isLt
      refine (View.read_writes_cons_miss m.view f _ L _ (not_mem_rect _ _ fun x hx => hy ?_)).trans
        (zread m f G L (fun p hp => hL p (List.mem_cons_of_mem _ hp)) q ch r l ?_)
      · have h0 : q.val = q'.val + 1 * (x 0).val := hx 0
        have h1 : 68 * ch.val + r.val = r'.val + 68 * (x 1).val := hx 1
        have hx0 : (x 0).val < 1 := (x 0).isLt
        exact ⟨Fin.ext (by omega), Fin.ext (by omega)⟩
      · rcases h with h | h
        · exact Or.inl h
        · rcases List.mem_cons.1 h with h | h
          · exfalso
            have h0 : q.val = q'.val := congrArg Prod.fst h
            have h1 : r.val = r'.val := congrArg Prod.snd h
            exact hy ⟨Fin.ext h0, Fin.ext h1⟩
          · exact Or.inr h

/-- Row `2m + t` of a column pair's inverse row transform, `m = 2 mp + m2`. -/
theorem zok_mat (V3 : Vec F S1x14x18x4x128 .f32) (V4 : Vec F S72x512 .bf16) (q : Fin 2) (mp : Fin 14) (m2 t : Fin 2) (pay : Vec F S1x64x128 .f32)
    (hp : ∀ (ch : Fin 64) (l : Fin 128), pay (ix3 0 ch l)
      = zmat V3 V4 mp (ix2 ⟨64 * m2.val + ch.val, by omega⟩ ⟨256 * q.val + 128 * t.val + l.val, by omega⟩)) :
    ZOk (zrow V3 V4) ⟨rectZ q ⟨4 * mp.val + 2 * m2.val + t.val, by omega⟩, pay⟩ := by
  refine ⟨q, _, pay, rfl, fun ch l => (hp ch l).trans ?_⟩
  unfold zrow
  rw [dif_pos (show 4 * mp.val + 2 * m2.val + t.val < 56 by omega)]
  have e0 : (⟨(4 * mp.val + 2 * m2.val + t.val) / 4, by omega⟩ : Fin 14) = mp := Fin.ext (by show (4 * mp.val + 2 * m2.val + t.val) / 4 = mp.val; omega)
  have e1 : (⟨(4 * mp.val + 2 * m2.val + t.val) / 2 % 2 * 64 + ch.val, by omega⟩ : Fin 128) = ⟨64 * m2.val + ch.val, by omega⟩ :=
    Fin.ext (by show (4 * mp.val + 2 * m2.val + t.val) / 2 % 2 * 64 + ch.val = 64 * m2.val + ch.val; omega)
  have e2 : (⟨q.val * 256 + (4 * mp.val + 2 * m2.val + t.val) % 2 * 128 + l.val, by omega⟩ : Fin 512) = ⟨256 * q.val + 128 * t.val + l.val, by omega⟩ :=
    Fin.ext (by show q.val * 256 + (4 * mp.val + 2 * m2.val + t.val) % 2 * 128 + l.val = 256 * q.val + 128 * t.val + l.val; omega)
  rw [e0, e1, e2]

/-- A cleared row. -/
theorem zok_zero (q : Fin 2) (r : Fin 64) (pay : Vec F S1x64x128 .f32)
    (hp : ∀ (ch : Fin 64) (l : Fin 128), pay (ix3 0 ch l) = Scalar.ofBits (F := F) .f32 0x00000000#32) :
    ZOk (fun _ _ _ _ => Scalar.ofBits (F := F) .f32 0x00000000#32) ⟨rectZ q r, pay⟩ := ⟨q, r, pay, rfl, hp⟩

/-- A quarter of the inverse row transform of a column pair is a write of one row of every channel. -/
theorem zok_slice (V3 : Vec F S1x14x18x4x128 .f32) (V4 : Vec F S72x512 .bf16) (q : Fin 2) (mp : Fin 14) (m2 t : Fin 2)
    (h : S128x512.Slices ![64 * m2.val, 256 * q.val + 128 * t.val] S64x128) :
    ZOk (zrow V3 V4) ⟨rectZ q ⟨4 * mp.val + 2 * m2.val + t.val, by omega⟩,
      shapeCast S1x64x128 (extractStridedSlice S64x128 ![64 * m2.val, 256 * q.val + 128 * t.val] (zmat V3 V4 mp) h)
        shapeCasts_S64x128_S1x64x128⟩ :=
  zok_mat V3 V4 q mp m2 t _ fun ch l => by
    pointwise []

/-- A write of zeros. -/
theorem zok_bcast (q : Fin 2) (r : Fin 64) :
    ZOk (fun _ _ _ _ => Scalar.ofBits (F := F) .f32 0x00000000#32) ⟨rectZ q r,
      shapeCast S1x64x128 (broadcast S64x128 (Scalar.ofBits (F := F) .f32 0x00000000#32)) shapeCasts_S64x128_S1x64x128⟩ :=
  zok_zero q r _ fun ch l => by pointwise []

theorem mem_low : ∀ (q : Fin 2) (r : Fin 64), r.val < 56 → (q.val, r.val) ∈ [(1, 55), (1, 54), (0, 55), (0, 54), (1, 53), (1, 52), (0, 53), (0, 52), (1, 51), (1, 50), (0, 51), (0, 50), (1, 49), (1, 48), (0, 49), (0, 48), (1, 47), (1, 46), (0, 47), (0, 46), (1, 45), (1, 44), (0, 45), (0, 44), (1, 43), (1, 42), (0, 43), (0, 42), (1, 41), (1, 40), (0, 41), (0, 40), (1, 39), (1, 38), (0, 39), (0, 38), (1, 37), (1, 36), (0, 37), (0, 36), (1, 35), (1, 34), (0, 35), (0, 34), (1, 33), (1, 32), (0, 33), (0, 32), (1, 31), (1, 30), (0, 31), (0, 30), (1, 29), (1, 28), (0, 29), (0, 28), (1, 27), (1, 26), (0, 27), (0, 26), (1, 25), (1, 24), (0, 25), (0, 24), (1, 23), (1, 22), (0, 23), (0, 22), (1, 21), (1, 20), (0, 21), (0, 20), (1, 19), (1, 18), (0, 19), (0, 18), (1, 17), (1, 16), (0, 17), (0, 16), (1, 15), (1, 14), (0, 15), (0, 14), (1, 13), (1, 12), (0, 13), (0, 12), (1, 11), (1, 10), (0, 11), (0, 10), (1, 9), (1, 8), (0, 9), (0, 8), (1, 7), (1, 6), (0, 7), (0, 6), (1, 5), (1, 4), (0, 5), (0, 4), (1, 3), (1, 2), (0, 3), (0, 2), (1, 1), (1, 0), (0, 1), (0, 0)] := by decide +kernel
theorem mem_high : ∀ (q : Fin 2) (r : Fin 64), 56 ≤ r.val → (q.val, r.val) ∈ [(1, 63), (1, 62), (1, 61), (1, 60), (1, 59), (1, 58), (1, 57), (1, 56), (0, 63), (0, 62), (0, 61), (0, 60), (0, 59), (0, 58), (0, 57), (0, 56)] := by decide +kernel

/-- What the two loops leave, once the first scratch buffer holds the inverse row transform. -/
theorem finish (V1 : Vec F S1x200x64x256 .fp8e4m3) (V2 : Vec F S1x200x256 .f32) (V3 : Vec F S1x14x18x4x128 .f32) (V4 : Vec F S72x512 .bf16)
    (V5 : Vec F S208x208 .bf16) (V6 : Vec F S64x64 .fp8e4m3) (V7 : Vec F S64x128 .f32) (V8 : Vec F S64x16x256 .bf16)
    (V9 : Vec F S1x200x64x256 .bf16) (V10 : Vec F S2x4352x128 .f32) (V11 : Vec F S25856x128 .f32) (n1 n2 : ℕ) (hn1 : 64 ≤ n1) (hn2 : 25 ≤ n2)
    (h1 : inv1 V10 V5 V8 V11 n1) (h2 : inv2 (outv V1 V2 (wmat V6) V7 (S11 V11)) V9 n2)
    (hZ : ∀ q ch r l, Z10 V10 q ch r l = zrow V3 V4 q ch r l) : V9 = outBlock V1 V2 V3 V4 V5 V6 V7 V8 ∧ zeros V10 := by
  have eZ : Z10 V10 = zrow V3 V4 := by funext q ch r l; exact hZ q ch r l
  have eS : S11 V11 = srow (zrow V3 V4) V5 V8 := by
    funext ch w h
    rw [h1 ch (by have := ch.isLt; omega) w h, eZ]
  constructor
  · funext y
    have h0 : (y 0).val < 1 := (y 0).isLt
    have ey : y = ix4 0 (y 1) (y 2) (y 3) := by
      funext a
      apply Fin.ext
      match a with
      | ⟨0, _⟩ => show (y 0).val = 0; omega
      | ⟨1, _⟩ => rfl
      | ⟨2, _⟩ => rfl
      | ⟨3, _⟩ => rfl
    refine (congrArg V9 ey).trans ((h2 (y 1) (y 2) (y 3) ?_).trans ?_)
    · have h1 : (y 1).val < 200 := (y 1).isLt
      omega
    · rw [eS]; rfl
  · intro q ch r l hr
    rw [hZ]
    unfold zrow
    rw [dif_neg (by omega)]

end Cert.KernelIdeal.Hand

end
-- ==== Proof.KernelIdeal.Body.lean ====
/-
  The body of the kernel at one grid point.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .fp8e4m3) (harg1 : arg1.IsWhole)
  (arg2 : Memref sig .tc .vmem S1x200x256 .f32) (harg2 : arg2.IsWhole)
  (arg3 : Memref sig .tc .vmem S1x14x18x4x128 .f32) (harg3 : arg3.IsWhole)
  (arg4 : Memref sig .tc .vmem S72x512 .bf16) (harg4 : arg4.IsWhole)
  (arg5 : Memref sig .tc .vmem S208x208 .bf16) (harg5 : arg5.IsWhole)
  (arg6 : Memref sig .tc .vmem S64x64 .fp8e4m3) (harg6 : arg6.IsWhole)
  (arg7 : Memref sig .tc .vmem S64x128 .f32) (harg7 : arg7.IsWhole)
  (arg8 : Memref sig .tc .vmem S64x16x256 .bf16) (harg8 : arg8.IsWhole)
  (arg9 : Memref sig .tc .vmem S1x200x64x256 .bf16) (harg9 : arg9.IsWhole)
  (arg10 : Memref sig .tc .vmem S2x4352x128 .f32) (harg10 : arg10.IsWhole)
  (arg11 : Memref sig .tc .vmem S25856x128 .f32) (harg11 : arg11.IsWhole)

set_option maxHeartbeats 4000000 in
theorem sound_kernel (x1 : Vec F S1x200x64x256 .fp8e4m3) (x2 : Vec F S1x200x256 .f32) (x3 : Vec F S1x14x18x4x128 .f32)
    (x4 : Vec F S72x512 .bf16) (x5 : Vec F S208x208 .bf16) (x6 : Vec F S64x64 .fp8e4m3) (x7 : Vec F S64x128 .f32)
    (x8 : Vec F S64x16x256 .bf16) (K : PUnit → sProp 𝕄G) :
    iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare x6
      ∗ owns (c : Thread nD τ) arg7 fullShare x7 ∗ owns (c : Thread nD τ) arg8 fullShare x8 ∗ (∃ d, owns (c : Thread nD τ) arg9 fullShare d)
      ∗ (∃ d, owns (c : Thread nD τ) arg10 fullShare d ∗ ⌜¬ first i → zeros d⌝) ∗ (∃ d, owns (c : Thread nD τ) arg11 fullShare d)
      ∗ (iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg7 fullShare x7 ∗ owns (c : Thread nD τ) arg8 fullShare x8
        ∗ owns (c : Thread nD τ) arg9 fullShare (outBlock x1 x2 x3 x4 x5 x6 x7 x8)
        ∗ (∃ d, owns (c : Thread nD τ) arg10 fullShare d ∗ ⌜zeros d⌝) ∗ (∃ d, owns (c : Thread nD τ) arg11 fullShare d)) -∗ K ⟨⟩))
      ⊢ wp frame (wpE (defs₀ (F := F)) Variants.none c none) Set.univ (cc0_synthesize (F := F) i arg1 harg1 arg2 harg2 arg3 harg3 arg4 harg4 arg5 harg5 arg6 harg6 arg7 harg7 arg8 harg8 arg9 harg9 arg10 harg10 arg11 harg11) K := by
  simp only [cc0_synthesize_eq_skeleton]; unfold cc0_synthesize_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, ⟨%f10, %hf10, H10⟩, %hz⟩, ⟨%d11, %f11, -, H11⟩, Hk⟩
  subst hf1 hf2 hf3 hf4 hf5 hf6 hf7 hf8 hf10
  sl_exec
  sl_step
  iapply Hk
  have hfin : _ ∧ _ := finish (arg1.view.read (Elt F) f1) (arg2.view.read (Elt F) f2) (arg3.view.read (Elt F) f3) (arg4.view.read (Elt F) f4)
    (arg5.view.read (Elt F) f5) (arg6.view.read (Elt F) f6) (arg7.view.read (Elt F) f7) (arg8.view.read (Elt F) f8)
    (arg9.view.read (Elt F) fL1) _ (arg11.view.read (Elt F) fL0) _ (Scf.trips k0_t2_loop.lb k0_t2_loop.ub k0_t2_loop.st) (by decide) (by decide) hL4
    (by unfold wmat; rw [← full_read2 arg6 f6 inb_S64x64_S64x64_0_0]; exact hL10) (by
    intro q ch r l
    rw [← full_read2 arg4 f4 inb_S72x512_S72x512_0_0]
    refine zread arg10 _ _ _ ?_ q ch r l ?_
    rotate_left
    · by_cases hr : r.val < 56
      · exact Or.inr (mem_low q r hr)
      · left
        refine Eq.trans ?_ (show Scalar.ofBits (F := F) .f32 0x00000000#32 = _ from by unfold zrow; rw [dif_neg hr])
        split
        · refine zread arg10 _ (fun _ _ _ _ => Scalar.ofBits (F := F) .f32 0x00000000#32) _ ?_ q ch r l (Or.inr (mem_high q r (by omega)))
          refine List.forall_mem_cons.2 ⟨zok_bcast 1 63, ?_⟩
          refine List.forall_mem_cons.2 ⟨zok_bcast 1 62, ?_⟩
          refine List.forall_mem_cons.2 ⟨zok_bcast 1 61, ?_⟩
          refine List.forall_mem_cons.2 ⟨zok_bcast 1 60, ?_⟩
          refine List.forall_mem_cons.2 ⟨zok_bcast 1 59, ?_⟩
          refine List.forall_mem_cons.2 ⟨zok_bcast 1 58, ?_⟩
          refine List.forall_mem_cons.2 ⟨zok_bcast 1 57, ?_⟩
          refine List.forall_mem_cons.2 ⟨zok_bcast 1 56, ?_⟩
          refine List.forall_mem_cons.2 ⟨zok_bcast 0 63, ?_⟩
          refine List.forall_mem_cons.2 ⟨zok_bcast 0 62, ?_⟩
          refine List.forall_mem_cons.2 ⟨zok_bcast 0 61, ?_⟩
          refine List.forall_mem_cons.2 ⟨zok_bcast 0 60, ?_⟩
          refine List.forall_mem_cons.2 ⟨zok_bcast 0 59, ?_⟩
          refine List.forall_mem_cons.2 ⟨zok_bcast 0 58, ?_⟩
          refine List.forall_mem_cons.2 ⟨zok_bcast 0 57, ?_⟩
          refine List.forall_mem_cons.2 ⟨zok_bcast 0 56, ?_⟩
          exact fun p hp => absurd hp List.not_mem_nil
        · exact hz ‹_› q ch r l (by omega)
    refine List.forall_mem_cons.2 ⟨zok_slice _ _ 1 13 1 1 slices_S128x512_o64_384_S64x128, ?_⟩
    refine List.forall_mem_cons.2 ⟨zok_slice _ _ 1 13 1 0 slices_S128x512_o64_256_S64x128, ?_⟩
    refine List.forall_mem_cons.2 ⟨zok_slice _ _ 0 13 1 1 slices_S128x512_o64_128_S64x128, ?_⟩
    refine List.forall_mem_cons.2 ⟨zok_slice _ _ 0 13 1 0 slices_S128x512_o64_0_S64x128, ?_⟩
    refine List.forall_mem_cons.2 ⟨zok_slice _ _ 1 13 0 1 slices_S128x512_o0_384_S64x128, ?_⟩
    refine List.forall_mem_cons.2 ⟨zok_slice _ _ 1 13 0 0 slices_S128x512_o0_256_S64x128, ?_⟩
    refine List.forall_mem_cons.2 ⟨zok_slice _ _ 0 13 0 1 slices_S128x512_o0_128_S64x128, ?_⟩
    refine List.forall_mem_cons.2 ⟨zok_slice _ _ 0 13 0 0 slices_S128x512_o0_0_S64x128, ?_⟩
    refine List.forall_mem_cons.2 ⟨zok_slice _ _ 1 12 1 1 slices_S128x512_o64_384_S64x128, ?_⟩
    refine List.forall_mem_cons.2 ⟨zok_slice _ _ 1 12 1 0 slices_S128x512_o64_256_S64x128, ?_⟩
    refine List.forall_mem_cons.2 ⟨zok_slice _ _ 0 12 1 1 slices_S128x512_o64_128_S64x128, ?_⟩
    refine List.forall_mem_cons.2 ⟨zok_slice _ _ 0 12 1 0 slices_S128x512_o64_0_S64x128, ?_⟩
    refine List.forall_mem_cons.2 ⟨zok_slice _ _ 1 12 0 1 slices_S128x512_o0_384_S64x128, ?_⟩
    refine List.forall_mem_cons.2 ⟨zok_slice _ _ 1 12 0 0 slices_S128x512_o0_256_S64x128, ?_⟩
    refine List.forall_mem_cons.2 ⟨zok_slice _ _ 0 12 0 1 slices_S128x512_o0_128_S64x128, ?_⟩
    refine List.forall_mem_cons.2 ⟨zok_slice _ _ 0 12 0 0 slices_S128x512_o0_0_S64x128, ?_⟩
    refine List.forall_mem_cons.2 ⟨zok_slice _ _ 1 11 1 1 slices_S128x512_o64_384_S64x128, ?_⟩
    refine List.forall_mem_cons.2 ⟨zok_slice _ _ 1 11 1 0 slices_S128x512_o64_256_S64x128, ?_⟩
    refine List.forall_mem_cons.2 ⟨zok_slice _ _ 0 11 1 1 slices_S128x512_o64_128_S64x128, ?_⟩
    refine List.forall_mem_cons.2 ⟨zok_slice _ _ 0 11 1 0 slices_S128x512_o64_0_S64x128, ?_⟩
    refine List.forall_mem_cons.2 ⟨zok_slice _ _ 1 11 0 1 slices_S128x512_o0_384_S64x128, ?_⟩
    refine List.forall_mem_cons.2 ⟨zok_slice _ _ 1 11 0 0 slices_S128x512_o0_256_S64x128, ?_⟩
    refine List.forall_mem_cons.2 ⟨zok_slice _ _ 0 11 0 1 slices_S128x512_o0_128_S64x128, ?_⟩
    refine List.forall_mem_cons.2 ⟨zok_slice _ _ 0 11 0 0 slices_S128x512_o0_0_S64x128, ?_⟩
    refine List.forall_mem_cons.2 ⟨zok_slice _ _ 1 10 1 1 slices_S128x512_o64_384_S64x128, ?_⟩
    refine List.forall_mem_cons.2 ⟨zok_slice _ _ 1 10 1 0 slices_S128x512_o64_256_S64x128, ?_⟩
    refine List.forall_mem_cons.2 ⟨zok_slice _ _ 0 10 1 1 slices_S128x512_o64_128_S64x128, ?_⟩
    refine List.forall_mem_cons.2 ⟨zok_slice _ _ 0 10 1 0 slices_S128x512_o64_0_S64x128, ?_⟩
    refine List.forall_mem_cons.2 ⟨zok_slice _ _ 1 10 0 1 slices_S128x512_o0_384_S64x128, ?_⟩
    refine List.forall_mem_cons.2 ⟨zok_slice _ _ 1 10 0 0 slices_S128x512_o0_256_S64x128, ?_⟩
    refine List.forall_mem_cons.2 ⟨zok_slice _ _ 0 10 0 1 slices_S128x512_o0_128_S64x128, ?_⟩
    refine List.forall_mem_cons.2 ⟨zok_slice _ _ 0 10 0 0 slices_S128x512_o0_0_S64x128, ?_⟩
    refine List.forall_mem_cons.2 ⟨zok_slice _ _ 1 9 1 1 slices_S128x512_o64_384_S64x128, ?_⟩
    refine List.forall_mem_cons.2 ⟨zok_slice _ _ 1 9 1 0 slices_S128x512_o64_256_S64x128, ?_⟩
    refine List.forall_mem_cons.2 ⟨zok_slice _ _ 0 9 1 1 slices_S128x512_o64_128_S64x128, ?_⟩
    refine List.forall_mem_cons.2 ⟨zok_slice _ _ 0 9 1 0 slices_S128x512_o64_0_S64x128, ?_⟩
    refine List.forall_mem_cons.2 ⟨zok_slice _ _ 1 9 0 1 slices_S128x512_o0_384_S64x128, ?_⟩
    refine List.forall_mem_cons.2 ⟨zok_slice _ _ 1 9 0 0 slices_S128x512_o0_256_S64x128, ?_⟩
    refine List.forall_mem_cons.2 ⟨zok_slice _ _ 0 9 0 1 slices_S128x512_o0_128_S64x128, ?_⟩
    refine List.forall_mem_cons.2 ⟨zok_slice _ _ 0 9 0 0 slices_S128x512_o0_0_S64x128, ?_⟩
    refine List.forall_mem_cons.2 ⟨zok_slice _ _ 1 8 1 1 slices_S128x512_o64_384_S64x128, ?_⟩
    refine List.forall_mem_cons.2 ⟨zok_slice _ _ 1 8 1 0 slices_S128x512_o64_256_S64x128, ?_⟩
    refine List.forall_mem_cons.2 ⟨zok_slice _ _ 0 8 1 1 slices_S128x512_o64_128_S64x128, ?_⟩
    refine List.forall_mem_cons.2 ⟨zok_slice _ _ 0 8 1 0 slices_S128x512_o64_0_S64x128, ?_⟩
    refine List.forall_mem_cons.2 ⟨zok_slice _ _ 1 8 0 1 slices_S128x512_o0_384_S64x128, ?_⟩
    refine List.forall_mem_cons.2 ⟨zok_slice _ _ 1 8 0 0 slices_S128x512_o0_256_S64x128, ?_⟩
    refine List.forall_mem_cons.2 ⟨zok_slice _ _ 0 8 0 1 slices_S128x512_o0_128_S64x128, ?_⟩
    refine List.forall_mem_cons.2 ⟨zok_slice _ _ 0 8 0 0 slices_S128x512_o0_0_S64x128, ?_⟩
    refine List.forall_mem_cons.2 ⟨zok_slice _ _ 1 7 1 1 slices_S128x512_o64_384_S64x128, ?_⟩
    refine List.forall_mem_cons.2 ⟨zok_slice _ _ 1 7 1 0 slices_S128x512_o64_256_S64x128, ?_⟩
    refine List.forall_mem_cons.2 ⟨zok_slice _ _ 0 7 1 1 slices_S128x512_o64_128_S64x128, ?_⟩
    refine List.forall_mem_cons.2 ⟨zok_slice _ _ 0 7 1 0 slices_S128x512_o64_0_S64x128, ?_⟩
    refine List.forall_mem_cons.2 ⟨zok_slice _ _ 1 7 0 1 slices_S128x512_o0_384_S64x128, ?_⟩
    refine List.forall_mem_cons.2 ⟨zok_slice _ _ 1 7 0 0 slices_S128x512_o0_256_S64x128, ?_⟩
    refine List.forall_mem_cons.2 ⟨zok_slice _ _ 0 7 0 1 slices_S128x512_o0_128_S64x128, ?_⟩
    refine List.forall_mem_cons.2 ⟨zok_slice _ _ 0 7 0 0 slices_S128x512_o0_0_S64x128, ?_⟩
    refine List.forall_mem_cons.2 ⟨zok_slice _ _ 1 6 1 1 slices_S128x512_o64_384_S64x128, ?_⟩
    refine List.forall_mem_cons.2 ⟨zok_slice _ _ 1 6 1 0 slices_S128x512_o64_256_S64x128, ?_⟩
    refine List.forall_mem_cons.2 ⟨zok_slice _ _ 0 6 1 1 slices_S128x512_o64_128_S64x128, ?_⟩
    refine List.forall_mem_cons.2 ⟨zok_slice _ _ 0 6 1 0 slices_S128x512_o64_0_S64x128, ?_⟩
    refine List.forall_mem_cons.2 ⟨zok_slice _ _ 1 6 0 1 slices_S128x512_o0_384_S64x128, ?_⟩
    refine List.forall_mem_cons.2 ⟨zok_slice _ _ 1 6 0 0 slices_S128x512_o0_256_S64x128, ?_⟩
    refine List.forall_mem_cons.2 ⟨zok_slice _ _ 0 6 0 1 slices_S128x512_o0_128_S64x128, ?_⟩
    refine List.forall_mem_cons.2 ⟨zok_slice _ _ 0 6 0 0 slices_S128x512_o0_0_S64x128, ?_⟩
    refine List.forall_mem_cons.2 ⟨zok_slice _ _ 1 5 1 1 slices_S128x512_o64_384_S64x128, ?_⟩
    refine List.forall_mem_cons.2 ⟨zok_slice _ _ 1 5 1 0 slices_S128x512_o64_256_S64x128, ?_⟩
    refine List.forall_mem_cons.2 ⟨zok_slice _ _ 0 5 1 1 slices_S128x512_o64_128_S64x128, ?_⟩
    refine List.forall_mem_cons.2 ⟨zok_slice _ _ 0 5 1 0 slices_S128x512_o64_0_S64x128, ?_⟩
    refine List.forall_mem_cons.2 ⟨zok_slice _ _ 1 5 0 1 slices_S128x512_o0_384_S64x128, ?_⟩
    refine List.forall_mem_cons.2 ⟨zok_slice _ _ 1 5 0 0 slices_S128x512_o0_256_S64x128, ?_⟩
    refine List.forall_mem_cons.2 ⟨zok_slice _ _ 0 5 0 1 slices_S128x512_o0_128_S64x128, ?_⟩
    refine List.forall_mem_cons.2 ⟨zok_slice _ _ 0 5 0 0 slices_S128x512_o0_0_S64x128, ?_⟩
    refine List.forall_mem_cons.2 ⟨zok_slice _ _ 1 4 1 1 slices_S128x512_o64_384_S64x128, ?_⟩
    refine List.forall_mem_cons.2 ⟨zok_slice _ _ 1 4 1 0 slices_S128x512_o64_256_S64x128, ?_⟩
    refine List.forall_mem_cons.2 ⟨zok_slice _ _ 0 4 1 1 slices_S128x512_o64_128_S64x128, ?_⟩
    refine List.forall_mem_cons.2 ⟨zok_slice _ _ 0 4 1 0 slices_S128x512_o64_0_S64x128, ?_⟩
    refine List.forall_mem_cons.2 ⟨zok_slice _ _ 1 4 0 1 slices_S128x512_o0_384_S64x128, ?_⟩
    refine List.forall_mem_cons.2 ⟨zok_slice _ _ 1 4 0 0 slices_S128x512_o0_256_S64x128, ?_⟩
    refine List.forall_mem_cons.2 ⟨zok_slice _ _ 0 4 0 1 slices_S128x512_o0_128_S64x128, ?_⟩
    refine List.forall_mem_cons.2 ⟨zok_slice _ _ 0 4 0 0 slices_S128x512_o0_0_S64x128, ?_⟩
    refine List.forall_mem_cons.2 ⟨zok_slice _ _ 1 3 1 1 slices_S128x512_o64_384_S64x128, ?_⟩
    refine List.forall_mem_cons.2 ⟨zok_slice _ _ 1 3 1 0 slices_S128x512_o64_256_S64x128, ?_⟩
    refine List.forall_mem_cons.2 ⟨zok_slice _ _ 0 3 1 1 slices_S128x512_o64_128_S64x128, ?_⟩
    refine List.forall_mem_cons.2 ⟨zok_slice _ _ 0 3 1 0 slices_S128x512_o64_0_S64x128, ?_⟩
    refine List.forall_mem_cons.2 ⟨zok_slice _ _ 1 3 0 1 slices_S128x512_o0_384_S64x128, ?_⟩
    refine List.forall_mem_cons.2 ⟨zok_slice _ _ 1 3 0 0 slices_S128x512_o0_256_S64x128, ?_⟩
    refine List.forall_mem_cons.2 ⟨zok_slice _ _ 0 3 0 1 slices_S128x512_o0_128_S64x128, ?_⟩
    refine List.forall_mem_cons.2 ⟨zok_slice _ _ 0 3 0 0 slices_S128x512_o0_0_S64x128, ?_⟩
    refine List.forall_mem_cons.2 ⟨zok_slice _ _ 1 2 1 1 slices_S128x512_o64_384_S64x128, ?_⟩
    refine List.forall_mem_cons.2 ⟨zok_slice _ _ 1 2 1 0 slices_S128x512_o64_256_S64x128, ?_⟩
    refine List.forall_mem_cons.2 ⟨zok_slice _ _ 0 2 1 1 slices_S128x512_o64_128_S64x128, ?_⟩
    refine List.forall_mem_cons.2 ⟨zok_slice _ _ 0 2 1 0 slices_S128x512_o64_0_S64x128, ?_⟩
    refine List.forall_mem_cons.2 ⟨zok_slice _ _ 1 2 0 1 slices_S128x512_o0_384_S64x128, ?_⟩
    refine List.forall_mem_cons.2 ⟨zok_slice _ _ 1 2 0 0 slices_S128x512_o0_256_S64x128, ?_⟩
    refine List.forall_mem_cons.2 ⟨zok_slice _ _ 0 2 0 1 slices_S128x512_o0_128_S64x128, ?_⟩
    refine List.forall_mem_cons.2 ⟨zok_slice _ _ 0 2 0 0 slices_S128x512_o0_0_S64x128, ?_⟩
    refine List.forall_mem_cons.2 ⟨zok_slice _ _ 1 1 1 1 slices_S128x512_o64_384_S64x128, ?_⟩
    refine List.forall_mem_cons.2 ⟨zok_slice _ _ 1 1 1 0 slices_S128x512_o64_256_S64x128, ?_⟩
    refine List.forall_mem_cons.2 ⟨zok_slice _ _ 0 1 1 1 slices_S128x512_o64_128_S64x128, ?_⟩
    refine List.forall_mem_cons.2 ⟨zok_slice _ _ 0 1 1 0 slices_S128x512_o64_0_S64x128, ?_⟩
    refine List.forall_mem_cons.2 ⟨zok_slice _ _ 1 1 0 1 slices_S128x512_o0_384_S64x128, ?_⟩
    refine List.forall_mem_cons.2 ⟨zok_slice _ _ 1 1 0 0 slices_S128x512_o0_256_S64x128, ?_⟩
    refine List.forall_mem_cons.2 ⟨zok_slice _ _ 0 1 0 1 slices_S128x512_o0_128_S64x128, ?_⟩
    refine List.forall_mem_cons.2 ⟨zok_slice _ _ 0 1 0 0 slices_S128x512_o0_0_S64x128, ?_⟩
    refine List.forall_mem_cons.2 ⟨zok_slice _ _ 1 0 1 1 slices_S128x512_o64_384_S64x128, ?_⟩
    refine List.forall_mem_cons.2 ⟨zok_slice _ _ 1 0 1 0 slices_S128x512_o64_256_S64x128, ?_⟩
    refine List.forall_mem_cons.2 ⟨zok_slice _ _ 0 0 1 1 slices_S128x512_o64_128_S64x128, ?_⟩
    refine List.forall_mem_cons.2 ⟨zok_slice _ _ 0 0 1 0 slices_S128x512_o64_0_S64x128, ?_⟩
    refine List.forall_mem_cons.2 ⟨zok_slice _ _ 1 0 0 1 slices_S128x512_o0_384_S64x128, ?_⟩
    refine List.forall_mem_cons.2 ⟨zok_slice _ _ 1 0 0 0 slices_S128x512_o0_256_S64x128, ?_⟩
    refine List.forall_mem_cons.2 ⟨zok_slice _ _ 0 0 0 1 slices_S128x512_o0_128_S64x128, ?_⟩
    refine List.forall_mem_cons.2 ⟨zok_slice _ _ 0 0 0 0 slices_S128x512_o0_0_S64x128, ?_⟩
    exact fun p hp => absurd hp List.not_mem_nil)
  obtain ⟨ho, hze⟩ := hfin
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists fL1; isplitr; · ipureintro; exact ho
                  iexact H9
  isplitl [H10]
  · iexists _
    isplitl [H10]
    · iexists _; isplitr
      on_goal 2 => iexact H10
      ipureintro; rfl
    · ipureintro; exact hze
  iexists _; iexists fL0
  isplitr; · ipureintro; rfl
  iexact H11

end Cert.KernelIdeal.Hand

end
-- ==== Proof.KernelIdeal.Run.lean ====
/-
  The run of the kernel: what every grid point leaves, and that the arguments end unchanged.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- At grid point zero the body clears the padding rows. -/
theorem first_zero : ∀ t : Fin cfg0.N, t.val = 0 → first (grid0.coords t) := by
  decide +kernel

/-- What passes from one grid point to the next: the first scratch buffer, with cleared padding rows from the first
    point on, the second scratch buffer at anything, and the generator register. -/
def track (c : Dev nD) (n : ℕ) : sProp 𝕄G :=
  iprop(((∃ d, owns (c : Thread nD τ) (Memref.whole cc0_scratch0) fullShare d ∗ ⌜n ≠ 0 → zeros d⌝)
    ∗ ∃ d, owns (c : Thread nD τ) (Memref.whole cc0_scratch1) fullShare d) ∗ ∃ r, prngReg c r)

/-- The proof data of the pipeline: after the body every input window's buffer holds its block, the output window's the
    block the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBlock (iblk m c 0 t) (iblk m c 1 t) (iblk m c 2 t) (iblk m c 3 t) (iblk m c 4 t) (iblk m c 5 t) (iblk m c 6 t) (iblk m c 7 t)
  Φ t := track c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t
    = outBlock (iblk m c 0 t) (iblk m c 1 t) (iblk m c 2 t) (iblk m c 3 t) (iblk m c 4 t) (iblk m c 5 t) (iblk m c 6 t) (iblk m c 7 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.castSucc = track c t.val from rfl, show (dats m 0 c).Φ t.succ = track c (t.val + 1) from rfl,
    show (dats m 0 c).owesAt () t.succ = (dats m 0 c).owesAt () t.castSucc from rfl,
    after0_0, after0_1, after0_2, after0_3, after0_4, after0_5, after0_6, after0_7, after0_8]
  unfold track
  iintro ⟨⟨⟨⟨%s, Hs, %hs⟩, H11⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c (grid0.coords t) _ _ _ _ _ _ _ _ _ _ _ _ _ _ _ _ _ _ _ _ _ _ (iblk m c 0 t) (iblk m c 1 t) (iblk m c 2 t) (iblk m c 3 t)
    (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [Hs]
  · iexists s; isplitl [Hs]; · iexact Hs
    ipureintro; exact fun h => hs fun h0 => h (first_zero t h0)
  isplitl [H11]; · iexact H11
  iintro ⟨H0, H1, H2, H3, H4, H5, H6, H7, H8, ⟨%s', Hs, %hs'⟩, H11⟩
  isplitl [Hs H11 Hp]
  · isplitl [Hs H11]
    · isplitl [Hs]
      · iexists s'; isplitl [Hs]; · iexact Hs
        ipureintro; exact fun _ => hs'
      iexact H11
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The two scratch buffers and the register at anything are the invariant before the first point, -/
theorem track_in (c : Dev nD) : Pipeline.ΦA (U := UR sig nD τ) (Val := Elt F) spec0 c ⊢ track c 0 := by
  unfold Pipeline.ΦA track
  rw [scopedRest0_eq]
  simp only [owns_whole]
  iintro ⟨⟨⟨%f, Hf⟩, ⟨%g, Hg⟩⟩, Hp⟩
  isplitl [Hf Hg]
  · isplitl [Hf]
    · iexists f
      isplitl [Hf]
      · iexact Hf
      ipureintro; exact fun h => absurd rfl h
    iexists g
    iexact Hg
  iexact Hp

/-- and the invariant after the last point gives them back. -/
theorem track_out (c : Dev nD) (n : ℕ) : track (F := F) c n ⊢ Pipeline.ΦA (U := UR sig nD τ) spec0 c := by
  unfold Pipeline.ΦA track
  rw [scopedRest0_eq]
  simp only [owns_whole]
  iintro ⟨⟨⟨%f, Hf, -⟩, ⟨%g, Hg⟩⟩, Hp⟩
  isplitl [Hf Hg]
  · isplitl [Hf]
    · iexists f
      iexact Hf
    iexists g
    iexact Hg
  iexact Hp

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => track_in c) (hout := fun c => track_out c _)

theorem run_main : θ_run defs (onTc (τ := τ) (main (F := F))) (s₀ m ρ) (Pipeline.FramePost cfgs (dats m) 0 (V m)) :=
  (θ_run defs _ _).mono (fun _ h => h.1) (run_main_quiescent m ρ)

/-- The program runs to the end, leaves its arguments as they were and every semaphore at zero. -/
theorem frame_hand : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelIdeal.Final.lean ====
/-
  The result array of the kernel after its run, from the arguments and the table operands.
-/
module

public import proofs.«01_k».proof.Proof.KernelIdeal.Run
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg) (c : Dev nD)

/-- The result array, from the arguments and the table operands. -/
def kout (A0 : Vec F S40x200x64x256 .fp8e4m3) (A1 : Vec F S40x200x256 .f32) (A2 : Vec F S40x14x18x4x128 .f32) (V4 : Vec F S72x512 .bf16)
    (V5 : Vec F S208x208 .bf16) (V6 : Vec F S64x64 .fp8e4m3) (V7 : Vec F S64x128 .f32) (V8 : Vec F S64x16x256 .bf16) : Vec F S40x200x64x256 .bf16 :=
  fun i => outBlock (fun y => A0 (ix4 (i 0) (y 1) (y 2) (y 3))) (fun y => A1 (ix3 (i 0) (y 1) (y 2))) (fun y => A2 (ix5 (i 0) (y 1) (y 2) (y 3) (y 4)))
    V4 V5 V6 V7 V8 (ix4 0 (i 1) (i 2) (i 3))

theorem lt40 (t : Fin cfg0.N) : t.val < 40 := lt_of_lt_of_eq t.isLt N_0

theorem e0 : ∀ t : Fin cfg0.N, win0_0.index t = ![t.val, 0, 0, 0] := (by decide +kernel : ∀ t : Fin grid0.N, _)
theorem e1 : ∀ t : Fin cfg0.N, win0_1.index t = ![t.val, 0, 0] := (by decide +kernel : ∀ t : Fin grid0.N, _)
theorem e2 : ∀ t : Fin cfg0.N, win0_2.index t = ![t.val, 0, 0, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0, 0] := (by decide +kernel : ∀ t : Fin grid0.N, _)
theorem e8 : ∀ t : Fin cfg0.N, win0_8.index t = ![t.val, 0, 0, 0] := (by decide +kernel : ∀ t : Fin grid0.N, _)

theorem read0 (A : Vec F S40x200x64x256 .fp8e4m3) (t : Fin cfg0.N) (y : S1x200x64x256.Idx) : (win0_0.blk t).view.read (Elt F) A y = A (ix4 ⟨t.val, lt40 t⟩ (y 1) (y 2) (y 3)) := by
  blk_simp
  refine congrArg A ?_
  idx_bounds y
  blk_ext [e0]

theorem iblk0 (t : Fin cfg0.N) : iblk m c 0 t = fun y => m ((c : Thread nD τ).loc main_arg0) (ix4 ⟨t.val, lt40 t⟩ (y 1) (y 2) (y 3)) := by
  funext y
  exact (read0 (V m c main_arg0) t y).trans (congrFun (V_main_arg0 m c) _)

theorem read1 (A : Vec F S40x200x256 .f32) (t : Fin cfg0.N) (y : S1x200x256.Idx) : (win0_1.blk t).view.read (Elt F) A y = A (ix3 ⟨t.val, lt40 t⟩ (y 1) (y 2)) := by
  blk_simp
  refine congrArg A ?_
  idx_bounds y
  blk_ext [e1]

theorem iblk1 (t : Fin cfg0.N) : iblk m c 1 t = fun y => m ((c : Thread nD τ).loc main_arg1) (ix3 ⟨t.val, lt40 t⟩ (y 1) (y 2)) := by
  funext y
  exact (read1 (V m c main_arg1) t y).trans (congrFun (V_main_arg1 m c) _)

theorem read2 (A : Vec F S40x14x18x4x128 .f32) (t : Fin cfg0.N) (y : S1x14x18x4x128.Idx) : (win0_2.blk t).view.read (Elt F) A y = A (ix5 ⟨t.val, lt40 t⟩ (y 1) (y 2) (y 3) (y 4)) := by
  blk_simp
  refine congrArg A ?_
  idx_bounds y
  blk_ext [e2]

theorem iblk2 (t : Fin cfg0.N) : iblk m c 2 t = fun y => m ((c : Thread nD τ).loc main_arg2) (ix5 ⟨t.val, lt40 t⟩ (y 1) (y 2) (y 3) (y 4)) := by
  funext y
  exact (read2 (V m c main_arg2) t y).trans (congrFun (V_main_arg2 m c) _)

theorem read3 (A : Vec F S72x512 .bf16) (t : Fin cfg0.N) (y : S72x512.Idx) : (win0_3.blk t).view.read (Elt F) A y = A y := by
  blk_simp
  refine congrArg A ?_
  idx_bounds y
  blk_ext [e3]

theorem iblk3 (t : Fin cfg0.N) : iblk m c 3 t = V m c main_v1 := by
  funext y
  exact read3 (V m c main_v1) t y

theorem read4 (A : Vec F S208x208 .bf16) (t : Fin cfg0.N) (y : S208x208.Idx) : (win0_4.blk t).view.read (Elt F) A y = A y := by
  blk_simp
  refine congrArg A ?_
  idx_bounds y
  blk_ext [e4]

theorem iblk4 (t : Fin cfg0.N) : iblk m c 4 t = V m c main_v64 := by
  funext y
  exact read4 (V m c main_v64) t y

theorem read5 (A : Vec F S64x64 .fp8e4m3) (t : Fin cfg0.N) (y : S64x64.Idx) : (win0_5.blk t).view.read (Elt F) A y = A y := by
  blk_simp
  refine congrArg A ?_
  idx_bounds y
  blk_ext [e5]

theorem iblk5 (t : Fin cfg0.N) : iblk m c 5 t = V m c main_v91 := by
  funext y
  exact read5 (V m c main_v91) t y

theorem read6 (A : Vec F S64x128 .f32) (t : Fin cfg0.N) (y : S64x128.Idx) : (win0_6.blk t).view.read (Elt F) A y = A y := by
  blk_simp
  refine congrArg A ?_
  idx_bounds y
  blk_ext [e6]

theorem iblk6 (t : Fin cfg0.N) : iblk m c 6 t = V m c main_v68 := by
  funext y
  exact read6 (V m c main_v68) t y

theorem read7 (A : Vec F S64x16x256 .bf16) (t : Fin cfg0.N) (y : S64x16x256.Idx) : (win0_7.blk t).view.read (Elt F) A y = A y := by
  blk_simp
  refine congrArg A ?_
  idx_bounds y
  blk_ext [e7]

theorem iblk7 (t : Fin cfg0.N) : iblk m c 7 t = V m c main_v90 := by
  funext y
  exact read7 (V m c main_v90) t y

theorem emb8 (t : Fin cfg0.N) (y : S1x200x64x256.Idx) : (win0_8.blk t).view.emb y = ix4 ⟨t.val, lt40 t⟩ (y 1) (y 2) (y 3) := by
  idx_bounds y
  blk_ext [e8]

theorem kout_emb (A0 : Vec F S40x200x64x256 .fp8e4m3) (A1 : Vec F S40x200x256 .f32) (A2 : Vec F S40x14x18x4x128 .f32) (V4 : Vec F S72x512 .bf16)
    (V5 : Vec F S208x208 .bf16) (V6 : Vec F S64x64 .fp8e4m3) (V7 : Vec F S64x128 .f32) (V8 : Vec F S64x16x256 .bf16) (t : Fin cfg0.N) (y : S1x200x64x256.Idx) :
    outBlock (fun y => A0 (ix4 ⟨t.val, lt40 t⟩ (y 1) (y 2) (y 3))) (fun y => A1 (ix3 ⟨t.val, lt40 t⟩ (y 1) (y 2))) (fun y => A2 (ix5 ⟨t.val, lt40 t⟩ (y 1) (y 2) (y 3) (y 4)))
      V4 V5 V6 V7 V8 y = kout A0 A1 A2 V4 V5 V6 V7 V8 ((win0_8.blk t).view.emb y) := by
  rw [emb8]
  have hy : y = ix4 0 (y 1) (y 2) (y 3) := by
    funext a
    fin_cases a
    · exact Subsingleton.elim (α := Fin 1) _ _
    · rfl
    · rfl
    · rfl
  exact congrArg _ hy

/-- The result array after the run. -/
theorem final8 : (dats m 0 c).arrAt 8 cfg0.N = kout (m ((c : Thread nD τ).loc main_arg0)) (m ((c : Thread nD τ).loc main_arg1)) (m ((c : Thread nD τ).loc main_arg2))
    (V m c main_v1) (V m c main_v64) (V m c main_v91) (V m c main_v68) (V m c main_v90) := by
  refine (dats m 0 c).arrAt_eq_of_covers 8 _ (by decide +kernel) fun t hf y => ?_
  blk_simp
  rw [after0_8, iblk0, iblk1, iblk2, iblk3, iblk4, iblk5, iblk6, iblk7]
  exact kout_emb _ _ _ _ _ _ _ _ t y

end Cert.KernelIdeal.Hand

end
-- ==== Proof.KernelIdeal.Host.lean ====
/-
  What the host operations before the kernel leave in its table operands.
-/
module

public import proofs.«01_k».proof.Proof.KernelIdeal.Run
public import Idealize.ShloMosaic.Lib.StableHlo.ReadAt
public import Idealize.ShloMosaic.Lib.Routing.OpsSet
public import Idealize.ShloMosaic.Lib.Routing.OpsOne

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-! What the host operations before the region leave in the region's table operands, as functions of the arguments. -/

/-- A matrix rounded to bf16 and widened again. -/
def rnd {s : Shape} (v : FVec F s .f32) : FVec F s .f32 := extf .f32 (truncf .bf16 v bitsLt_bf16_f32) bitsLt_bf16_f32

/-- What rounding leaves behind. -/
def rest {s : Shape} (v : FVec F s .f32) : FVec F s .f32 := subf v (rnd v)

/-- The inverse column transform, scaled. -/
def scaled (W : FVec F S2x28x200 .bf16) : FVec F S2x28x200 .f32 :=
  mulf (extf .f32 W bitsLt_bf16_f32) (broadcastInDim S2x28x200 ![] bcast_S_S2x28x200 (constant S_ .f32 0x3723D70A#32))

/-- Three bf16 pieces of the scaled inverse column transform, stacked. -/
def pieces (W : FVec F S2x28x200 .bf16) : FVec F S3x2x28x200 .bf16 :=
  truncf .bf16 (concatenate S3x2x28x200 0
    [⟨S1x2x28x200, broadcastInDim S1x2x28x200 ![1, 2, 3] bcast_S2x28x200_S1x2x28x200_1_2_3 (rnd (scaled W))⟩,
     ⟨S1x2x28x200, broadcastInDim S1x2x28x200 ![1, 2, 3] bcast_S2x28x200_S1x2x28x200_1_2_3 (rnd (rest (scaled W)))⟩,
     ⟨S1x2x28x200, broadcastInDim S1x2x28x200 ![1, 2, 3] bcast_S2x28x200_S1x2x28x200_1_2_3 (rnd (rest (rest (scaled W))))⟩]
    concatenates_S1x2x28x200_S1x2x28x200_S1x2x28x200_S3x2x28x200_d0) bitsLt_bf16_f32

/-- One piece of one part, with rows the spatial columns. -/
def pieceT (P : FVec F S3x2x28x200 .bf16) (off : Fin 4 → ℕ) (h : S3x2x28x200.Slices off S1x1x28x200) : FVec F S200x28 .bf16 :=
  transpose S200x28 [1, 0] (shapeCast S28x200 (extractStridedSlice S1x1x28x200 off P h) shapeCasts_S1x1x28x200_S28x200) transposes_S28x200_S200x28_1_0

/-- The words at which a block is put: row zero and column `i`. -/
def at2 (i : BitVec 32) : IVec S2 32 :=
  concatenate S2 0 [⟨S1, broadcastInDim S1 ![] bcast_S_S1 (constantI S_ 32 0#32)⟩, ⟨S1, broadcastInDim S1 ![] bcast_S_S1 (constantI S_ 32 i)⟩] concatenates_S1_S1_S2_d0

/-- A table with a block put at column `i`. -/
def put (x : FVec F S208x208 .bf16) (i : BitVec 32) (u : FVec F S200x28 .bf16) : FVec F S208x208 .bf16 :=
  Host.scatter scatter_S208x208_S2_S200x28_01_n_01_0 (fun _ b => b) x (at2 i) u

/-- The table of the inverse column transform. -/
def table (W : FVec F S2x28x200 .bf16) : FVec F S208x208 .bf16 :=
  Host.scatter scatter_S208x208_S1_S208x3_01_n_1_0 (fun _ b => b)
    (put (put (put (put (put (put (broadcastInDim S208x208 ![] bcast_S_S208x208 (constant S_ .bf16 0x0000#16))
      0#32 (pieceT (pieces W) ![0, 0, 0, 0] slices_S3x2x28x200_S1x1x28x200_0_0_0_0))
      32#32 (pieceT (pieces W) ![0, 1, 0, 0] slices_S3x2x28x200_S1x1x28x200_0_1_0_0))
      64#32 (pieceT (pieces W) ![1, 0, 0, 0] slices_S3x2x28x200_S1x1x28x200_1_0_0_0))
      96#32 (pieceT (pieces W) ![1, 1, 0, 0] slices_S3x2x28x200_S1x1x28x200_1_1_0_0))
      128#32 (pieceT (pieces W) ![2, 0, 0, 0] slices_S3x2x28x200_S1x1x28x200_2_0_0_0))
      160#32 (pieceT (pieces W) ![2, 1, 0, 0] slices_S3x2x28x200_S1x1x28x200_2_1_0_0))
    (broadcastInDim S1 ![] bcast_S_S1 (constantI S_ 32 192#32))
    (broadcastInDim S208x3 ![] bcast_S_S208x3 (constant S_ .bf16 0x3F80#16))

/-- Half the bias. -/
def halfBias (b : FVec F S64 .f32) : FVec F S64 .f32 := mulf (broadcastInDim S64 ![] bcast_S_S64 (constant S_ .f32 0x3F000000#32)) b

/-- The bias table. -/
def biasTable (b : FVec F S64 .f32) : FVec F S64x16x256 .bf16 :=
  Host.scatter scatter_S64x16x256_S1_S64x3x256_012_n_1_0 (fun _ b => b)
    (broadcastInDim S64x16x256 ![] bcast_S_S64x16x256 (constant S_ .bf16 0x0000#16))
    (broadcastInDim S1 ![] bcast_S_S1 (constantI S_ 32 0#32))
    (broadcastInDim S64x3x256 ![0, 1, 2] bcast_S64x3x1_S64x3x256_0_1_2
      (broadcastInDim S64x3x1 ![0, 1] bcast_S64x3_S64x3x1_0_1
        (transpose S64x3 [1, 0] (truncf .bf16 (concatenate S3x64 0
          [⟨S1x64, broadcastInDim S1x64 ![1] bcast_S64_S1x64_1 (rnd (halfBias b))⟩,
           ⟨S1x64, broadcastInDim S1x64 ![1] bcast_S64_S1x64_1 (rnd (rest (halfBias b)))⟩,
           ⟨S1x64, broadcastInDim S1x64 ![1] bcast_S64_S1x64_1 (rnd (rest (rest (halfBias b))))⟩]
          concatenates_S1x64_S1x64_S1x64_S3x64_d0) bitsLt_bf16_f32) transposes_S3x64_S64x3_1_0)))

theorem V_hinv : V m c main_v1 = shapeCast S72x512 (transpose S36x2x2x256 [3, 0, 2, 1] (m ((c : Thread nD τ).loc main_arg6) : FVec F S2x256x2x36 .bf16) transposes_S2x256x2x36_S36x2x2x256_3_0_2_1) shapeCasts_S36x2x2x256_S72x512 := by
  unfold V
  after_reads_simp
  rfl

set_option maxHeartbeats 4000000 in
theorem V_table : V m c main_v64 = table (m ((c : Thread nD τ).loc main_arg7)) := by
  unfold V
  after_reads_simp
  rfl

theorem V_sh : V m c main_v68 = broadcastInDim S64x128 ![0, 1] bcast_S64x1_S64x128_0_1 (broadcastInDim S64x1 ![0] bcast_S64_S64x1_0 (halfBias (m ((c : Thread nD τ).loc main_arg4)))) := by
  unfold V
  after_reads_simp
  rfl

theorem V_bias : V m c main_v90 = biasTable (m ((c : Thread nD τ).loc main_arg5)) := by
  unfold V
  after_reads_simp
  rfl

theorem V_skip : V m c main_v91 = transpose S64x64 [1, 0] (m ((c : Thread nD τ).loc main_arg3) : FVec F S64x64 .fp8e4m3) transposes_S64x64_S64x64_1_0 := by
  unfold V
  after_reads_simp

end Cert.KernelIdeal.Hand

end
-- ==== Proof.KernelIdeal.Tables.lean ====
/-
  The table operands of the kernel at an index, over the extended reals.
-/
module

public import proofs.«01_k».proof.Proof.KernelIdeal.Host
public import Idealize.ShloMosaic.Lib.Pointwise
public import Idealize.ShloMosaic.Lib.ValueIdx
public import Idealize.ShloMosaic.Lib.Routing.OpsSet
public import Idealize.ShloMosaic.Lib.Routing.OpsOne
public import Idealize.ShloMosaic.Lib.Routing.OpsPair

@[expose] public section

set_option maxRecDepth 16384

noncomputable section

namespace Cert.KernelIdeal.Hand

open Cert.KernelIdeal Cert.KernelIdeal.Gen
open Idealize.ShloMosaic Idealize.ShloMosaic.TcCoe

/-! The table operands of the region at an index, over the extended reals. -/

theorem word0 (i : BitVec 32) : at2 i (ix1 0) = 0#32 := by unfold at2; pointwise
theorem word1 (i : BitVec 32) : at2 i (ix1 1) = i := by unfold at2; pointwise

/-- Where an entry of a block lands. -/
theorem put_lands (n : ℕ) (hn : n < 2 ^ 31) (k : S200x28.Idx) (r c : Fin 208) :
    scatter_S208x208_S2_S200x28_01_n_01_0.resultIdx? k (at2 (BitVec.ofNat 32 n)) = some (ix2 r c) ↔ (k 0).val = r.val ∧ n + (k 1).val = c.val := by
  refine (Routing.resultIdx?_ix2 (R := 208) (C := 208) scatter_S208x208_S2_S200x28_01_n_01_0 k (at2 (BitVec.ofNat 32 n)) r c).trans ?_
  have h0 : scatter_S208x208_S2_S200x28_01_n_01_0.start k (at2 (BitVec.ofNat 32 n)) 0 = 0 :=
    (Routing.start_pair (R := 208) (C := 208) scatter_S208x208_S2_S200x28_01_n_01_0 rfl rfl (at2 (BitVec.ofNat 32 n)) k 0).trans (congrArg BitVec.toInt (word0 _))
  have h1 : scatter_S208x208_S2_S200x28_01_n_01_0.start k (at2 (BitVec.ofNat 32 n)) 1 = n :=
    ((Routing.start_pair (R := 208) (C := 208) scatter_S208x208_S2_S200x28_01_n_01_0 rfl rfl (at2 (BitVec.ofNat 32 n)) k 1).trans (congrArg BitVec.toInt (word1 _))).trans
      (StableHlo.Predicate.toInt_ofNat_small _ hn)
  have w0 : scatter_S208x208_S2_S200x28_01_n_01_0.window k 0 = (k 0).val := rfl
  have w1 : scatter_S208x208_S2_S200x28_01_n_01_0.window k 1 = (k 1).val := rfl
  rw [h0, h1, w0, w1]
  omega

theorem put_apply (x : FVec Ideal S208x208 .bf16) (n : ℕ) (hn : n < 2 ^ 31) (u : FVec Ideal S200x28 .bf16) (r c : Fin 208) :
    put x (BitVec.ofNat 32 n) u (ix2 r c) = if h : r.val < 200 ∧ n ≤ c.val ∧ c.val - n < 28 then u (ix2 ⟨r.val, h.1⟩ ⟨c.val - n, h.2.2⟩) else x (ix2 r c) := by
  unfold put
  split_ifs with h
  · refine Routing.scatter_set_hit _ _ _ _ _ _ (fun k hk => congrArg u ?_) (ix2 ⟨r.val, h.1⟩ ⟨c.val - n, h.2.2⟩) ((put_lands n hn _ r c).2 ⟨rfl, ?_⟩)
    · have hk := (put_lands n hn k r c).1 hk
      funext a
      apply Fin.ext
      match a with
      | ⟨0, _⟩ => exact hk.1
      | ⟨1, _⟩ => show (k 1).val = c.val - n; omega
    · show n + (c.val - n) = c.val; omega
  · refine Routing.scatter_set_miss _ _ _ _ _ fun k hk => h ?_
    have hk := (put_lands n hn k r c).1 hk
    have h0 : (k 0).val < 200 := (k 0).isLt
    have h1 : (k 1).val < 28 := (k 1).isLt
    omega

/-- Where an entry of the three columns of ones lands. -/
theorem ones_lands (k : S208x3.Idx) (r c : Fin 208) :
    scatter_S208x208_S1_S208x3_01_n_1_0.resultIdx? k (broadcastInDim S1 ![] bcast_S_S1 (constantI S_ 32 192#32)) = some (ix2 r c) ↔ (k 0).val = r.val ∧ 192 + (k 1).val = c.val := by
  refine (Routing.resultIdx?_ix2 (R := 208) (C := 208) scatter_S208x208_S1_S208x3_01_n_1_0 k _ r c).trans ?_
  have h0 : scatter_S208x208_S1_S208x3_01_n_1_0.start k (broadcastInDim S1 ![] bcast_S_S1 (constantI S_ 32 192#32)) 0 = 0 := rfl
  have h1 : scatter_S208x208_S1_S208x3_01_n_1_0.start k (broadcastInDim S1 ![] bcast_S_S1 (constantI S_ 32 192#32)) 1 = 192 := rfl
  have w0 : scatter_S208x208_S1_S208x3_01_n_1_0.window k 0 = (k 0).val := rfl
  have w1 : scatter_S208x208_S1_S208x3_01_n_1_0.window k 1 = (k 1).val := rfl
  rw [h0, h1, w0, w1]
  omega

/-- Where an entry of the bias rows lands. -/
theorem bias_lands (k : S64x3x256.Idx) (ch : Fin 64) (i : Fin 16) (h : Fin 256) :
    scatter_S64x16x256_S1_S64x3x256_012_n_1_0.resultIdx? k (broadcastInDim S1 ![] bcast_S_S1 (constantI S_ 32 0#32)) = some (ix3 ch i h) ↔ (k 0).val = ch.val ∧ (k 1).val = i.val ∧ (k 2).val = h.val := by
  refine (Routing.resultIdx?_eq_some _ _ _ _).trans ?_
  have h0 : scatter_S64x16x256_S1_S64x3x256_012_n_1_0.start k (broadcastInDim S1 ![] bcast_S_S1 (constantI S_ 32 0#32)) 0 = 0 := rfl
  have h1 : scatter_S64x16x256_S1_S64x3x256_012_n_1_0.start k (broadcastInDim S1 ![] bcast_S_S1 (constantI S_ 32 0#32)) 1 = 0 := rfl
  have h2 : scatter_S64x16x256_S1_S64x3x256_012_n_1_0.start k (broadcastInDim S1 ![] bcast_S_S1 (constantI S_ 32 0#32)) 2 = 0 := rfl
  have w0 : scatter_S64x16x256_S1_S64x3x256_012_n_1_0.window k 0 = (k 0).val := rfl
  have w1 : scatter_S64x16x256_S1_S64x3x256_012_n_1_0.window k 1 = (k 1).val := rfl
  have w2 : scatter_S64x16x256_S1_S64x3x256_012_n_1_0.window k 2 = (k 2).val := rfl
  constructor
  · intro H
    have a0 := H 0
    have a1 := H 1
    have a2 := H 2
    rw [h0, w0] at a0
    rw [h1, w1] at a1
    rw [h2, w2] at a2
    have b0 : ((ix3 ch i h) 0).val = ch.val := rfl
    have b1 : ((ix3 ch i h) 1).val = i.val := rfl
    have b2 : ((ix3 ch i h) 2).val = h.val := rfl
    omega
  · intro H a
    match a with
    | ⟨0, _⟩ => show _ + _ = (ch.val : Int); erw [h0, w0]; omega
    | ⟨1, _⟩ => show _ + _ = (i.val : Int); erw [h1, w1]; omega
    | ⟨2, _⟩ => show _ + _ = (h.val : Int); erw [h2, w2]; omega

/-- A number that is not infinite. -/
def Fine (x : EReal) : Prop := x ≠ ⊤ ∧ x ≠ ⊥

theorem Fine.coe {x : EReal} (h : Fine x) : ∃ r : ℝ, x = (r : EReal) := ⟨x.toReal, (EReal.coe_toReal h.1 h.2).symm⟩

theorem Fine.sub_self {x : EReal} (h : Fine x) : x - x = 0 := by
  obtain ⟨r, rfl⟩ := h.coe
  rw [← EReal.coe_sub, _root_.sub_self]; rfl

theorem Fine.mul {x y : EReal} (hx : Fine x) (hy : Fine y) : Fine (x * y) := by
  obtain ⟨r, rfl⟩ := hx.coe
  obtain ⟨q, rfl⟩ := hy.coe
  rw [← EReal.coe_mul]
  exact ⟨EReal.coe_ne_top _, EReal.coe_ne_bot _⟩

theorem pieceT_at (P : FVec Ideal S3x2x28x200 .bf16) (n n' : ℕ) (h : S3x2x28x200.Slices ![n, n', 0, 0] S1x1x28x200) (r r' : Fin 200) (i i' : Fin 28) (p : Fin 3) (q : Fin 2)
    (hp : n = p.val) (hq : n' = q.val) (hr : r.val = r'.val) (hi : i.val = i'.val) : pieceT P ![n, n', 0, 0] h (ix2 r i) = P (ix4 p q i' r') := by
  obtain rfl := Fin.ext hr
  obtain rfl := Fin.ext hi
  subst hp hq
  unfold pieceT
  pointwise

/-- The scaled entries, of which the second and third pieces leave nothing. -/
theorem pieces_at (W : FVec Ideal S2x28x200 .bf16) (p : Fin 3) (q : Fin 2) (i : Fin 28) (r : Fin 200) (hW : Fine (W (ix3 q i r) * Ideal.ofBits .f32 0x3723D70A#32)) :
    pieces W (ix4 p q i r) = if p = 0 then (W (ix3 q i r) * Ideal.ofBits .f32 0x3723D70A#32 : EReal) else (0 : EReal) := by
  unfold pieces rnd rest rnd scaled
  pointwise
  have hs := hW.sub_self
  by_cases h : p = 0
  · subst h
    rfl
  · have hp : ¬ p.val < 1 := fun e => h (Fin.ext (by show p.val = 0; omega))
    refine Eq.trans ?_ (if_neg h).symm
    rw [dif_neg hp]
    split_ifs
    · exact hs
    · refine (congrArg₂ (fun a b : EReal => a - b) hs hs).trans ?_
      show (0 : EReal) - 0 = 0
      exact _root_.sub_zero (0 : EReal)

theorem zero_bf16 : Ideal.ofBits .bf16 0#16 = 0 := by simp [Ideal.ofBits, Ideal.ieee]

set_option maxHeartbeats 2000000 in
theorem table_lo (W : FVec Ideal S2x28x200 .bf16) (w : Fin 200) (p : Fin 3) (q : Fin 2) (i : Fin 32) :
    table W (ix2 ⟨w.val, by omega⟩ ⟨64 * p.val + (32 * q.val + i.val), by omega⟩) = if h : i.val < 28 then pieces W (ix4 p q ⟨i.val, h⟩ w) else (0 : EReal) := by
  unfold table
  rw [Routing.scatter_set_miss _ _ _ _ _ (fun k hk => by
    have hk := ((ones_lands k _ _).1 hk).2
    dsimp only at hk
    omega)]
  rw [put_apply _ 160 (by decide), put_apply _ 128 (by decide), put_apply _ 96 (by decide), put_apply _ 64 (by decide), put_apply _ 32 (by decide), put_apply _ 0 (by decide)]
  have hw := w.isLt
  have hp := p.isLt
  have hq := q.isLt
  have hi := i.isLt
  dsimp only
  by_cases h28 : i.val < 28
  · refine Eq.trans ?_ (dif_pos h28).symm
    split_ifs <;> first
      | (exfalso; omega)
      | exact pieceT_at _ 2 1 _ _ _ _ _ _ _ (by omega) (by omega) rfl (by dsimp only; omega)
      | exact pieceT_at _ 2 0 _ _ _ _ _ _ _ (by omega) (by omega) rfl (by dsimp only; omega)
      | exact pieceT_at _ 1 1 _ _ _ _ _ _ _ (by omega) (by omega) rfl (by dsimp only; omega)
      | exact pieceT_at _ 1 0 _ _ _ _ _ _ _ (by omega) (by omega) rfl (by dsimp only; omega)
      | exact pieceT_at _ 0 1 _ _ _ _ _ _ _ (by omega) (by omega) rfl (by dsimp only; omega)
      | exact pieceT_at _ 0 0 _ _ _ _ _ _ _ (by omega) (by omega) rfl (by dsimp only; omega)
  · refine Eq.trans ?_ (dif_neg h28).symm
    split_ifs <;> first
      | (exfalso; omega)
      | exact zero_bf16

theorem one_bf16 : Ideal.ofBits .bf16 0x3F80#16 = 1 := by
  simp [Ideal.ofBits, Ideal.ieee]
  rw [← EReal.coe_mul, ← EReal.coe_one]
  norm_num

set_option maxHeartbeats 2000000 in
theorem table_hi (W : FVec Ideal S2x28x200 .bf16) (w : Fin 200) (j : Fin 16) :
    table W (ix2 ⟨w.val, by omega⟩ ⟨192 + j.val, by omega⟩) = if j.val < 3 then (1 : EReal) else (0 : EReal) := by
  have hw := w.isLt
  have hj := j.isLt
  unfold table
  by_cases h3 : j.val < 3
  · refine Eq.trans ?_ (if_pos h3).symm
    exact Routing.scatter_set_hit _ _ _ _ _ _ (fun k hk => one_bf16) (ix2 ⟨w.val, by omega⟩ ⟨j.val, h3⟩) ((ones_lands _ _ _).2 ⟨rfl, rfl⟩)
  · refine Eq.trans ?_ (if_neg h3).symm
    rw [Routing.scatter_set_miss _ _ _ _ _ (fun k hk => by
      have hk := ((ones_lands k _ _).1 hk).2
      have h1 : (k 1).val < 3 := (k 1).isLt
      dsimp only at hk
      omega)]
    rw [put_apply _ 160 (by decide), put_apply _ 128 (by decide), put_apply _ 96 (by decide), put_apply _ 64 (by decide), put_apply _ 32 (by decide), put_apply _ 0 (by decide)]
    dsimp only
    split_ifs <;> first
      | (exfalso; omega)
      | exact zero_bf16

/-- The bias rows before they are put in place. -/
def biasRows (b : FVec Ideal S64 .f32) : FVec Ideal S64x3x256 .bf16 :=
  (broadcastInDim S64x3x256 ![0, 1, 2] bcast_S64x3x1_S64x3x256_0_1_2
      (broadcastInDim S64x3x1 ![0, 1] bcast_S64x3_S64x3x1_0_1
        (transpose S64x3 [1, 0] (truncf .bf16 (concatenate S3x64 0
          [⟨S1x64, broadcastInDim S1x64 ![1] bcast_S64_S1x64_1 (rnd (halfBias b))⟩,
           ⟨S1x64, broadcastInDim S1x64 ![1] bcast_S64_S1x64_1 (rnd (rest (halfBias b)))⟩,
           ⟨S1x64, broadcastInDim S1x64 ![1] bcast_S64_S1x64_1 (rnd (rest (rest (halfBias b))))⟩]
          concatenates_S1x64_S1x64_S1x64_S3x64_d0) bitsLt_bf16_f32) transposes_S3x64_S64x3_1_0)))

theorem biasRows_at (b : FVec Ideal S64 .f32) (ch : Fin 64) (p : Fin 3) (h : Fin 256) (hb : Fine (Ideal.ofBits .f32 0x3F000000#32 * b (ix1 ch))) :
    biasRows b (ix3 ch p h) = if p = 0 then (Ideal.ofBits .f32 0x3F000000#32 * b (ix1 ch) : EReal) else (0 : EReal) := by
  unfold biasRows rnd rest rnd halfBias
  pointwise
  have hs := hb.sub_self
  by_cases h : p = 0
  · subst h
    rfl
  · have hp : ¬ p.val < 1 := fun e => h (Fin.ext (by show p.val = 0; omega))
    refine Eq.trans ?_ (if_neg h).symm
    rw [dif_neg hp]
    split_ifs
    · exact hs
    · refine (congrArg₂ (fun a b : EReal => a - b) hs hs).trans ?_
      show (0 : EReal) - 0 = 0
      exact _root_.sub_zero (0 : EReal)

theorem biasTable_at (b : FVec Ideal S64 .f32) (ch : Fin 64) (i : Fin 16) (h : Fin 256) (hb : Fine (Ideal.ofBits .f32 0x3F000000#32 * b (ix1 ch))) :
    biasTable b (ix3 ch i h) = if i = 0 then (Ideal.ofBits .f32 0x3F000000#32 * b (ix1 ch) : EReal) else (0 : EReal) := by
  have hi := i.isLt
  show Host.scatter scatter_S64x16x256_S1_S64x3x256_012_n_1_0 (fun _ b => b)
    (broadcastInDim S64x16x256 ![] bcast_S_S64x16x256 (constant S_ .bf16 0x0000#16))
    (broadcastInDim S1 ![] bcast_S_S1 (constantI S_ 32 0#32)) (biasRows b) (ix3 ch i h) = _
  by_cases h3 : i.val < 3
  · have e : (i = 0) ↔ ((⟨i.val, h3⟩ : Fin 3) = 0) := by rw [Fin.ext_iff, Fin.ext_iff]; rfl
    rw [if_congr e rfl rfl]
    refine Routing.scatter_set_hit _ _ _ _ _ _ (fun k hk => ?_) (ix3 ch ⟨i.val, h3⟩ h) ((bias_lands _ _ _ _).2 ⟨rfl, rfl, rfl⟩)
    have hk := (bias_lands _ _ _ _).1 hk
    refine Eq.trans (congrArg (biasRows b) ?_) (biasRows_at b ch ⟨i.val, h3⟩ h hb)
    funext a
    apply Fin.ext
    match a with
    | ⟨0, _⟩ => exact hk.1
    | ⟨1, _⟩ => exact hk.2.1
    | ⟨2, _⟩ => exact hk.2.2
  · rw [if_neg (fun e => h3 (by rw [e]; decide))]
    rw [Routing.scatter_set_miss _ _ _ _ _ (fun k hk => by
      have hk := ((bias_lands k _ _ _).1 hk).2.1
      have h1 : (k 1).val < 3 := (k 1).isLt
      omega)]
    exact zero_bf16

theorem sh_at (s : FVec Ideal S64 .f32) (ch : Fin 64) (l : Fin 128) :
    broadcastInDim S64x128 ![0, 1] bcast_S64x1_S64x128_0_1 (broadcastInDim S64x1 ![0] bcast_S64_S64x1_0 (halfBias s)) (ix2 ch l) = (Ideal.ofBits .f32 0x3F000000#32 * s (ix1 ch) : EReal) := by
  unfold halfBias
  pointwise

theorem skip_at (S : FVec Ideal S64x64 .fp8e4m3) (a b : Fin 64) : transpose S64x64 [1, 0] S transposes_S64x64_S64x64_1_0 (ix2 a b) = S (ix2 b a) := by
  pointwise

theorem hinv_at (H : FVec Ideal S2x256x2x36 .bf16) (k : Fin 36) (p q : Fin 2) (h : Fin 256) :
    shapeCast S72x512 (transpose S36x2x2x256 [3, 0, 2, 1] H transposes_S2x256x2x36_S36x2x2x256_3_0_2_1) shapeCasts_S36x2x2x256_S72x512 (ix2 ⟨2 * k.val + p.val, by omega⟩ ⟨q.val * 256 + h.val, by omega⟩)
      = H (ix4 p h q k) := by
  pointwise

end Cert.KernelIdeal.Hand

end
-- ==== Proof.KernelIdeal.Sum.lean ====
/-
  The kernel over the extended reals: its products as sums.
-/
module

public import proofs.«01_k».proof.Proof.KernelIdeal.Values
public import Idealize.ShloMosaic.Lib.ValueIdx
public import Idealize.ShloMosaic.Lib.Pointwise
public import Idealize.ShloMosaic.Lib.MatmulPlain

@[expose] public section

set_option maxRecDepth 16384

noncomputable section

namespace Cert.KernelIdeal.Hand

open Cert.KernelIdeal Cert.KernelIdeal.Gen
open Idealize.ShloMosaic Idealize.ShloMosaic.TcCoe

/-! The kernel's values over the extended reals, each product as a sum. -/

/-- A sum over a product range as a double sum. -/
theorem sum_split {M : Type*} [AddCommMonoid M] (a b : ℕ) (f : Fin (a * b) → M) :
    ∑ j, f j = ∑ x : Fin a, ∑ y : Fin b, f ⟨b * x.val + y.val, by
      have := x.isLt; have := y.isLt; calc b * x.val + y.val < b * x.val + b := Nat.add_lt_add_left y.isLt _
        _ = b * (x.val + 1) := by ring
        _ ≤ b * a := Nat.mul_le_mul_left _ x.isLt
        _ = a * b := Nat.mul_comm ..⟩ := by
  rw [← Equiv.sum_comp finProdFinEquiv, Fintype.sum_prod_type]
  refine Finset.sum_congr rfl fun x _ => Finset.sum_congr rfl fun y _ => congrArg f (Fin.ext ?_)
  exact Nat.add_comm ..

theorem zmat_apply (V3 : Vec Ideal S1x14x18x4x128 .f32) (V4 : Vec Ideal S72x512 .bf16) (mp : Fin 14) (r : Fin 128) (l : Fin 512) :
    zmat V3 V4 mp (ix2 r l) = ∑ j : Fin 72, (V3 (ix5 0 mp ⟨j.val / 4, by omega⟩ ⟨j.val % 4, by omega⟩ r) : EReal) * V4 (ix2 j l) := by
  unfold zmat k0_pay53
  pointwise
  refine Finset.sum_congr rfl fun j _ => congrArg (· * _) (congrArg V3 ?_)
  funext a
  apply Fin.ext
  match a with
  | ⟨0, _⟩ => rfl
  | ⟨1, _⟩ => rfl
  | ⟨2, _⟩ => show 0 + 1 * (j.val / 4) = j.val / 4; omega
  | ⟨3, _⟩ => show 0 + 1 * (j.val % 4) = j.val % 4; omega
  | ⟨4, _⟩ => show 0 + 1 * r.val = r.val; omega

variable (Z : Fin 2 → Fin 64 → Fin 64 → Fin 128 → Elt Ideal .f32) (V8 : Vec Ideal S64x16x256 .bf16) (k : Fin 64)

theorem zwin_at (q t : Fin 2) (a : Fin 32) (b : Fin 128) (q' : Fin 2) (r' : Fin 64) (l' : Fin 128) (hq : q = q') (hr : t.val + 2 * a.val = r'.val) (hl : b.val = l'.val) :
    zwin Z k q t (ix2 a b) = Z q' k r' l' := by
  subst hq
  show Z q k ⟨t.val + 2 * a.val, _⟩ b = _
  exact congrArg₂ (Z q k) (Fin.ext hr) (Fin.ext hl)

theorem cat_lo (j : Fin 192) (h : Fin 256) :
    k0_pay18 (zwin Z k 0 0) (zwin Z k 1 0) (zwin Z k 0 1) (zwin Z k 1 1) (biasRow V8 k) (ix2 ⟨j.val, by omega⟩ h)
      = Z ⟨j.val % 64 / 32, by omega⟩ k ⟨2 * (j.val % 32) + h.val / 128, by omega⟩ ⟨h.val % 128, by omega⟩ := by
  unfold k0_pay18
  pointwise
  have hj := j.isLt
  have hh := h.isLt
  split_ifs <;> first
    | (exfalso; omega)
    | exact zwin_at Z k 0 0 _ _ _ _ _ (Fin.ext (by show 0 = j.val % 64 / 32; omega)) (by show 0 + 2 * _ = _; dsimp only; omega) (by dsimp only; omega)
    | exact zwin_at Z k 1 0 _ _ _ _ _ (Fin.ext (by show 1 = j.val % 64 / 32; omega)) (by show 0 + 2 * _ = _; dsimp only; omega) (by dsimp only; omega)
    | exact zwin_at Z k 0 1 _ _ _ _ _ (Fin.ext (by show 0 = j.val % 64 / 32; omega)) (by show 1 + 2 * _ = _; dsimp only; omega) (by dsimp only; omega)
    | exact zwin_at Z k 1 1 _ _ _ _ _ (Fin.ext (by show 1 = j.val % 64 / 32; omega)) (by show 1 + 2 * _ = _; dsimp only; omega) (by dsimp only; omega)

theorem cat_hi (j : Fin 16) (h : Fin 256) :
    k0_pay18 (zwin Z k 0 0) (zwin Z k 1 0) (zwin Z k 0 1) (zwin Z k 1 1) (biasRow V8 k) (ix2 ⟨192 + j.val, by omega⟩ h)
      = V8 (ix3 k j h) := by
  unfold k0_pay18
  pointwise
  have hj := j.isLt
  have hh := h.isLt
  split_ifs <;> first
    | (exfalso; omega)
    | exact congrArg V8 (congrArg (fun a => ix3 k a h) (Fin.ext (by show 192 + j.val - 64 - 64 - 64 = j.val; omega)))

theorem smat_apply (V5 : Vec Ideal S208x208 .bf16) (w : Fin 208) (h : Fin 256) :
    smat Z V5 V8 k (ix2 w h) = ∑ j : Fin 192, (V5 (ix2 w ⟨j.val, by omega⟩) : EReal) *
        Z ⟨j.val % 64 / 32, by omega⟩ k ⟨2 * (j.val % 32) + h.val / 128, by omega⟩ ⟨h.val % 128, by omega⟩
      + ∑ j : Fin 16, (V5 (ix2 w ⟨192 + j.val, by omega⟩) : EReal) * V8 (ix3 k j h) := by
  have e : smat Z V5 V8 k (ix2 w h) = ∑ x : Fin (192 + 16), (V5 (ix2 w x) : EReal) *
      k0_pay18 (zwin Z k 0 0) (zwin Z k 1 0) (zwin Z k 0 1) (zwin Z k 1 1) (biasRow V8 k) (ix2 x h) := by
    unfold smat k0_pay197
    pointwise
  rw [e, Fin.sum_univ_add]
  exact congrArg₂ (· + ·) (Finset.sum_congr rfl fun j _ => congrArg (_ * ·) (cat_lo Z V8 k j h))
    (Finset.sum_congr rfl fun j _ => congrArg (_ * ·) (cat_hi Z V8 k j h))

set_option maxHeartbeats 2000000 in
theorem wmat_diag (V6 : Vec Ideal S64x64 .fp8e4m3) (a : Fin 4) (ch i : Fin 64) :
    wmat V6 (ix2 ⟨a.val * 64 + ch.val, by omega⟩ ⟨64 * a.val + i.val, by omega⟩) = V6 (ix2 ch i) := by
  have ha := a.isLt
  have hc := ch.isLt
  have hi := i.isLt
  unfold wmat k0_pay1 k0_pay200 k0_pay201 k0_pay202 k0_pay200 k0_pay201
  pointwise
  split_ifs <;> first
    | (exfalso; omega)
    | (refine congrArg V6 (congrArg₂ ix2 (Fin.ext ?_) (Fin.ext ?_)) <;> first | omega | (dsimp only; omega))

set_option maxHeartbeats 2000000 in
theorem wmat_off (V6 : Vec Ideal S64x64 .fp8e4m3) (a b : Fin 4) (hab : b ≠ a) (ch i : Fin 64) :
    wmat V6 (ix2 ⟨a.val * 64 + ch.val, by omega⟩ ⟨64 * b.val + i.val, by omega⟩) = (0 : EReal) := by
  have h0 : Ideal.ofBits .fp8e4m3 0#8 = 0 := by simp [Ideal.ofBits, Ideal.e4m3fn]
  have hn : b.val ≠ a.val := fun h => hab (Fin.ext h)
  have ha := a.isLt
  have hb := b.isLt
  have hc := ch.isLt
  have hi := i.isLt
  unfold wmat k0_pay1 k0_pay200 k0_pay201 k0_pay202 k0_pay200 k0_pay201
  pointwise
  split_ifs <;> first
    | exact h0
    | (exfalso; omega)

theorem wmat_apply (V6 : Vec Ideal S64x64 .fp8e4m3) (a b : Fin 4) (ch i : Fin 64) :
    wmat V6 (ix2 ⟨a.val * 64 + ch.val, by omega⟩ ⟨64 * b.val + i.val, by omega⟩) = if b = a then V6 (ix2 ch i) else (0 : EReal) := by
  by_cases e : b = a
  · subst e
    exact (wmat_diag V6 b ch i).trans (if_pos rfl).symm
  · exact (wmat_off V6 a b e ch i).trans (if_neg e).symm

theorem skip_apply (V1 : Vec Ideal S1x200x64x256 .fp8e4m3) (V6 : Vec Ideal S64x64 .fp8e4m3) (w : Fin 200) (ch : Fin 64) (h : Fin 256) :
    k0_pay20 (wmat V6) (codes4 V1 ⟨w.val / 4, by omega⟩) (ix2 ⟨w.val % 4 * 64 + ch.val, by omega⟩ h)
      = ∑ i : Fin 64, (V6 (ix2 ch i) : EReal) * V1 (ix4 0 w i h) := by
  have e : k0_pay20 (wmat V6) (codes4 V1 ⟨w.val / 4, by omega⟩) (ix2 ⟨w.val % 4 * 64 + ch.val, by omega⟩ h)
      = ∑ x : Fin (4 * 64), (wmat V6 (ix2 ⟨w.val % 4 * 64 + ch.val, by omega⟩ x) : EReal) * codes4 V1 ⟨w.val / 4, by omega⟩ (ix4 0 ⟨x.val / 64, by omega⟩ ⟨x.val % 64, by omega⟩ h) := by
    unfold k0_pay20
    pointwise
  rw [e, sum_split]
  rw [Finset.sum_eq_single (⟨w.val % 4, by omega⟩ : Fin 4)]
  · refine Finset.sum_congr rfl fun i _ => congrArg₂ (· * ·) ?_ ?_
    · exact (wmat_apply V6 ⟨w.val % 4, by omega⟩ ⟨w.val % 4, by omega⟩ ch i).trans (if_pos rfl)
    · refine congrArg V1 ?_
      have hi := i.isLt
      funext a
      apply Fin.ext
      match a with
      | ⟨0, _⟩ => rfl
      | ⟨1, _⟩ => show 4 * (w.val / 4) + (64 * (w.val % 4) + i.val) / 64 = w.val; omega
      | ⟨2, _⟩ => show (64 * (w.val % 4) + i.val) % 64 = i.val; omega
      | ⟨3, _⟩ => rfl
  · intro b _ hb
    refine Finset.sum_eq_zero fun i _ => ?_
    rw [wmat_apply V6 ⟨w.val % 4, by omega⟩ b ch i, if_neg hb, zero_mul]
  · intro h; exact absurd (Finset.mem_univ _) h

end Cert.KernelIdeal.Hand

end
-- ==== Proof.KernelIdeal.Arith.lean ====
/-
  Arithmetic of extended reals that the two programs differ by.
-/
module

public import Idealize.ShloMosaic.Lib.Pointwise
public import Idealize.ShloMosaic.Lib.ValueIdx

@[expose] public section

set_option maxRecDepth 16384

noncomputable section

namespace Cert.KernelIdeal.Hand

open Idealize.ShloMosaic
open Idealize.ShloMosaic Idealize.ShloMosaic.TcCoe

/-! Arithmetic of extended reals. -/

theorem half_f32 : Ideal.ofBits .f32 0x3F000000#32 = ((1 / 2 : ℝ) : EReal) := by
  simp [Ideal.ofBits, Ideal.ieee]
  simp only [← EReal.coe_mul]
  exact congrArg Real.toEReal (by norm_num)

theorem one_f32 : Ideal.ofBits .f32 0x3F800000#32 = (1 : EReal) := by
  simp [Ideal.ofBits, Ideal.ieee]
  rw [← EReal.coe_mul, ← EReal.coe_one]
  exact congrArg Real.toEReal (by norm_num)

theorem scale_f32 : Ideal.ofBits .f32 0x37A3D70A#32 = ((10737418 * (2 : ℝ) ^ (-39 : ℤ) : ℝ) : EReal) := by
  simp [Ideal.ofBits, Ideal.ieee]

theorem scale_half : Ideal.ofBits .f32 0x3723D70A#32 = Ideal.ofBits .f32 0x3F000000#32 * Ideal.ofBits .f32 0x37A3D70A#32 := by
  simp [Ideal.ofBits, Ideal.ieee]
  simp only [← EReal.coe_mul]
  exact congrArg Real.toEReal (by norm_num)

theorem root_half : Ideal.ofBits .f32 0x3F000000#32 * Ideal.ofBits .f32 0x3FB504F3#32 = Ideal.ofBits .f32 0x3F3504F3#32 := by
  simp [Ideal.ofBits, Ideal.ieee]
  simp only [← EReal.coe_mul]
  exact congrArg Real.toEReal (by norm_num)

theorem add_mul_of {c : EReal} (h0 : 0 ≤ c) (ht : c ≠ ⊤) (x y : EReal) : (x + y) * c = x * c + y * c := EReal.right_distrib_of_nonneg_of_ne_top h0 ht x y

theorem mul_add_of {c : EReal} (h0 : 0 ≤ c) (ht : c ≠ ⊤) (x y : EReal) : c * (x + y) = c * x + c * y := by
  rw [mul_comm, add_mul_of h0 ht, mul_comm x, mul_comm y]

theorem sum_mul_of {c : EReal} (h0 : 0 ≤ c) (ht : c ≠ ⊤) {n : ℕ} (f : Fin n → EReal) : (∑ i, f i) * c = ∑ i, f i * c := by
  induction n with
  | zero => simp
  | succ n ih => rw [Fin.sum_univ_succ, Fin.sum_univ_succ, add_mul_of h0 ht, ih]

/-- Half of a scaled sum, an affine product and a bias, the half drawn into each. -/
theorem half_law {hh c : EReal} (h0 : 0 ≤ hh) (ht : hh ≠ ⊤) (c0 : 0 ≤ hh * c) (ct : hh * c ≠ ⊤) (W Z : Fin 2 → Fin 28 → EReal) (k ss s b : EReal) :
    (∑ q, ∑ i, (W q i * (hh * c)) * Z q i) + hh * b + k * (ss * (hh * s)) = hh * ((∑ i, ∑ q, W q i * Z q i) * c + (k * (ss * s) + b)) := by
  have e1 : (∑ q, ∑ i, (W q i * (hh * c)) * Z q i) = (∑ i, ∑ q, W q i * Z q i) * (hh * c) := by
    rw [Finset.sum_comm, sum_mul_of c0 ct]
    refine Finset.sum_congr rfl fun i _ => ?_
    rw [sum_mul_of c0 ct]
    exact Finset.sum_congr rfl fun q _ => mul_right_comm _ _ _
  rw [e1, mul_add_of h0 ht, mul_add_of h0 ht, add_assoc, add_comm (hh * b)]
  have e2 : k * (ss * (hh * s)) = hh * (k * (ss * s)) := by
    rw [mul_left_comm ss, mul_left_comm k]
  have e3 : (∑ i, ∑ q, W q i * Z q i) * (hh * c) = hh * ((∑ i, ∑ q, W q i * Z q i) * c) := mul_left_comm _ _ _
  rw [e2, e3]

/-- A sum over three pieces of two parts of 32 entries, where only the first 28 entries of the first piece are not zero. -/
theorem pieces_sum (T : Fin 3 → Fin 2 → Fin 32 → EReal) (Z : Fin 2 → Fin 32 → EReal) (U : Fin 2 → Fin 28 → EReal)
    (h0 : ∀ (q : Fin 2) (i : Fin 28), T 0 q ⟨i.val, by omega⟩ = U q i) (hz : ∀ (p : Fin 3) (q : Fin 2) (i : Fin 32), 28 ≤ i.val ∨ p ≠ 0 → T p q i = 0) :
    ∑ p, ∑ q, ∑ i, T p q i * Z q i = ∑ q, ∑ i : Fin 28, U q i * Z q ⟨i.val, by omega⟩ := by
  have z : ∀ p : Fin 3, p ≠ 0 → ∑ q, ∑ i, T p q i * Z q i = 0 := fun p hp =>
    Finset.sum_eq_zero fun q _ => Finset.sum_eq_zero fun i _ => by rw [hz p q i (Or.inr hp), zero_mul]
  rw [Fin.sum_univ_three, z 1 (by decide), z 2 (by decide), add_zero, add_zero]
  refine Finset.sum_congr rfl fun q _ => ?_
  refine (Fin.sum_univ_add (a := 28) (b := 4) fun i : Fin (28 + 4) => T 0 q i * Z q i).trans ?_
  have e : ∑ i : Fin 4, T 0 q (Fin.natAdd 28 i) * Z q (Fin.natAdd 28 i) = 0 := Finset.sum_eq_zero fun i _ => by
    rw [hz 0 q _ (Or.inl (by show 28 ≤ 28 + i.val; omega)), zero_mul]
  refine (congrArg (_ + ·) e).trans ((add_zero _).trans ?_)
  exact Finset.sum_congr rfl fun i _ => congrArg (· * _) (h0 q i)

/-- A sum of which only the first term is not zero, each weight of the first three being one. -/
theorem ones_sum (T B : Fin 16 → EReal) (x : EReal) (h1 : T 0 = 1) (hb : B 0 = x) (hz : ∀ i : Fin 16, i ≠ 0 → B i = 0) : ∑ i, T i * B i = x := by
  rw [Finset.sum_eq_single 0 (fun i _ hi => by rw [hz i hi, mul_zero]) (fun h => absurd (Finset.mem_univ _) h), h1, hb, one_mul]

theorem half_nonneg : 0 ≤ Ideal.ofBits .f32 0x3F000000#32 := by rw [half_f32]; exact EReal.coe_nonneg.2 (by norm_num)
theorem half_ne_top : Ideal.ofBits .f32 0x3F000000#32 ≠ ⊤ := by rw [half_f32]; exact EReal.coe_ne_top _
theorem halfscale_nonneg : 0 ≤ Ideal.ofBits .f32 0x3F000000#32 * Ideal.ofBits .f32 0x37A3D70A#32 := by rw [half_f32, scale_f32, ← EReal.coe_mul]; exact EReal.coe_nonneg.2 (by positivity)
theorem halfscale_ne_top : Ideal.ofBits .f32 0x3F000000#32 * Ideal.ofBits .f32 0x37A3D70A#32 ≠ ⊤ := by rw [half_f32, scale_f32, ← EReal.coe_mul]; exact EReal.coe_ne_top _
theorem halfscale_ne_bot : Ideal.ofBits .f32 0x3F000000#32 * Ideal.ofBits .f32 0x37A3D70A#32 ≠ ⊥ := by rw [half_f32, scale_f32, ← EReal.coe_mul]; exact EReal.coe_ne_bot _

end Cert.KernelIdeal.Hand

end
-- ==== Proof.KernelIdeal.Equal.lean ====
/-
  The result of the kernel at an index, over the extended reals.
-/
module

public import proofs.«01_k».proof.Proof.KernelIdeal.Final
public import proofs.«01_k».proof.Proof.KernelIdeal.Tables
public import proofs.«01_k».proof.Proof.KernelIdeal.Sum
public import proofs.«01_k».proof.Proof.KernelIdeal.Arith

@[expose] public section

set_option maxRecDepth 16384

noncomputable section

namespace Cert.KernelIdeal.Hand

open Cert.KernelIdeal Cert.KernelIdeal.Gen
open Idealize.ShloMosaic Idealize.ShloMosaic.TcCoe

/-! The result of the kernel at an index, over the extended reals. -/

theorem fine_half : Fine (Ideal.ofBits .f32 0x3F000000#32) := ⟨half_ne_top, by rw [half_f32]; exact EReal.coe_ne_bot _⟩
theorem fine_scale : Fine (Ideal.ofBits .f32 0x3723D70A#32) := by rw [scale_half]; exact ⟨halfscale_ne_top, halfscale_ne_bot⟩

section
variable (A0 : Vec Ideal S40x200x64x256 .fp8e4m3) (A1 : Vec Ideal S40x200x256 .f32) (Y : Vec Ideal S40x14x18x4x128 .f32) (S : Vec Ideal S64x64 .fp8e4m3)
  (s b : Vec Ideal S64 .f32) (H : Vec Ideal S2x256x2x36 .bf16) (W : Vec Ideal S2x28x200 .bf16)

/-- One part of the inverse row transform. -/
def zval (n : Fin 40) (ch : Fin 64) (h : Fin 256) (q : Fin 2) (i : Fin 28) : EReal :=
  ∑ k : Fin 36, ∑ p : Fin 2, (H (ix4 p h q k) : EReal) *
    Y (ix5 n ⟨i.val / 2, by omega⟩ ⟨k.val / 2, by omega⟩ ⟨k.val % 2 * 2 + p.val, by omega⟩ ⟨i.val % 2 * 64 + ch.val, by omega⟩)

/-- What the activation is applied to. -/
def vval (n : Fin 40) (w : Fin 200) (ch : Fin 64) (h : Fin 256) : EReal :=
  (∑ i : Fin 28, ∑ q : Fin 2, (W (ix3 q i w) : EReal) * zval Y H n ch h q i) * Ideal.ofBits .f32 0x37A3D70A#32
    + ((∑ i : Fin 64, (A0 (ix4 n w i h) : EReal) * S (ix2 i ch)) * (A1 (ix3 n w h) * s (ix1 ch)) + b (ix1 ch))

/-- The block of the spectrum at one batch element. -/
def yblk (n : Fin 40) : Vec Ideal S1x14x18x4x128 .f32 := fun y => Y (ix5 n (y 1) (y 2) (y 3) (y 4))

/-- The row transform's operand as the host lays it out. -/
def hinv : Vec Ideal S72x512 .bf16 := shapeCast S72x512 (transpose S36x2x2x256 [3, 0, 2, 1] (H : FVec Ideal S2x256x2x36 .bf16) transposes_S2x256x2x36_S36x2x2x256_3_0_2_1) shapeCasts_S36x2x2x256_S72x512

theorem zmat_at (n : Fin 40) (ch : Fin 64) (h : Fin 256) (q : Fin 2) (i : Fin 28) :
    zmat (yblk Y n) (hinv H) ⟨i.val / 2, by omega⟩ (ix2 ⟨i.val % 2 * 64 + ch.val, by omega⟩ ⟨q.val * 256 + h.val, by omega⟩) = zval Y H n ch h q i := by
  refine (zmat_apply _ _ _ _ _).trans ((sum_split 36 2 _).trans ?_)
  unfold zval
  refine Finset.sum_congr rfl fun k _ => Finset.sum_congr rfl fun p _ => ?_
  have hk := k.isLt
  have hp := p.isLt
  rw [mul_comm]
  refine congrArg₂ (fun a b : EReal => a * b) (hinv_at H k p q h) (congrArg Y ?_)
  funext a
  apply Fin.ext
  match a with
  | ⟨0, _⟩ => rfl
  | ⟨1, _⟩ => rfl
  | ⟨2, _⟩ => show (2 * k.val + p.val) / 4 = k.val / 2; omega
  | ⟨3, _⟩ => show (2 * k.val + p.val) % 4 = k.val % 2 * 2 + p.val; omega
  | ⟨4, _⟩ => rfl

theorem zrow_at (n : Fin 40) (ch : Fin 64) (h : Fin 256) (q : Fin 2) (i : Fin 28) (x : Fin 2) (r : Fin 64) (l : Fin 128)
    (hx : x = q) (hr : r.val = 2 * i.val + h.val / 128) (hl : l.val = h.val % 128) : zrow (yblk Y n) (hinv H) x ch r l = zval Y H n ch h q i := by
  subst hx
  have hi := i.isLt
  have hh := h.isLt
  unfold zrow
  rw [dif_pos (by omega)]
  refine Eq.trans ?_ (zmat_at Y H n ch h x i)
  have e1 : (⟨r.val / 4, by omega⟩ : Fin 14) = ⟨i.val / 2, by omega⟩ := Fin.ext (by show r.val / 4 = i.val / 2; omega)
  have e2 : (⟨r.val / 2 % 2 * 64 + ch.val, by omega⟩ : Fin 128) = ⟨i.val % 2 * 64 + ch.val, by omega⟩ := Fin.ext (by show r.val / 2 % 2 * 64 + ch.val = i.val % 2 * 64 + ch.val; omega)
  have e3 : (⟨x.val * 256 + r.val % 2 * 128 + l.val, by omega⟩ : Fin 512) = ⟨x.val * 256 + h.val, by omega⟩ := Fin.ext (by show x.val * 256 + r.val % 2 * 128 + l.val = x.val * 256 + h.val; omega)
  rw [e1, e2, e3]

theorem smat_at (n : Fin 40) (w : Fin 200) (ch : Fin 64) (h : Fin 256) (hW : ∀ q i, Fine (W (ix3 q i w))) (hb : Fine (b (ix1 ch))) :
    (smat (F := Ideal) (zrow (yblk Y n) (hinv H)) (table (F := Ideal) W) (biasTable (F := Ideal) b) ch (ix2 ⟨w.val, by omega⟩ h) : EReal)
      = (∑ q : Fin 2, ∑ i : Fin 28, (W (ix3 q i w) * (Ideal.ofBits .f32 0x3F000000#32 * Ideal.ofBits .f32 0x37A3D70A#32)) * zval Y H n ch h q i) + Ideal.ofBits .f32 0x3F000000#32 * b (ix1 ch) := by
  have hh := h.isLt
  refine (smat_apply _ _ _ _ _ _).trans (congrArg₂ (fun a b : EReal => a + b) ?_ ?_)
  · refine (sum_split 3 64 _).trans ?_
    refine (Finset.sum_congr rfl fun p _ => sum_split 2 32 _).trans ?_
    refine Eq.trans ?_ ((pieces_sum (fun p q i => table (F := Ideal) W (ix2 ⟨w.val, by omega⟩ ⟨64 * p.val + (32 * q.val + i.val), by omega⟩))
      (fun q i => zrow (yblk Y n) (hinv H) q ch ⟨2 * i.val + h.val / 128, by omega⟩ ⟨h.val % 128, by omega⟩)
      (fun q i => W (ix3 q i w) * (Ideal.ofBits .f32 0x3F000000#32 * Ideal.ofBits .f32 0x37A3D70A#32)) ?_ ?_).trans ?_)
    · refine Finset.sum_congr rfl fun p _ => Finset.sum_congr rfl fun q _ => Finset.sum_congr rfl fun i _ => ?_
      have hp := p.isLt
      have hq := q.isLt
      have hi := i.isLt
      refine congrArg (fun a : EReal => _ * a) ?_
      have e1 : (⟨(64 * p.val + (32 * q.val + i.val)) % 64 / 32, by omega⟩ : Fin 2) = q := Fin.ext (by show (64 * p.val + (32 * q.val + i.val)) % 64 / 32 = q.val; omega)
      have e2 : (⟨2 * ((64 * p.val + (32 * q.val + i.val)) % 32) + h.val / 128, by omega⟩ : Fin 64) = ⟨2 * i.val + h.val / 128, by omega⟩ :=
        Fin.ext (by show 2 * ((64 * p.val + (32 * q.val + i.val)) % 32) + h.val / 128 = 2 * i.val + h.val / 128; omega)
      exact congrArg₂ (fun x r => zrow (yblk Y n) (hinv H) x ch r ⟨h.val % 128, by omega⟩) e1 e2
    · intro q i
      refine (table_lo W w 0 q ⟨i.val, by omega⟩).trans ((dif_pos i.isLt).trans ?_)
      refine (pieces_at W 0 q i w ((hW q i).mul fine_scale)).trans ((if_pos rfl).trans ?_)
      rw [scale_half]
    · intro p q i hpi
      refine (table_lo W w p q i).trans ?_
      by_cases h28 : i.val < 28
      · rw [dif_pos h28]
        have hp : p ≠ 0 := hpi.resolve_left (by omega)
        exact (pieces_at W p q _ w ((hW q _).mul fine_scale)).trans (if_neg hp)
      · exact dif_neg h28
    · refine Finset.sum_congr rfl fun q _ => Finset.sum_congr rfl fun i _ => congrArg₂ (fun a b : EReal => a * b) rfl ?_
      exact zrow_at Y H n ch h q i _ _ _ rfl rfl rfl
  · refine ones_sum (fun j => table (F := Ideal) W (ix2 ⟨w.val, by omega⟩ ⟨192 + j.val, by omega⟩)) (fun j => biasTable (F := Ideal) b (ix3 ch j h)) _ ?_ ?_ ?_
    · exact (table_hi W w 0).trans (if_pos (by decide))
    · exact (biasTable_at b ch 0 h (fine_half.mul hb)).trans (if_pos rfl)
    · exact fun i hi => (biasTable_at b ch i h (fine_half.mul hb)).trans (if_neg hi)

/-- The host's layouts of the remaining operands. -/
def skipT : Vec Ideal S64x64 .fp8e4m3 := transpose S64x64 [1, 0] (S : FVec Ideal S64x64 .fp8e4m3) transposes_S64x64_S64x64_1_0
def shT : Vec Ideal S64x128 .f32 := broadcastInDim S64x128 ![0, 1] bcast_S64x1_S64x128_0_1 (broadcastInDim S64x1 ![0] bcast_S64_S64x1_0 (halfBias (F := Ideal) s))

theorem half_at (n : Fin 40) (w : Fin 200) (ch : Fin 64) (h : Fin 256) (hW : ∀ q i, Fine (W (ix3 q i w))) (hb : Fine (b (ix1 ch))) :
    halfv (fun y => A0 (ix4 n (y 1) (y 2) (y 3))) (fun y => A1 (ix3 n (y 1) (y 2))) (wmat (skipT S)) (shT s) (srow (zrow (yblk Y n) (hinv H)) (table (F := Ideal) W) (biasTable (F := Ideal) b)) w ch h
      = Ideal.ofBits .f32 0x3F000000#32 * vval A0 A1 Y S s b H W n w ch h := by
  have e : (∑ i : Fin 64, (skipT S (ix2 ch i) : EReal) * A0 (ix4 n w i h)) = ∑ i : Fin 64, (A0 (ix4 n w i h) : EReal) * S (ix2 i ch) := by
    refine Finset.sum_congr rfl fun i _ => ?_
    rw [mul_comm]
    exact congrArg (fun a : EReal => _ * a) (skip_at S ch i)
  refine Eq.trans ?_ (half_law half_nonneg half_ne_top halfscale_nonneg halfscale_ne_top (fun q i => W (ix3 q i w)) (fun q i => zval Y H n ch h q i) _ _ _ _)
  refine congrArg₂ (fun a b : EReal => a + b) (smat_at Y b H W n w ch h hW hb) ?_
  refine congrArg₂ (fun a b : EReal => a * b) ((skip_apply _ _ _ _ _).trans e) ?_
  exact congrArg (fun a : EReal => _ * a) (sh_at s ch ⟨h.val % 128, by omega⟩)

theorem kout_at (n : Fin 40) (w : Fin 200) (ch : Fin 64) (h : Fin 256) (hW : ∀ q i, Fine (W (ix3 q i w))) (hb : Fine (b (ix1 ch))) :
    (kout A0 A1 Y (hinv H) (table (F := Ideal) W) (skipT S) (shT s) (biasTable (F := Ideal) b) (ix4 n w ch h) : EReal)
      = Ideal.ofBits .f32 0x3F000000#32 * vval A0 A1 Y S s b H W n w ch h * (1 + Ideal.erf (vval A0 A1 Y S s b H W n w ch h * Ideal.ofBits .f32 0x3F3504F3#32)) := by
  have e := half_at A0 A1 Y S s b H W n w ch h hW hb
  refine (congrArg (fun x : EReal => x * (Ideal.erf (x * Ideal.ofBits .f32 0x3FB504F3#32) + Ideal.ofBits .f32 0x3F800000#32)) e).trans ?_
  rw [one_f32, add_comm _ (1 : EReal), mul_comm (Ideal.ofBits .f32 0x3F000000#32) (vval A0 A1 Y S s b H W n w ch h), mul_assoc (vval A0 A1 Y S s b H W n w ch h) _ (Ideal.ofBits .f32 0x3FB504F3#32), root_half]

end

end Cert.KernelIdeal.Hand

end
-- ==== Proof.KernelIdeal.Result.lean ====
/-
  The run of the kernel over the extended reals, with its result.
-/
module

public import proofs.«01_k».proof.Proof.KernelIdeal.Equal
public import proofs.«01_k».proof.Proof.KernelIdeal.Host

@[expose] public section

set_option maxRecDepth 16384

noncomputable section

namespace Cert.KernelIdeal.Hand

open Cert.KernelIdeal Cert.KernelIdeal.Gen
open Idealize.ShloMosaic Idealize.ShloMosaic.TcCoe

open Idealize.SL.Sem

variable (m : (ℓ : Loc nD τ sig) → Buf (Elt Ideal) ℓ) (ρ : Dev nD → PrngReg)

/-- The kernel's run: the result array is the kernel's function of the arguments, which are unchanged. -/
theorem run_value : θ_run defs (onTc (τ := τ) (main (F := Ideal))) ⟨m, fun _ => 0, ρ⟩ fun r => ∀ c : Dev nD,
      r.2.mem ((c : Thread nD τ).loc main_v92) = kout (m ((c : Thread nD τ).loc main_arg0)) (m ((c : Thread nD τ).loc main_arg1)) (m ((c : Thread nD τ).loc main_arg2))
        (hinv (m ((c : Thread nD τ).loc main_arg6))) (table (F := Ideal) (m ((c : Thread nD τ).loc main_arg7))) (skipT (m ((c : Thread nD τ).loc main_arg3)))
        (shT (m ((c : Thread nD τ).loc main_arg4))) (biasTable (F := Ideal) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
      refine ⟨?_, h.2.1 c⟩
      refine ((h.1 c).1 8).trans ((final8 m c).trans ?_)
      rw [V_hinv, V_table, V_sh, V_bias, V_skip]
      rfl)
    (θ_run_and (run_main m ρ) (frame_hand m ρ))

end Cert.KernelIdeal.Hand

end
-- ==== Proof.ReferenceIdeal.Value.lean ====
/-
  The reference over the extended reals, at an index.
-/
module

public import proofs.«01_k».proof.Proof.Gen.ReferenceIdeal.Value
public import Idealize.ShloMosaic.Lib.StableHlo.ReadAt
public import Idealize.ShloMosaic.Lib.ValueIdx
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ) (c : Dev nD)

/-- The transformed spectrum as the region finds it, at an index. -/
theorem V_spec (b : Fin 40) (w : Fin 200) (ch : Fin 64) (h : Fin 256) (Y : Vec Ideal S40x14x18x4x128 .f32) (H : Vec Ideal S2x256x2x36 .bf16) (W : Vec Ideal S2x28x200 .bf16)
    (hY : m ((c : Thread nD τ).loc main_arg2) = Y) (hH : m ((c : Thread nD τ).loc main_arg6) = H) (hW : m ((c : Thread nD τ).loc main_arg7) = W) :
    V m c main_v11 (ix4 b w ch h) = (∑ i : Fin 28, ∑ q : Fin 2, (W (ix3 q i w) : EReal) *
      ∑ k : Fin 36, ∑ p : Fin 2, (H (ix4 p h q k) : EReal) *
        Y (ix5 b ⟨i.val / 2, by omega⟩ ⟨k.val / 2, by omega⟩ ⟨k.val % 2 * 2 + p.val, by omega⟩ ⟨i.val % 2 * 64 + ch.val, by omega⟩)) * Ideal.ofBits .f32 0x37A3D70A#32 := by
  subst hY hH hW
  unfold V
  after_reads_at

theorem out_at (x0 : Vec Ideal S40x200x64x256 .fp8e4m3) (x1 : Vec Ideal S40x200x256 .f32) (x2 : Vec Ideal S40x200x64x256 .f32) (x3 : Vec Ideal S64x64 .fp8e4m3)
    (x4 : Vec Ideal S64 .f32) (x5 : Vec Ideal S64 .f32) (b : Fin 40) (w : Fin 200) (ch : Fin 64) (h : Fin 256) :
    out0_6 x0 x1 x2 x3 x4 x5 (ix4 b w ch h) = Ideal.ofBits .f32 0x3F000000#32 *
        (x2 (ix4 b w ch h) + ((∑ i : Fin 64, x0 (ix4 b w i h) * x3 (ix2 i ch)) * (x1 (ix3 b w h) * x4 (ix1 ch)) + x5 (ix1 ch)) : EReal) *
      (1 + Ideal.erf ((x2 (ix4 b w ch h) + ((∑ i : Fin 64, x0 (ix4 b w i h) * x3 (ix2 i ch)) * (x1 (ix3 b w h) * x4 (ix1 ch)) + x5 (ix1 ch))) * Ideal.ofBits .f32 0x3F3504F3#32)) := by
  unfold out0_6
  rw [View.canon_cons_unit_lit _ _ _ (by decide), View.ld_unit_lit _ _ (by decide), View.ld_unit_lit _ _ (by decide), View.ld_unit_lit _ _ (by decide), View.ld_unit_lit _ _ (by decide), View.ld_unit_lit _ _ (by decide), View.ld_unit_lit _ _ (by decide)]
  unfold k0_pay1
  pointwise
  rfl

theorem e0 : ∀ t : Fin cfg0.N, win0_0.index t = ![0, 0, 0, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0, 0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0] := (by decide +kernel : ∀ t : Fin grid0.N, _)
theorem e5 : ∀ t : Fin cfg0.N, win0_5.index t = ![0] := (by decide +kernel : ∀ t : Fin grid0.N, _)
theorem e6 : ∀ t : Fin cfg0.N, win0_6.index t = ![0, 0, 0, 0] := (by decide +kernel : ∀ t : Fin grid0.N, _)

theorem read0 (A : Vec Ideal S40x200x64x256 .fp8e4m3) (t : Fin cfg0.N) (y : S40x200x64x256.Idx) : (win0_0.blk t).view.read (Elt Ideal) A y = A y := by
  blk_simp
  refine congrArg A ?_
  idx_bounds y
  blk_ext [e0]

theorem iblk0 (t : Fin cfg0.N) : iblk m c 0 t = m ((c : Thread nD τ).loc main_arg0) := by
  funext y
  exact (read0 (V m c main_arg0) t y).trans (congrFun (V_main_arg0 m c) y)

theorem read1 (A : Vec Ideal S40x200x256 .f32) (t : Fin cfg0.N) (y : S40x200x256.Idx) : (win0_1.blk t).view.read (Elt Ideal) A y = A y := by
  blk_simp
  refine congrArg A ?_
  idx_bounds y
  blk_ext [e1]

theorem iblk1 (t : Fin cfg0.N) : iblk m c 1 t = m ((c : Thread nD τ).loc main_arg1) := by
  funext y
  exact (read1 (V m c main_arg1) t y).trans (congrFun (V_main_arg1 m c) y)

theorem read2 (A : Vec Ideal S40x200x64x256 .f32) (t : Fin cfg0.N) (y : S40x200x64x256.Idx) : (win0_2.blk t).view.read (Elt Ideal) A y = A y := by
  blk_simp
  refine congrArg A ?_
  idx_bounds y
  blk_ext [e2]

theorem iblk2 (t : Fin cfg0.N) : iblk m c 2 t = V m c main_v11 := by
  funext y
  exact read2 (V m c main_v11) t y

theorem read3 (A : Vec Ideal S64x64 .fp8e4m3) (t : Fin cfg0.N) (y : S64x64.Idx) : (win0_3.blk t).view.read (Elt Ideal) A y = A y := by
  blk_simp
  refine congrArg A ?_
  idx_bounds y
  blk_ext [e3]

theorem iblk3 (t : Fin cfg0.N) : iblk m c 3 t = m ((c : Thread nD τ).loc main_arg3) := by
  funext y
  exact (read3 (V m c main_arg3) t y).trans (congrFun (V_main_arg3 m c) y)

theorem read4 (A : Vec Ideal S64 .f32) (t : Fin cfg0.N) (y : S64.Idx) : (win0_4.blk t).view.read (Elt Ideal) A y = A y := by
  blk_simp
  refine congrArg A ?_
  idx_bounds y
  blk_ext [e4]

theorem iblk4 (t : Fin cfg0.N) : iblk m c 4 t = m ((c : Thread nD τ).loc main_arg4) := by
  funext y
  exact (read4 (V m c main_arg4) t y).trans (congrFun (V_main_arg4 m c) y)

theorem read5 (A : Vec Ideal S64 .f32) (t : Fin cfg0.N) (y : S64.Idx) : (win0_5.blk t).view.read (Elt Ideal) A y = A y := by
  blk_simp
  refine congrArg A ?_
  idx_bounds y
  blk_ext [e5]

theorem iblk5 (t : Fin cfg0.N) : iblk m c 5 t = m ((c : Thread nD τ).loc main_arg5) := by
  funext y
  exact (read5 (V m c main_arg5) t y).trans (congrFun (V_main_arg5 m c) y)

theorem emb6 (t : Fin cfg0.N) (y : S40x200x64x256.Idx) : (win0_6.blk t).view.emb y = y := by
  idx_bounds y
  blk_ext [e6]

/-- The result array of the reference. -/
theorem final6 : (dats m 0 c).arrAt 6 cfg0.N = out0_6 (m ((c : Thread nD τ).loc main_arg0)) (m ((c : Thread nD τ).loc main_arg1)) (V m c main_v11) (m ((c : Thread nD τ).loc main_arg3))
    (m ((c : Thread nD τ).loc main_arg4)) (m ((c : Thread nD τ).loc main_arg5)) := by
  refine (dats m 0 c).arrAt_eq_of_covers 6 _ (by decide +kernel) fun t hf y => ?_
  blk_simp
  rw [after0_6, iblk0, iblk1, iblk2, iblk3, iblk4, iblk5]
  exact congrArg _ (emb6 t y).symm

end Cert.ReferenceIdeal.Hand

end
-- ==== Proof.Finite.lean ====
/-
  What the precondition says of the arguments.
-/
module

public import proofs.«01_k».proof.Pre_finite
public import Idealize.ShloMosaic.Lib.ReduceAll
public import Idealize.ShloMosaic.Lib.Pointwise
public import Idealize.ShloMosaic.Lib.ValueIdx

@[expose] public section

set_option maxRecDepth 16384

noncomputable section

namespace Cert.Pre_finite

open Cert.Pre_finite
open Idealize.ShloMosaic Idealize.ShloMosaic.TcCoe

theorem facts : Facts where
  bitsLt_bf16_f32 := by decide
  bcast_S_S2x28x200 := by decide
  reducesTo_S2x28x200_S_d0_1_2 := by decide
  h_S_ := by decide
  bcast_S_S64 := by decide
  reducesTo_S64_S_d0 := by decide

/-- A number whose absolute value is below infinity is not infinite. -/
theorem fine_of_lt (x : EReal) (h : Ideal.cmp .olt (max x (-x)) (Ideal.ofBits .f32 0x7F800000#32) = 1#1) : x ≠ ⊤ ∧ x ≠ ⊥ := by
  have hi : Ideal.ofBits .f32 0x7F800000#32 = ⊤ := by simp [Ideal.ofBits, Ideal.ieee]
  rw [hi] at h
  constructor
  · rintro rfl
    simp [Ideal.cmp] at h
  · rintro rfl
    simp [Ideal.cmp] at h

attribute [local instance] facts

variable (a0 : FVec Ideal S40x200x64x256 .fp8e4m3) (a1 : FVec Ideal S40x200x256 .f32) (a2 : FVec Ideal S40x14x18x4x128 .f32) (a3 : FVec Ideal S64x64 .fp8e4m3)
  (a4 a5 : FVec Ideal S64 .f32) (a6 : FVec Ideal S2x256x2x36 .bf16) (a7 : FVec Ideal S2x28x200 .bf16)

theorem finite_of (h : fn a0 a1 a2 a3 a4 a5 a6 a7 ix0 = 1#1) :
    (∀ i, (a7 i : EReal) ≠ ⊤ ∧ (a7 i : EReal) ≠ ⊥) ∧ ∀ i, (a5 i : EReal) ≠ ⊤ ∧ (a5 i : EReal) ≠ ⊥ := by
  have h' := IntOp.andi_eq_one.1 h
  haveI : Subsingleton S_.Idx := ⟨fun a b => funext fun d => d.elim0⟩
  constructor
  · intro i
    have e := Host.reduce_andi_all _ _ _ _ _ h'.1 i
    exact fine_of_lt _ e
  · intro i
    have e := Host.reduce_andi_all _ _ _ _ _ h'.2 i
    exact fine_of_lt _ e

end Cert.Pre_finite

end
-- ==== Proof.Analyze.Values.lean ====
/-
  What the body of the kernel computes, as plain functions of what its operands hold.
-/
module

public import proofs.«01_k».proof.Proof.Gen.Analyze
public import proofs.«01_k».proof.Proof.Gen.Analyze.Skeleton
public import proofs.«01_k».proof.Proof.Gen.Analyze.Launch
public import proofs.«01_k».proof.Proof.Gen.Analyze.Points
public import proofs.«01_k».proof.Proof.Gen.Analyze.Frame
public import Idealize.ShloMosaic.Lib.PointwiseCore
public import Idealize.ShloMosaic.Lib.Pipeline.FrameBody

@[expose] public section

set_option maxRecDepth 16384

noncomputable section

namespace Cert.Analyze.Hand

open Cert.Analyze Cert.Analyze.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- One spatial column of the input block. -/
def xcol (V1 : Vec F S1x200x64x256 .bf16) (w : Fin 200) : FVec F S64x256 .bf16 := fun y => V1 (ix4 0 w (y 0) (y 1))

/-- Four spatial columns of the input block. -/
def x4 (V1 : Vec F S1x200x64x256 .bf16) (ng : Fin 50) : Vec F S1x4x64x256 .bf16 :=
  fun y => V1 (ix4 0 ⟨4 * ng.val + (y 1).val, by have h : (y 1).val < 4 := (y 1).isLt; omega⟩ (y 2) (y 3))

/-- One of four spatial columns. -/
def col (v : Vec F S1x4x64x256 .bf16) (i : Fin 4) : FVec F S64x256 .bf16 := fun y => v (ix4 0 i (y 0) (y 1))

/-- The scaled largest magnitude over the channels. -/
def amax (x : FVec F S64x256 .bf16) : FVec F S1x256 .f32 :=
  mulf (shapeCast S1x256 (multiReduction .maximumf [0] S256 (extf .f32 (absf x) bitsLt_bf16_f32) 0xFF800000#32
    reduces_S64x256_S256 (.inl rfl) rfl) shapeCasts_S256_S1x256) (broadcast S1x256 (Scalar.ofBits .f32 0x3B124925#32))

/-- The scales of one spatial column. -/
def scr (x : FVec F S64x256 .bf16) : FVec F S1x256 .f32 := k0_pay13 k0_pay10 (amax x)

/-- The codes of one spatial column. -/
def cdc (x : FVec F S64x256 .bf16) : FVec F S1x1x64x256 .fp8e4m3 := k0_pay14 x k0_pay10 (amax x)

/-- The scratch buffer, by group of four spatial columns, row and lane: the row transform of the group, then zeros. -/
def arow (V1 : Vec F S1x200x64x256 .bf16) (V2 : Vec F S80x256 .bf16) (ng : Fin 56) (r : Fin 144) (l : Fin 128) : Elt F .f32 :=
  if h : ng.val < 50 then
    k0_pay6 (x4 V1 ⟨ng.val, h⟩) V2 (ix2 ⟨r.val / 2, by omega⟩ ⟨r.val % 2 * 128 + l.val, by omega⟩)
  else Scalar.ofBits (F := F) .f32 0x00000000#32

/-- The scratch buffer's contents read by group, row and lane. -/
def A7 (V : Vec F S8288x128 .f32) (ng : Fin 56) (r : Fin 144) (l : Fin 128) : Elt F .f32 :=
  V (ix2 ⟨148 * ng.val + r.val, by omega⟩ l)

/-- What a strided load of the scratch buffer reads: one row of every group. -/
def awin (A : Fin 56 → Fin 144 → Fin 128 → Elt F .f32) (k : Fin 18) (p k2 t : Fin 2) : Vec F S56x128 .f32 :=
  fun y => A (y 0) ⟨72 * p.val + 4 * k.val + 2 * k2.val + t.val, by omega⟩ (y 1)

/-- The spectrum rows of one pair of row frequencies. -/
def xsv (A : Fin 56 → Fin 144 → Fin 128 → Elt F .f32) (V3 : Vec F S128x224 .bf16) (k : Fin 18) : FVec F S1x1x64x128 .f32 :=
  k0_pay4
    (k0_pay59 (k0_pay57 (awin A k 0 0 0) (awin A k 0 0 1) (awin A k 1 0 0) (awin A k 1 0 1)) (awin A k 0 1 0) (awin A k 0 1 1) (awin A k 1 1 0) (awin A k 1 1 1) V3)
    (k0_pay60 (k0_pay57 (awin A k 0 0 0) (awin A k 0 0 1) (awin A k 1 0 0) (awin A k 1 0 1)) (awin A k 0 1 0) (awin A k 0 1 1) (awin A k 1 1 0) (awin A k 1 1 1) V3)
    (k0_pay61 (k0_pay57 (awin A k 0 0 0) (awin A k 0 0 1) (awin A k 1 0 0) (awin A k 1 0 1)) (awin A k 0 1 0) (awin A k 0 1 1) (awin A k 1 1 0) (awin A k 1 1 1) V3)
    (k0_pay62 (k0_pay57 (awin A k 0 0 0) (awin A k 0 0 1) (awin A k 1 0 0) (awin A k 1 0 1)) (awin A k 0 1 0) (awin A k 0 1 1) (awin A k 1 1 0) (awin A k 1 1 1) V3)

/-- The blocks of the three results at one batch element: the codes, -/
def cBlock (V1 : Vec F S1x200x64x256 .bf16) : Vec F S1x200x64x256 .fp8e4m3 :=
  fun y => cdc (xcol V1 (y 1)) (ix4 0 0 (y 2) (y 3))

/-- the scales -/
def sBlock (V1 : Vec F S1x200x64x256 .bf16) : Vec F S1x200x256 .f32 := fun y => scr (xcol V1 (y 1)) (ix2 0 (y 2))

/-- and the spectrum. -/
def xBlock (V1 : Vec F S1x200x64x256 .bf16) (V2 : Vec F S80x256 .bf16) (V3 : Vec F S128x224 .bf16) : Vec F S1x18x64x128 .f32 :=
  fun y => xsv (arow V1 V2) V3 (y 1) (ix4 0 0 (y 2) (y 3))

omit [FloatOps F] in
/-- A place whose coordinates no index of the rectangle reaches lies outside it. -/
theorem not_mem_rect {s : Shape} (r : Rect s) (y : s.Idx)
    (h : ∀ x : r.shape.Idx, (∀ a, (y a).val = r.off a + r.stride a * (x a).val) → False) : y ∉ r.set := by
  intro hy
  obtain ⟨x, rfl⟩ := r.exists_idx_of_mem hy
  exact h x fun a => Rect.emb_apply ..

omit [FloatOps F] in
/-- Reading after a list of writes that all agree with `G`, at a place that already agreed or that one of them covers. -/
theorem read_writes_of {κ : Kind} {sp : Space} {s : Shape} {e : EltTy} (v : View sig κ sp s e) (f : v.ty.Contents (Elt F)) (G : s.Idx → Elt F e) :
    ∀ L : List (View.Piece (Elt F) s e), (∀ p ∈ L, ∀ x, p.2 x = G (p.1.emb x)) →
      ∀ y, (v.read (Elt F) f y = G y ∨ ∃ p ∈ L, y ∈ p.1.set) → v.read (Elt F) (v.writes (Elt F) f L) y = G y
  | [], _, y, h => by
    rcases h with h | ⟨p, hp, -⟩
    · exact h
    · exact absurd hp List.not_mem_nil
  | p :: L, hL, y, h => by
    by_cases hy : y ∈ p.1.set
    · obtain ⟨x, rfl⟩ := p.1.exists_idx_of_mem hy
      exact (View.read_writes_cons_emb v f p.1 p.2 L x).trans (hL p List.mem_cons_self x)
    · rw [View.read_writes_cons_miss _ _ _ _ _ hy]
      refine read_writes_of v f G L (fun q hq => hL q (List.mem_cons_of_mem _ hq)) y ?_
      rcases h with h | ⟨q, hq, hyq⟩
      · exact Or.inl h
      · rcases List.mem_cons.1 hq with rfl | hq
        · exact absurd hyq hy
        · exact Or.inr ⟨q, hq, hyq⟩

omit [FloatOps F] in
theorem full_read2 {A B : ℕ} {η : EltTy} (m : Memref sig .tc .vmem ⟨2, ![A, B]⟩ η) (X : BufTy.Contents (Elt F) m.view.ty) (inb : _) :
    View.readAt (Elt F) m.view (Rect.unit (s := ⟨2, ![A, B]⟩) ![0, 0] ![A, B] inb).toLoadRect X = m.view.read (Elt F) X := by
  funext y
  show m.view.read (Elt F) X _ = m.view.read (Elt F) X _
  congr 1
  funext a
  apply Fin.ext
  match a with
  | ⟨0, _⟩ => show 0 + 1 * (y 0).val = (y 0).val; omega
  | ⟨1, _⟩ => show 0 + 1 * (y 1).val = (y 1).val; omega

/-! The stored payloads, each as printed, are the codes and the scales of one of four columns. -/

theorem s0 (v : Vec F S1x4x64x256 .bf16) : shapeCast S64x256 (extractStridedSlice S1x64x256 ![0, 0, 0] (k0_pay5 v) slices_S4x64x256_o0_0_0_S1x64x256) shapeCasts_S1x64x256_S64x256 = col v 0 := by
  funext y; idx_vars y; pointwise [k0_pay5, col]
theorem s1 (v : Vec F S1x4x64x256 .bf16) : shapeCast S64x256 (extractStridedSlice S1x64x256 ![1, 0, 0] (k0_pay5 v) slices_S4x64x256_o1_0_0_S1x64x256) shapeCasts_S1x64x256_S64x256 = col v 1 := by
  funext y; idx_vars y; pointwise [k0_pay5, col]
theorem s2 (v : Vec F S1x4x64x256 .bf16) : shapeCast S64x256 (extractStridedSlice S1x64x256 ![2, 0, 0] (k0_pay5 v) slices_S4x64x256_o2_0_0_S1x64x256) shapeCasts_S1x64x256_S64x256 = col v 2 := by
  funext y; idx_vars y; pointwise [k0_pay5, col]
theorem s3 (v : Vec F S1x4x64x256 .bf16) : shapeCast S64x256 (extractStridedSlice S1x64x256 ![3, 0, 0] (k0_pay5 v) slices_S4x64x256_o3_0_0_S1x64x256) shapeCasts_S1x64x256_S64x256 = col v 3 := by
  funext y; idx_vars y; pointwise [k0_pay5, col]

theorem c00 (v : Vec F S1x4x64x256 .bf16) : k0_pay14 (k0_pay9 v) k0_pay10 (k0_pay11 v) = cdc (col v 0) := by rw [← s0]; rfl
theorem d00 (v : Vec F S1x4x64x256 .bf16) : k0_pay13 k0_pay10 (k0_pay11 v) = scr (col v 0) := by rw [← s0]; rfl
theorem c01 (v : Vec F S1x4x64x256 .bf16) : k0_pay20 (k0_pay15 (k0_pay5 v)) (k0_pay16 (k0_pay5 v)) k0_pay17 23#32 = cdc (col v 1) := by rw [← s1]; rfl
theorem d01 (v : Vec F S1x4x64x256 .bf16) : k0_pay19 (k0_pay16 (k0_pay5 v)) k0_pay17 23#32 = scr (col v 1) := by rw [← s1]; rfl
theorem c02 (v : Vec F S1x4x64x256 .bf16) : k0_pay25 (k0_pay21 (k0_pay5 v)) (k0_pay22 (k0_pay5 v)) = cdc (col v 2) := by rw [← s2]; rfl
theorem d02 (v : Vec F S1x4x64x256 .bf16) : k0_pay24 (k0_pay22 (k0_pay5 v)) = scr (col v 2) := by rw [← s2]; rfl
theorem c03 (v : Vec F S1x4x64x256 .bf16) : k0_pay30 (k0_pay29 (k0_pay5 v)) = cdc (col v 3) := by rw [← s3]; rfl
theorem d03 (v : Vec F S1x4x64x256 .bf16) : k0_pay28 (k0_pay5 v) = scr (col v 3) := by rw [← s3]; rfl
theorem c10 (v : Vec F S1x4x64x256 .bf16) : k0_pay41 (k0_pay35 v) (k0_pay36 v) k0_pay37 k0_pay38 = cdc (col v 0) := by rw [← s0]; rfl
theorem d10 (v : Vec F S1x4x64x256 .bf16) : k0_pay40 (k0_pay36 v) k0_pay37 k0_pay38 = scr (col v 0) := by rw [← s0]; rfl
theorem c11 (v : Vec F S1x4x64x256 .bf16) : k0_pay46 (k0_pay42 (k0_pay31 v)) (k0_pay43 (k0_pay31 v)) = cdc (col v 1) := by rw [← s1]; rfl
theorem d11 (v : Vec F S1x4x64x256 .bf16) : k0_pay45 (k0_pay43 (k0_pay31 v)) = scr (col v 1) := by rw [← s1]; rfl
theorem c12 (v : Vec F S1x4x64x256 .bf16) : k0_pay52 (k0_pay51 (k0_pay47 (k0_pay31 v))) = cdc (col v 2) := by rw [← s2]; rfl
theorem d12 (v : Vec F S1x4x64x256 .bf16) : k0_pay50 (k0_pay47 (k0_pay31 v)) = scr (col v 2) := by rw [← s2]; rfl
theorem c13 (v : Vec F S1x4x64x256 .bf16) : k0_pay2 (k0_pay56 (k0_pay31 v)) = cdc (col v 3) := by rw [← s3]; rfl
theorem d13 (v : Vec F S1x4x64x256 .bf16) : k0_pay55 (k0_pay31 v) = scr (col v 3) := by rw [← s3]; rfl
theorem p33 (v : Vec F S1x4x64x256 .bf16) (w : Vec F S80x256 .bf16) : k0_pay33 v w = k0_pay7 v w := rfl
theorem p34 (v : Vec F S1x4x64x256 .bf16) (w : Vec F S80x256 .bf16) : k0_pay34 v w = k0_pay8 v w := rfl

end Cert.Analyze.Hand

end
-- ==== Proof.Analyze.Loop1.lean ====
/-
  The loop over pairs of column groups: one trip quantises eight spatial columns and transforms them along the rows.
-/
module

public import proofs.«01_k».proof.Proof.Gen.Analyze
public import proofs.«01_k».proof.Proof.Gen.Analyze.Skeleton
public import proofs.«01_k».proof.Proof.Gen.Analyze.Launch
public import proofs.«01_k».proof.Proof.Gen.Analyze.Points
public import proofs.«01_k».proof.Proof.Gen.Analyze.Frame
public import proofs.«01_k».proof.Proof.Analyze.Values

@[expose] public section

set_option maxRecDepth 16384

noncomputable section

namespace Cert.Analyze.Hand

open Cert.Analyze Cert.Analyze.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .bf16) (harg1 : arg1.IsWhole)
  (arg2 : Memref sig .tc .vmem S80x256 .bf16) (harg2 : arg2.IsWhole)
  (arg3 : Memref sig .tc .vmem S128x224 .bf16) (harg3 : arg3.IsWhole)
  (arg4 : Memref sig .tc .vmem S1x200x64x256 .fp8e4m3) (harg4 : arg4.IsWhole)
  (arg5 : Memref sig .tc .vmem S1x200x256 .f32) (harg5 : arg5.IsWhole)
  (arg6 : Memref sig .tc .vmem S1x18x64x128 .f32) (harg6 : arg6.IsWhole)
  (arg7 : Memref sig .tc .vmem S8288x128 .f32) (harg7 : arg7.IsWhole)

omit [FloatOps F] in
/-- A load of one group of four columns of the input block. -/
theorem x_read (m : Memref sig .tc .vmem S1x200x64x256 .bf16) (X : BufTy.Contents (Elt F) m.view.ty) (off : Fin 4 → ℕ)
    (g : Fin 50) (hoff : off = ![0, 4 * g.val, 0, 0]) (inb : _) :
    View.readAt (Elt F) m.view (Rect.unit off S1x4x64x256.size inb : Rect S1x200x64x256).toLoadRect X = x4 (m.view.read (Elt F) X) g := by
  subst hoff
  funext y
  show m.view.read (Elt F) X _ = m.view.read (Elt F) X _
  congr 1
  funext a
  apply Fin.ext
  match a with
  | ⟨0, _⟩ => show 0 + 1 * (y 0).val = 0; have h0 : (y 0).val < 1 := (y 0).isLt; omega
  | ⟨1, _⟩ => show 4 * g.val + 1 * (y 1).val = 4 * g.val + (y 1).val; omega
  | ⟨2, _⟩ => show 0 + 1 * (y 2).val = (y 2).val; omega
  | ⟨3, _⟩ => show 0 + 1 * (y 3).val = (y 3).val; omega

/-- Before trip `k` the groups before `2k` of the scratch buffer hold their row transforms, the last six zeros. -/
abbrev inv7 (V1 : Vec F S1x200x64x256 .bf16) (V2 : Vec F S80x256 .bf16) (V : Vec F S8288x128 .f32) (k : ℕ) : Prop :=
  ∀ (ng : Fin 56) (r : Fin 144) (l : Fin 128), ng.val < 2 * k ∨ 50 ≤ ng.val → A7 V ng r l = arow V1 V2 ng r l

/-- Before trip `k` the columns before `8k` of the codes are written, -/
abbrev inv4 (V1 : Vec F S1x200x64x256 .bf16) (V : Vec F S1x200x64x256 .fp8e4m3) (k : ℕ) : Prop :=
  ∀ (w : Fin 200) (ch : Fin 64) (h : Fin 256), w.val < 8 * k → V (ix4 0 w ch h) = cBlock V1 (ix4 0 w ch h)

/-- and those of the scales. -/
abbrev inv5 (V1 : Vec F S1x200x64x256 .bf16) (V : Vec F S1x200x256 .f32) (k : ℕ) : Prop :=
  ∀ (w : Fin 200) (h : Fin 256), w.val < 8 * k → V (ix3 0 w h) = sBlock V1 (ix3 0 w h)

/-- One write into the scratch buffer: every second row of one group. -/
theorem hit7 (V1 : Vec F S1x200x64x256 .bf16) (V2 : Vec F S80x256 .bf16) (m : Memref sig .tc .vmem S8288x128 .f32)
    (f : BufTy.Contents (Elt F) m.view.ty) (L : List (View.Piece (Elt F) S8288x128 .f32)) (ng : Fin 56) (r : Fin 144) (l : Fin 128)
    (off : Fin 2 → ℕ) (g : Fin 50) (t : Fin 2) (hoff : off = ![148 * g.val + t.val, 0]) (inb : _) (pay : FVec F S72x128 .f32)
    (hp : ∀ (j : Fin 72), pay (ix2 j l) = k0_pay6 (x4 V1 g) V2 (ix2 ⟨j.val, by omega⟩ ⟨t.val * 128 + l.val, by omega⟩))
    (h : (ng.val = g.val ∧ r.val % 2 = t.val) ∨ A7 (m.view.read (Elt F) (m.view.writes (Elt F) f L)) ng r l = arow V1 V2 ng r l) :
    A7 (m.view.read (Elt F) (m.view.writes (Elt F) f
      (⟨({ off := off, size := S72x128.size, stride := ![2, 1], inb := inb, stride_pos := spos_2_1 } : Rect S8288x128), pay⟩ :: L))) ng r l
      = arow V1 V2 ng r l := by
  subst hoff
  have hr := r.isLt
  by_cases hc : ng.val = g.val ∧ r.val % 2 = t.val
  · obtain ⟨hn, ht⟩ := hc
    unfold A7
    rw [View.read_writes_cons_hit_of_coords (x := (ix2 ⟨r.val / 2, by omega⟩ l : S72x128.Idx))]
    · rw [hp]
      unfold arow
      have hg : ng.val < 50 := by have := g.isLt; omega
      rw [dif_pos hg]
      have e1 : (⟨ng.val, hg⟩ : Fin 50) = g := Fin.ext hn
      rw [e1]
      congr 1
      congr 1
      apply Fin.ext
      show t.val * 128 + l.val = r.val % 2 * 128 + l.val
      omega
    · intro a
      match a with
      | ⟨0, _⟩ => show 148 * ng.val + r.val = 148 * g.val + t.val + 2 * (r.val / 2); omega
      | ⟨1, _⟩ => show l.val = 0 + 1 * l.val; omega
  · refine Eq.trans ?_ (h.resolve_left hc)
    unfold A7
    rw [View.read_writes_cons_miss]
    refine not_mem_rect _ _ fun x hx => hc ?_
    have h0 := hx 0
    have hx0 : (x 0).val < 72 := (x 0).isLt
    replace h0 : 148 * ng.val + r.val = 148 * g.val + t.val + 2 * (x 0).val := h0
    have ht := t.isLt
    constructor <;> omega

theorem pay7 (v : Vec F S1x4x64x256 .bf16) (w : Vec F S80x256 .bf16) (j : Fin 72) (l : Fin 128) :
    k0_pay7 v w (ix2 j l) = k0_pay6 v w (ix2 ⟨j.val, by omega⟩ ⟨(0 : Fin 2).val * 128 + l.val, by have := l.isLt; show 0 * 128 + l.val < 256; omega⟩) := by
  have e : (⟨(0 : Fin 2).val * 128 + l.val, by have := l.isLt; show 0 * 128 + l.val < 256; omega⟩ : Fin 256) = ⟨l.val, by omega⟩ :=
    Fin.ext (by show 0 * 128 + l.val = l.val; omega)
  rw [e]
  pointwise [k0_pay7]

theorem pay8 (v : Vec F S1x4x64x256 .bf16) (w : Vec F S80x256 .bf16) (j : Fin 72) (l : Fin 128) :
    k0_pay8 v w (ix2 j l) = k0_pay6 v w (ix2 ⟨j.val, by omega⟩ ⟨(1 : Fin 2).val * 128 + l.val, by have := l.isLt; show 1 * 128 + l.val < 256; omega⟩) := by
  have e : (⟨(1 : Fin 2).val * 128 + l.val, by have := l.isLt; show 1 * 128 + l.val < 256; omega⟩ : Fin 256) = ⟨128 + l.val, by omega⟩ :=
    Fin.ext (by show 1 * 128 + l.val = 128 + l.val; omega)
  rw [e]
  pointwise [k0_pay8]

/-- One trip's four strided stores extend the property by two groups. -/
theorem step7 (V1 : Vec F S1x200x64x256 .bf16) (V2 : Vec F S80x256 .bf16) (m : Memref sig .tc .vmem S8288x128 .f32)
    (f : BufTy.Contents (Elt F) m.view.ty) (k : ℕ) (hk : k < 25) (hf : inv7 V1 V2 (m.view.read (Elt F) f) k)
    (o3 o2 o1 o0 : Fin 2 → ℕ) (e3 : o3 = ![296 * k + 148 * 1 + 1, 0]) (e2 : o2 = ![296 * k + 148 * 1 + 0, 0])
    (e1 : o1 = ![296 * k + 148 * 0 + 1, 0]) (e0 : o0 = ![296 * k + 148 * 0 + 0, 0]) (i3 i2 i1 i0 : _)
    (v1 v0 : Vec F S1x4x64x256 .bf16) (w1 w0 : Vec F S80x256 .bf16)
    (h1 : v1 = x4 V1 ⟨2 * k + 1, by omega⟩) (h0 : v0 = x4 V1 ⟨2 * k, by omega⟩) (hw1 : w1 = V2) (hw0 : w0 = V2) :
    inv7 V1 V2 (m.view.read (Elt F) (m.view.writes (Elt F) f
      [⟨({ off := o3, size := S72x128.size, stride := ![2, 1], inb := i3, stride_pos := spos_2_1 } : Rect S8288x128), k0_pay34 v1 w1⟩,
       ⟨({ off := o2, size := S72x128.size, stride := ![2, 1], inb := i2, stride_pos := spos_2_1 } : Rect S8288x128), k0_pay33 v1 w1⟩,
       ⟨({ off := o1, size := S72x128.size, stride := ![2, 1], inb := i1, stride_pos := spos_2_1 } : Rect S8288x128), k0_pay8 v0 w0⟩,
       ⟨({ off := o0, size := S72x128.size, stride := ![2, 1], inb := i0, stride_pos := spos_2_1 } : Rect S8288x128), k0_pay7 v0 w0⟩])) (k + 1) := by
  subst h1 h0 hw1 hw0
  have q3 : o3 = ![148 * (⟨2 * k + 1, by omega⟩ : Fin 50).val + (1 : Fin 2).val, 0] := e3.trans (by congr 1; show 296 * k + 148 * 1 + 1 = 148 * (2 * k + 1) + 1; omega)
  have q2 : o2 = ![148 * (⟨2 * k + 1, by omega⟩ : Fin 50).val + (0 : Fin 2).val, 0] := e2.trans (by congr 1; show 296 * k + 148 * 1 + 0 = 148 * (2 * k + 1) + 0; omega)
  have q1 : o1 = ![148 * (⟨2 * k, by omega⟩ : Fin 50).val + (1 : Fin 2).val, 0] := e1.trans (by congr 1; show 296 * k + 148 * 0 + 1 = 148 * (2 * k) + 1; omega)
  have q0 : o0 = ![148 * (⟨2 * k, by omega⟩ : Fin 50).val + (0 : Fin 2).val, 0] := e0.trans (by congr 1; show 296 * k + 148 * 0 + 0 = 148 * (2 * k) + 0; omega)
  intro ng r l hn
  refine hit7 V1 _ m f _ ng r l o3 ⟨2 * k + 1, by omega⟩ 1 q3 _ _ (fun j => (congrFun (p34 _ _) _).trans (pay8 _ _ j l)) ?_
  by_cases c3 : ng.val = 2 * k + 1 ∧ r.val % 2 = 1
  · exact Or.inl c3
  right
  refine hit7 V1 _ m f _ ng r l o2 ⟨2 * k + 1, by omega⟩ 0 q2 _ _ (fun j => (congrFun (p33 _ _) _).trans (pay7 _ _ j l)) ?_
  by_cases c2 : ng.val = 2 * k + 1 ∧ r.val % 2 = 0
  · exact Or.inl c2
  right
  refine hit7 V1 _ m f _ ng r l o1 ⟨2 * k, by omega⟩ 1 q1 _ _ (fun j => pay8 _ _ j l) ?_
  by_cases c1 : ng.val = 2 * k ∧ r.val % 2 = 1
  · exact Or.inl c1
  right
  refine hit7 V1 _ m f _ ng r l o0 ⟨2 * k, by omega⟩ 0 q0 _ _ (fun j => pay7 _ _ j l) ?_
  by_cases c0 : ng.val = 2 * k ∧ r.val % 2 = 0
  · exact Or.inl c0
  right
  exact hf ng r l (by omega)

/-- A column of a group of four is the column of the block. -/
theorem xcol_x4 (V1 : Vec F S1x200x64x256 .bf16) (g : Fin 50) (i : Fin 4) (w : Fin 200) (h : 4 * g.val + i.val = w.val) :
    col (x4 V1 g) i = xcol V1 w := by
  have e : (⟨4 * g.val + i.val, by omega⟩ : Fin 200) = w := Fin.ext h
  rw [← e]
  rfl

theorem c00_at (V1 : Vec F S1x200x64x256 .bf16) (v : Vec F S1x4x64x256 .bf16) (g : Fin 50) (w : Fin 200) (hv : v = x4 V1 g) (h : 4 * g.val + 0 = w.val) :
    k0_pay14 (k0_pay9 v) k0_pay10 (k0_pay11 v) = cdc (xcol V1 w) := by
  subst hv
  exact (c00 _).trans (by rw [xcol_x4 V1 g 0 w h])
theorem d00_at (V1 : Vec F S1x200x64x256 .bf16) (v : Vec F S1x4x64x256 .bf16) (g : Fin 50) (w : Fin 200) (hv : v = x4 V1 g) (h : 4 * g.val + 0 = w.val) :
    k0_pay13 k0_pay10 (k0_pay11 v) = scr (xcol V1 w) := by
  subst hv
  exact (d00 _).trans (by rw [xcol_x4 V1 g 0 w h])
theorem c01_at (V1 : Vec F S1x200x64x256 .bf16) (v : Vec F S1x4x64x256 .bf16) (g : Fin 50) (w : Fin 200) (hv : v = x4 V1 g) (h : 4 * g.val + 1 = w.val) :
    k0_pay20 (k0_pay15 (k0_pay5 v)) (k0_pay16 (k0_pay5 v)) k0_pay17 23#32 = cdc (xcol V1 w) := by
  subst hv
  exact (c01 _).trans (by rw [xcol_x4 V1 g 1 w h])
theorem d01_at (V1 : Vec F S1x200x64x256 .bf16) (v : Vec F S1x4x64x256 .bf16) (g : Fin 50) (w : Fin 200) (hv : v = x4 V1 g) (h : 4 * g.val + 1 = w.val) :
    k0_pay19 (k0_pay16 (k0_pay5 v)) k0_pay17 23#32 = scr (xcol V1 w) := by
  subst hv
  exact (d01 _).trans (by rw [xcol_x4 V1 g 1 w h])
theorem c02_at (V1 : Vec F S1x200x64x256 .bf16) (v : Vec F S1x4x64x256 .bf16) (g : Fin 50) (w : Fin 200) (hv : v = x4 V1 g) (h : 4 * g.val + 2 = w.val) :
    k0_pay25 (k0_pay21 (k0_pay5 v)) (k0_pay22 (k0_pay5 v)) = cdc (xcol V1 w) := by
  subst hv
  exact (c02 _).trans (by rw [xcol_x4 V1 g 2 w h])
theorem d02_at (V1 : Vec F S1x200x64x256 .bf16) (v : Vec F S1x4x64x256 .bf16) (g : Fin 50) (w : Fin 200) (hv : v = x4 V1 g) (h : 4 * g.val + 2 = w.val) :
    k0_pay24 (k0_pay22 (k0_pay5 v)) = scr (xcol V1 w) := by
  subst hv
  exact (d02 _).trans (by rw [xcol_x4 V1 g 2 w h])
theorem c03_at (V1 : Vec F S1x200x64x256 .bf16) (v : Vec F S1x4x64x256 .bf16) (g : Fin 50) (w : Fin 200) (hv : v = x4 V1 g) (h : 4 * g.val + 3 = w.val) :
    k0_pay30 (k0_pay29 (k0_pay5 v)) = cdc (xcol V1 w) := by
  subst hv
  exact (c03 _).trans (by rw [xcol_x4 V1 g 3 w h])
theorem d03_at (V1 : Vec F S1x200x64x256 .bf16) (v : Vec F S1x4x64x256 .bf16) (g : Fin 50) (w : Fin 200) (hv : v = x4 V1 g) (h : 4 * g.val + 3 = w.val) :
    k0_pay28 (k0_pay5 v) = scr (xcol V1 w) := by
  subst hv
  exact (d03 _).trans (by rw [xcol_x4 V1 g 3 w h])
theorem c10_at (V1 : Vec F S1x200x64x256 .bf16) (v : Vec F S1x4x64x256 .bf16) (g : Fin 50) (w : Fin 200) (hv : v = x4 V1 g) (h : 4 * g.val + 0 = w.val) :
    k0_pay41 (k0_pay35 v) (k0_pay36 v) k0_pay37 k0_pay38 = cdc (xcol V1 w) := by
  subst hv
  exact (c10 _).trans (by rw [xcol_x4 V1 g 0 w h])
theorem d10_at (V1 : Vec F S1x200x64x256 .bf16) (v : Vec F S1x4x64x256 .bf16) (g : Fin 50) (w : Fin 200) (hv : v = x4 V1 g) (h : 4 * g.val + 0 = w.val) :
    k0_pay40 (k0_pay36 v) k0_pay37 k0_pay38 = scr (xcol V1 w) := by
  subst hv
  exact (d10 _).trans (by rw [xcol_x4 V1 g 0 w h])
theorem c11_at (V1 : Vec F S1x200x64x256 .bf16) (v : Vec F S1x4x64x256 .bf16) (g : Fin 50) (w : Fin 200) (hv : v = x4 V1 g) (h : 4 * g.val + 1 = w.val) :
    k0_pay46 (k0_pay42 (k0_pay31 v)) (k0_pay43 (k0_pay31 v)) = cdc (xcol V1 w) := by
  subst hv
  exact (c11 _).trans (by rw [xcol_x4 V1 g 1 w h])
theorem d11_at (V1 : Vec F S1x200x64x256 .bf16) (v : Vec F S1x4x64x256 .bf16) (g : Fin 50) (w : Fin 200) (hv : v = x4 V1 g) (h : 4 * g.val + 1 = w.val) :
    k0_pay45 (k0_pay43 (k0_pay31 v)) = scr (xcol V1 w) := by
  subst hv
  exact (d11 _).trans (by rw [xcol_x4 V1 g 1 w h])
theorem c12_at (V1 : Vec F S1x200x64x256 .bf16) (v : Vec F S1x4x64x256 .bf16) (g : Fin 50) (w : Fin 200) (hv : v = x4 V1 g) (h : 4 * g.val + 2 = w.val) :
    k0_pay52 (k0_pay51 (k0_pay47 (k0_pay31 v))) = cdc (xcol V1 w) := by
  subst hv
  exact (c12 _).trans (by rw [xcol_x4 V1 g 2 w h])
theorem d12_at (V1 : Vec F S1x200x64x256 .bf16) (v : Vec F S1x4x64x256 .bf16) (g : Fin 50) (w : Fin 200) (hv : v = x4 V1 g) (h : 4 * g.val + 2 = w.val) :
    k0_pay50 (k0_pay47 (k0_pay31 v)) = scr (xcol V1 w) := by
  subst hv
  exact (d12 _).trans (by rw [xcol_x4 V1 g 2 w h])
theorem c13_at (V1 : Vec F S1x200x64x256 .bf16) (v : Vec F S1x4x64x256 .bf16) (g : Fin 50) (w : Fin 200) (hv : v = x4 V1 g) (h : 4 * g.val + 3 = w.val) :
    k0_pay2 (k0_pay56 (k0_pay31 v)) = cdc (xcol V1 w) := by
  subst hv
  exact (c13 _).trans (by rw [xcol_x4 V1 g 3 w h])
theorem d13_at (V1 : Vec F S1x200x64x256 .bf16) (v : Vec F S1x4x64x256 .bf16) (g : Fin 50) (w : Fin 200) (hv : v = x4 V1 g) (h : 4 * g.val + 3 = w.val) :
    k0_pay55 (k0_pay31 v) = scr (xcol V1 w) := by
  subst hv
  exact (d13 _).trans (by rw [xcol_x4 V1 g 3 w h])

/-- A column of the codes agrees with the block of the codes. -/
theorem piece4 (V1 : Vec F S1x200x64x256 .bf16) (w : Fin 200) (off : Fin 4 → ℕ) (hoff : off = ![0, w.val, 0, 0]) (inb : _)
    (pay : FVec F S1x1x64x256 .fp8e4m3) (hp : pay = cdc (xcol V1 w)) :
    ∀ x, pay x = cBlock V1 ((Rect.unit (s := S1x200x64x256) off S1x1x64x256.size inb).emb x) := by
  subst hoff hp
  intro x
  unfold cBlock
  have hx0 : (x 0).val < 1 := (x 0).isLt
  have hx1 : (x 1).val < 1 := (x 1).isLt
  have e1 : ((Rect.unit (s := S1x200x64x256) ![0, w.val, 0, 0] S1x1x64x256.size inb).emb x) 1 = w := by
    apply Fin.ext; show w.val + 1 * (x 1).val = w.val; omega
  rw [e1]
  congr 1
  funext a
  apply Fin.ext
  match a with
  | ⟨0, _⟩ => show (x 0).val = 0; omega
  | ⟨1, _⟩ => show (x 1).val = 0; omega
  | ⟨2, _⟩ => show (x 2).val = 0 + 1 * (x 2).val; omega
  | ⟨3, _⟩ => show (x 3).val = 0 + 1 * (x 3).val; omega

omit [FloatOps F] in
/-- A place of the column the rectangle covers lies in it. -/
theorem mem4 (w : Fin 200) (ch : Fin 64) (h : Fin 256) (off : Fin 4 → ℕ) (u : ℕ) (hoff : off = ![0, u, 0, 0]) (hu : w.val = u) (inb : _) :
    (ix4 0 w ch h : S1x200x64x256.Idx) ∈ (Rect.unit (s := S1x200x64x256) off S1x1x64x256.size inb).set := by
  subst hoff hu
  refine (Rect.mem_set_unit (inb := inb)).2 fun a => ?_
  have hch := ch.isLt
  have hh := h.isLt
  match a with
  | ⟨0, _⟩ => show 0 ≤ 0 ∧ 0 < 0 + 1; omega
  | ⟨1, _⟩ => show w.val ≤ w.val ∧ w.val < w.val + 1; omega
  | ⟨2, _⟩ => show 0 ≤ ch.val ∧ ch.val < 0 + 64; omega
  | ⟨3, _⟩ => show 0 ≤ h.val ∧ h.val < 0 + 256; omega

/-- One trip's eight columns of codes extend the property. -/
theorem step4 (V1 : Vec F S1x200x64x256 .bf16) (m : Memref sig .tc .vmem S1x200x64x256 .fp8e4m3) (f : BufTy.Contents (Elt F) m.view.ty)
    (k : ℕ) (hk : k < 25) (hf : inv4 V1 (m.view.read (Elt F) f) k) (o7 o6 o5 o4 o3 o2 o1 o0 : Fin 4 → ℕ)
    (e7 : o7 = ![0, 8 * k + 4 * 1 + 3, 0, 0])
    (e6 : o6 = ![0, 8 * k + 4 * 1 + 2, 0, 0])
    (e5 : o5 = ![0, 8 * k + 4 * 1 + 1, 0, 0])
    (e4 : o4 = ![0, 8 * k + 4 * 1 + 0, 0, 0])
    (e3 : o3 = ![0, 8 * k + 4 * 0 + 3, 0, 0])
    (e2 : o2 = ![0, 8 * k + 4 * 0 + 2, 0, 0])
    (e1 : o1 = ![0, 8 * k + 4 * 0 + 1, 0, 0])
    (e0 : o0 = ![0, 8 * k + 4 * 0 + 0, 0, 0])
    (i7 i6 i5 i4 i3 i2 i1 i0 : _) (p7 p6 p5 p4 p3 p2 p1 p0 : FVec F S1x1x64x256 .fp8e4m3)
    (h7 : p7 = cdc (xcol V1 ⟨8 * k + 4 * 1 + 3, by omega⟩))
    (h6 : p6 = cdc (xcol V1 ⟨8 * k + 4 * 1 + 2, by omega⟩))
    (h5 : p5 = cdc (xcol V1 ⟨8 * k + 4 * 1 + 1, by omega⟩))
    (h4 : p4 = cdc (xcol V1 ⟨8 * k + 4 * 1 + 0, by omega⟩))
    (h3 : p3 = cdc (xcol V1 ⟨8 * k + 4 * 0 + 3, by omega⟩))
    (h2 : p2 = cdc (xcol V1 ⟨8 * k + 4 * 0 + 2, by omega⟩))
    (h1 : p1 = cdc (xcol V1 ⟨8 * k + 4 * 0 + 1, by omega⟩))
    (h0 : p0 = cdc (xcol V1 ⟨8 * k + 4 * 0 + 0, by omega⟩)) :
    inv4 V1 (m.view.read (Elt F) (m.view.writes (Elt F) f
      [⟨Rect.unit (s := S1x200x64x256) o7 S1x1x64x256.size i7, p7⟩,
       ⟨Rect.unit (s := S1x200x64x256) o6 S1x1x64x256.size i6, p6⟩,
       ⟨Rect.unit (s := S1x200x64x256) o5 S1x1x64x256.size i5, p5⟩,
       ⟨Rect.unit (s := S1x200x64x256) o4 S1x1x64x256.size i4, p4⟩,
       ⟨Rect.unit (s := S1x200x64x256) o3 S1x1x64x256.size i3, p3⟩,
       ⟨Rect.unit (s := S1x200x64x256) o2 S1x1x64x256.size i2, p2⟩,
       ⟨Rect.unit (s := S1x200x64x256) o1 S1x1x64x256.size i1, p1⟩,
       ⟨Rect.unit (s := S1x200x64x256) o0 S1x1x64x256.size i0, p0⟩])) (k + 1) := by
  intro w ch h hw
  refine read_writes_of m.view f (cBlock V1) _ ?_ (ix4 0 w ch h) ?_
  · refine List.forall_mem_cons.2 ⟨piece4 V1 ⟨8 * k + 4 * 1 + 3, by omega⟩ o7 e7 i7 p7 h7, ?_⟩
    refine List.forall_mem_cons.2 ⟨piece4 V1 ⟨8 * k + 4 * 1 + 2, by omega⟩ o6 e6 i6 p6 h6, ?_⟩
    refine List.forall_mem_cons.2 ⟨piece4 V1 ⟨8 * k + 4 * 1 + 1, by omega⟩ o5 e5 i5 p5 h5, ?_⟩
    refine List.forall_mem_cons.2 ⟨piece4 V1 ⟨8 * k + 4 * 1 + 0, by omega⟩ o4 e4 i4 p4 h4, ?_⟩
    refine List.forall_mem_cons.2 ⟨piece4 V1 ⟨8 * k + 4 * 0 + 3, by omega⟩ o3 e3 i3 p3 h3, ?_⟩
    refine List.forall_mem_cons.2 ⟨piece4 V1 ⟨8 * k + 4 * 0 + 2, by omega⟩ o2 e2 i2 p2 h2, ?_⟩
    refine List.forall_mem_cons.2 ⟨piece4 V1 ⟨8 * k + 4 * 0 + 1, by omega⟩ o1 e1 i1 p1 h1, ?_⟩
    refine List.forall_mem_cons.2 ⟨piece4 V1 ⟨8 * k + 4 * 0 + 0, by omega⟩ o0 e0 i0 p0 h0, ?_⟩
    exact fun p hp => absurd hp List.not_mem_nil
  · by_cases hc : w.val < 8 * k
    · exact Or.inl (hf w ch h hc)
    right
    have hd : w.val = 8 * k + 4 * 1 + 3 ∨ w.val = 8 * k + 4 * 1 + 2 ∨ w.val = 8 * k + 4 * 1 + 1 ∨ w.val = 8 * k + 4 * 1 + 0 ∨ w.val = 8 * k + 4 * 0 + 3 ∨ w.val = 8 * k + 4 * 0 + 2 ∨ w.val = 8 * k + 4 * 0 + 1 ∨ w.val = 8 * k + 4 * 0 + 0 := by omega
    rcases hd with hd | hd | hd | hd | hd | hd | hd | hd
    · exact ⟨_, (List.Mem.head _), mem4 w ch h _ _ e7 hd i7⟩
    · exact ⟨_, (List.Mem.tail _ (List.Mem.head _)), mem4 w ch h _ _ e6 hd i6⟩
    · exact ⟨_, (List.Mem.tail _ (List.Mem.tail _ (List.Mem.head _))), mem4 w ch h _ _ e5 hd i5⟩
    · exact ⟨_, (List.Mem.tail _ (List.Mem.tail _ (List.Mem.tail _ (List.Mem.head _)))), mem4 w ch h _ _ e4 hd i4⟩
    · exact ⟨_, (List.Mem.tail _ (List.Mem.tail _ (List.Mem.tail _ (List.Mem.tail _ (List.Mem.head _))))), mem4 w ch h _ _ e3 hd i3⟩
    · exact ⟨_, (List.Mem.tail _ (List.Mem.tail _ (List.Mem.tail _ (List.Mem.tail _ (List.Mem.tail _ (List.Mem.head _)))))), mem4 w ch h _ _ e2 hd i2⟩
    · exact ⟨_, (List.Mem.tail _ (List.Mem.tail _ (List.Mem.tail _ (List.Mem.tail _ (List.Mem.tail _ (List.Mem.tail _ (List.Mem.head _))))))), mem4 w ch h _ _ e1 hd i1⟩
    · exact ⟨_, (List.Mem.tail _ (List.Mem.tail _ (List.Mem.tail _ (List.Mem.tail _ (List.Mem.tail _ (List.Mem.tail _ (List.Mem.tail _ (List.Mem.head _)))))))), mem4 w ch h _ _ e0 hd i0⟩

/-- Eight rows of scales agree with the block of the scales. -/
theorem piece5 (V1 : Vec F S1x200x64x256 .bf16) (k : ℕ) (hk : k < 25) (a0 a1 a2 a3 a4 a5 a6 a7 : FVec F S1x256 .f32)
    (h0 : a0 = scr (xcol V1 ⟨8 * k + 0, by omega⟩)) (h1 : a1 = scr (xcol V1 ⟨8 * k + 1, by omega⟩)) (h2 : a2 = scr (xcol V1 ⟨8 * k + 2, by omega⟩))
    (h3 : a3 = scr (xcol V1 ⟨8 * k + 3, by omega⟩)) (h4 : a4 = scr (xcol V1 ⟨8 * k + 4, by omega⟩)) (h5 : a5 = scr (xcol V1 ⟨8 * k + 5, by omega⟩))
    (h6 : a6 = scr (xcol V1 ⟨8 * k + 6, by omega⟩)) (h7 : a7 = scr (xcol V1 ⟨8 * k + 7, by omega⟩)) (j : Fin 8) (h : Fin 256) :
    k0_pay3 a0 a1 a2 a3 a4 a5 a6 a7 (ix3 0 j h) = scr (xcol V1 ⟨8 * k + j.val, by omega⟩) (ix2 0 h) := by
  subst h0 h1 h2 h3 h4 h5 h6 h7
  match j with
  | ⟨0, _⟩ => pointwise [k0_pay3]
  | ⟨1, _⟩ => pointwise [k0_pay3]
  | ⟨2, _⟩ => pointwise [k0_pay3]
  | ⟨3, _⟩ => pointwise [k0_pay3]
  | ⟨4, _⟩ => pointwise [k0_pay3]
  | ⟨5, _⟩ => pointwise [k0_pay3]
  | ⟨6, _⟩ => pointwise [k0_pay3]
  | ⟨7, _⟩ => pointwise [k0_pay3]

theorem step5 (V1 : Vec F S1x200x64x256 .bf16) (m : Memref sig .tc .vmem S1x200x256 .f32) (f : BufTy.Contents (Elt F) m.view.ty)
    (k : ℕ) (hk : k < 25) (hf : inv5 V1 (m.view.read (Elt F) f) k) (off : Fin 3 → ℕ) (hoff : off = ![0, 8 * k, 0]) (inb : _) (pay : FVec F S1x8x256 .f32)
    (hp : ∀ (j : Fin 8) (h : Fin 256), pay (ix3 0 j h) = scr (xcol V1 ⟨8 * k + j.val, by omega⟩) (ix2 0 h)) :
    inv5 V1 (m.view.read (Elt F) (m.view.writes (Elt F) f [⟨Rect.unit (s := S1x200x256) off S1x8x256.size inb, pay⟩])) (k + 1) := by
  subst hoff
  intro w h hw
  by_cases hc : 8 * k ≤ w.val
  · rw [View.read_writes_cons_hit_of_coords (x := (ix3 0 ⟨w.val - 8 * k, by omega⟩ h : S1x8x256.Idx))]
    · rw [hp]
      unfold sBlock
      have e : (⟨8 * k + (w.val - 8 * k), by have := w.isLt; omega⟩ : Fin 200) = w := Fin.ext (by show 8 * k + (w.val - 8 * k) = w.val; omega)
      show scr (xcol V1 ⟨8 * k + (w.val - 8 * k), _⟩) (ix2 0 h) = scr (xcol V1 w) (ix2 0 h)
      rw [e]
    · intro a
      match a with
      | ⟨0, _⟩ => rfl
      | ⟨1, _⟩ => show w.val = 8 * k + 1 * (w.val - 8 * k); omega
      | ⟨2, _⟩ => show h.val = 0 + 1 * h.val; omega
  · rw [View.read_writes_cons_miss]
    · exact hf w h (by omega)
    · refine not_mem_rect _ _ fun x hx => hc ?_
      have h1 := hx 1
      replace h1 : w.val = 8 * k + 1 * (x 1).val := h1
      omega

/-- What the first loop holds before trip `k`. -/
abbrev res1 (X1 : BufTy.Contents (Elt F) arg1.view.ty) (X2 : BufTy.Contents (Elt F) arg2.view.ty) (k : ℕ) : sProp 𝕄G :=
  iprop((arg1.view.loc (c : Thread nD τ) ↦[arg1.view.set]{fullShare} X1) ∗ (arg2.view.loc (c : Thread nD τ) ↦[arg2.view.set]{fullShare} X2)
    ∗ (∃ f, (arg4.view.loc (c : Thread nD τ) ↦[arg4.view.set]{fullShare} f) ∗ ⌜inv4 (arg1.view.read (Elt F) X1) (arg4.view.read (Elt F) f) k⌝)
    ∗ (∃ f, (arg5.view.loc (c : Thread nD τ) ↦[arg5.view.set]{fullShare} f) ∗ ⌜inv5 (arg1.view.read (Elt F) X1) (arg5.view.read (Elt F) f) k⌝)
    ∗ ∃ f, (arg7.view.loc (c : Thread nD τ) ↦[arg7.view.set]{fullShare} f)
      ∗ ⌜inv7 (arg1.view.read (Elt F) X1) (arg2.view.read (Elt F) X2) (arg7.view.read (Elt F) f) k⌝)

set_option warn.classDefReducibility false in
set_option maxHeartbeats 4000000 in
/-- The loop over pairs of groups by its invariant. -/
@[sl_loop] def loop1 (X1 : BufTy.Contents (Elt F) arg1.view.ty) (X2 : BufTy.Contents (Elt F) arg2.view.ty) :
    Idealize.ShloMosaic.LoopInv (M := 𝕄G) Idealize.ShloMosaic.frame (wpE (defs₀ (F := F)) Variants.none (c : Thread nD τ) none) Set.univ
      k0_t1_loop.lb k0_t1_loop.ub k0_t1_loop.st k0_t1_ok () (k0_t1_body (F := F) i arg1 harg1 arg2 harg2 arg3 harg3 arg4 harg4 arg5 harg5 arg6 harg6 arg7 harg7) where
  inv k _ := res1 c arg1 arg2 arg4 arg5 arg7 X1 X2 k
  step k acc := by
    have hk : k.val < 25 := Nat.lt_of_lt_of_le k.isLt k0_t1_abs.2.1
    unfold k0_t1_body
    iintro ⟨H1, H2, ⟨%f4, H4, %hf4⟩, ⟨%f5, H5, %hf5⟩, ⟨%f7, H7, %hf7⟩⟩
    sl_exec
    sl_step
    have eX0 := x_read arg1 X1 (k0_off1 k 0#32) ⟨2 * k.val, by omega⟩ ((k0_off1_eq k ⟨0, by decide⟩).trans (by congr 2; show 8 * k.val + 4 * 0 = 4 * (2 * k.val); omega))
    have eX1 := x_read arg1 X1 (k0_off1 k 1#32) ⟨2 * k.val + 1, by omega⟩ ((k0_off1_eq k ⟨1, by decide⟩).trans (by congr 2; show 8 * k.val + 4 * 1 = 4 * (2 * k.val + 1); omega))
    have eW := full_read2 arg2 X2
    isplitl [H1]; · iexact H1
    isplitl [H2]; · iexact H2
    isplitl [H4]
    · iexists _
      isplitl [H4]; · iexact H4
      ipureintro
      refine step4 _ arg4 f4 k.val hk hf4 _ _ _ _ _ _ _ _
        (k0_off3_eq k ⟨1, by decide⟩ ⟨3, by decide⟩)
        (k0_off3_eq k ⟨1, by decide⟩ ⟨2, by decide⟩)
        (k0_off3_eq k ⟨1, by decide⟩ ⟨1, by decide⟩)
        (k0_off3_eq k ⟨1, by decide⟩ ⟨0, by decide⟩)
        (k0_off3_eq k ⟨0, by decide⟩ ⟨3, by decide⟩)
        (k0_off3_eq k ⟨0, by decide⟩ ⟨2, by decide⟩)
        (k0_off3_eq k ⟨0, by decide⟩ ⟨1, by decide⟩)
        (k0_off3_eq k ⟨0, by decide⟩ ⟨0, by decide⟩)
        _ _ _ _ _ _ _ _ _ _ _ _ _ _ _ _ ?_ ?_ ?_ ?_ ?_ ?_ ?_ ?_
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c13_at _ (View.readAt (Elt F) arg1.view (Rect.unit (s := S1x200x64x256) (k0_off1 k 1#32) S1x4x64x256.size (k0_off1_inb k 1)).toLoadRect X1) ⟨2 * k.val + 1, by omega⟩ ⟨8 * k.val + 4 * 1 + 3, by omega⟩ (eX1 _) (by show 4 * (2 * k.val + 1) + 3 = 8 * k.val + 4 * 1 + 3; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c12_at _ (View.readAt (Elt F) arg1.view (Rect.unit (s := S1x200x64x256) (k0_off1 k 1#32) S1x4x64x256.size (k0_off1_inb k 1)).toLoadRect X1) ⟨2 * k.val + 1, by omega⟩ ⟨8 * k.val + 4 * 1 + 2, by omega⟩ (eX1 _) (by show 4 * (2 * k.val + 1) + 2 = 8 * k.val + 4 * 1 + 2; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c11_at _ (View.readAt (Elt F) arg1.view (Rect.unit (s := S1x200x64x256) (k0_off1 k 1#32) S1x4x64x256.size (k0_off1_inb k 1)).toLoadRect X1) ⟨2 * k.val + 1, by omega⟩ ⟨8 * k.val + 4 * 1 + 1, by omega⟩ (eX1 _) (by show 4 * (2 * k.val + 1) + 1 = 8 * k.val + 4 * 1 + 1; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c10_at _ (View.readAt (Elt F) arg1.view (Rect.unit (s := S1x200x64x256) (k0_off1 k 1#32) S1x4x64x256.size (k0_off1_inb k 1)).toLoadRect X1) ⟨2 * k.val + 1, by omega⟩ ⟨8 * k.val + 4 * 1 + 0, by omega⟩ (eX1 _) (by show 4 * (2 * k.val + 1) + 0 = 8 * k.val + 4 * 1 + 0; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c03_at _ (View.readAt (Elt F) arg1.view (Rect.unit (s := S1x200x64x256) (k0_off1 k 0#32) S1x4x64x256.size (k0_off1_inb k 0)).toLoadRect X1) ⟨2 * k.val, by omega⟩ ⟨8 * k.val + 4 * 0 + 3, by omega⟩ (eX0 _) (by show 4 * (2 * k.val) + 3 = 8 * k.val + 4 * 0 + 3; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c02_at _ (View.readAt (Elt F) arg1.view (Rect.unit (s := S1x200x64x256) (k0_off1 k 0#32) S1x4x64x256.size (k0_off1_inb k 0)).toLoadRect X1) ⟨2 * k.val, by omega⟩ ⟨8 * k.val + 4 * 0 + 2, by omega⟩ (eX0 _) (by show 4 * (2 * k.val) + 2 = 8 * k.val + 4 * 0 + 2; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c01_at _ (View.readAt (Elt F) arg1.view (Rect.unit (s := S1x200x64x256) (k0_off1 k 0#32) S1x4x64x256.size (k0_off1_inb k 0)).toLoadRect X1) ⟨2 * k.val, by omega⟩ ⟨8 * k.val + 4 * 0 + 1, by omega⟩ (eX0 _) (by show 4 * (2 * k.val) + 1 = 8 * k.val + 4 * 0 + 1; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c00_at _ (View.readAt (Elt F) arg1.view (Rect.unit (s := S1x200x64x256) (k0_off1 k 0#32) S1x4x64x256.size (k0_off1_inb k 0)).toLoadRect X1) ⟨2 * k.val, by omega⟩ ⟨8 * k.val + 4 * 0 + 0, by omega⟩ (eX0 _) (by show 4 * (2 * k.val) + 0 = 8 * k.val + 4 * 0 + 0; omega)
    isplitl [H5]
    · iexists _
      isplitl [H5]; · iexact H5
      ipureintro
      refine step5 _ arg5 f5 k.val hk hf5 _ (k0_off4_eq k) _ _ (piece5 _ k.val hk _ _ _ _ _ _ _ _ ?_ ?_ ?_ ?_ ?_ ?_ ?_ ?_)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d00_at _ (View.readAt (Elt F) arg1.view (Rect.unit (s := S1x200x64x256) (k0_off1 k 0#32) S1x4x64x256.size (k0_off1_inb k 0)).toLoadRect X1) ⟨2 * k.val, by omega⟩ ⟨8 * k.val + 0, by omega⟩ (eX0 _) (by show 4 * (2 * k.val) + 0 = 8 * k.val + 0; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d01_at _ (View.readAt (Elt F) arg1.view (Rect.unit (s := S1x200x64x256) (k0_off1 k 0#32) S1x4x64x256.size (k0_off1_inb k 0)).toLoadRect X1) ⟨2 * k.val, by omega⟩ ⟨8 * k.val + 1, by omega⟩ (eX0 _) (by show 4 * (2 * k.val) + 1 = 8 * k.val + 1; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d02_at _ (View.readAt (Elt F) arg1.view (Rect.unit (s := S1x200x64x256) (k0_off1 k 0#32) S1x4x64x256.size (k0_off1_inb k 0)).toLoadRect X1) ⟨2 * k.val, by omega⟩ ⟨8 * k.val + 2, by omega⟩ (eX0 _) (by show 4 * (2 * k.val) + 2 = 8 * k.val + 2; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d03_at _ (View.readAt (Elt F) arg1.view (Rect.unit (s := S1x200x64x256) (k0_off1 k 0#32) S1x4x64x256.size (k0_off1_inb k 0)).toLoadRect X1) ⟨2 * k.val, by omega⟩ ⟨8 * k.val + 3, by omega⟩ (eX0 _) (by show 4 * (2 * k.val) + 3 = 8 * k.val + 3; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d10_at _ (View.readAt (Elt F) arg1.view (Rect.unit (s := S1x200x64x256) (k0_off1 k 1#32) S1x4x64x256.size (k0_off1_inb k 1)).toLoadRect X1) ⟨2 * k.val + 1, by omega⟩ ⟨8 * k.val + 4, by omega⟩ (eX1 _) (by show 4 * (2 * k.val + 1) + 0 = 8 * k.val + 4; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d11_at _ (View.readAt (Elt F) arg1.view (Rect.unit (s := S1x200x64x256) (k0_off1 k 1#32) S1x4x64x256.size (k0_off1_inb k 1)).toLoadRect X1) ⟨2 * k.val + 1, by omega⟩ ⟨8 * k.val + 5, by omega⟩ (eX1 _) (by show 4 * (2 * k.val + 1) + 1 = 8 * k.val + 5; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d12_at _ (View.readAt (Elt F) arg1.view (Rect.unit (s := S1x200x64x256) (k0_off1 k 1#32) S1x4x64x256.size (k0_off1_inb k 1)).toLoadRect X1) ⟨2 * k.val + 1, by omega⟩ ⟨8 * k.val + 6, by omega⟩ (eX1 _) (by show 4 * (2 * k.val + 1) + 2 = 8 * k.val + 6; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d13_at _ (View.readAt (Elt F) arg1.view (Rect.unit (s := S1x200x64x256) (k0_off1 k 1#32) S1x4x64x256.size (k0_off1_inb k 1)).toLoadRect X1) ⟨2 * k.val + 1, by omega⟩ ⟨8 * k.val + 7, by omega⟩ (eX1 _) (by show 4 * (2 * k.val + 1) + 3 = 8 * k.val + 7; omega)
    iexists _
    isplitl [H7]; · iexact H7
    ipureintro
    exact step7 _ _ arg7 f7 k.val hk hf7 _ _ _ _ (k0_off2_eq k ⟨1, by decide⟩ ⟨1, by decide⟩) (k0_off2_eq k ⟨1, by decide⟩ ⟨0, by decide⟩)
      (k0_off2_eq k ⟨0, by decide⟩ ⟨1, by decide⟩) (k0_off2_eq k ⟨0, by decide⟩ ⟨0, by decide⟩) _ _ _ _ _ _ _ _ (eX1 _) (eX0 _) (eW _) (eW _)

end Cert.Analyze.Hand

end
-- ==== Proof.Analyze.Loop2.lean ====
/-
  The loop over pairs of row frequencies: one trip transforms one pair along the columns.
-/
module

public import proofs.«01_k».proof.Proof.Gen.Analyze
public import proofs.«01_k».proof.Proof.Gen.Analyze.Skeleton
public import proofs.«01_k».proof.Proof.Gen.Analyze.Launch
public import proofs.«01_k».proof.Proof.Gen.Analyze.Points
public import proofs.«01_k».proof.Proof.Gen.Analyze.Frame
public import proofs.«01_k».proof.Proof.Analyze.Values

@[expose] public section

set_option maxRecDepth 16384

noncomputable section

namespace Cert.Analyze.Hand

open Cert.Analyze Cert.Analyze.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .bf16) (harg1 : arg1.IsWhole)
  (arg2 : Memref sig .tc .vmem S80x256 .bf16) (harg2 : arg2.IsWhole)
  (arg3 : Memref sig .tc .vmem S128x224 .bf16) (harg3 : arg3.IsWhole)
  (arg4 : Memref sig .tc .vmem S1x200x64x256 .fp8e4m3) (harg4 : arg4.IsWhole)
  (arg5 : Memref sig .tc .vmem S1x200x256 .f32) (harg5 : arg5.IsWhole)
  (arg6 : Memref sig .tc .vmem S1x18x64x128 .f32) (harg6 : arg6.IsWhole)
  (arg7 : Memref sig .tc .vmem S8288x128 .f32) (harg7 : arg7.IsWhole)

omit [FloatOps F] in
/-- A load of one row of every group of the scratch buffer. -/
theorem a_read (m : Memref sig .tc .vmem S8288x128 .f32) (X : BufTy.Contents (Elt F) m.view.ty) (off : Fin 2 → ℕ)
    (k : Fin 18) (p k2 t : Fin 2) (hoff : off = ![72 * p.val + 4 * k.val + 2 * k2.val + t.val, 0])
    (inb : ∀ a, S56x128.size a = 0 ∨ off a + (![148, 1] : Fin 2 → ℕ) a * (S56x128.size a - 1) < S8288x128.size a) :
    View.readAt (Elt F) m.view (⟨off, S56x128.size, ![148, 1], inb⟩ : LoadRect S8288x128) X = awin (A7 (m.view.read (Elt F) X)) k p k2 t := by
  subst hoff
  funext y
  show m.view.read (Elt F) X _ = m.view.read (Elt F) X _
  congr 1
  funext a
  apply Fin.ext
  match a with
  | ⟨0, _⟩ =>
    show 72 * p.val + 4 * k.val + 2 * k2.val + t.val + 148 * (y 0).val = 148 * (y 0).val + (72 * p.val + 4 * k.val + 2 * k2.val + t.val)
    omega
  | ⟨1, _⟩ => show 0 + 1 * (y 1).val = (y 1).val; omega

/-- Before trip `k` the rows before `k` of the spectrum are written. -/
abbrev inv6 (A : Fin 56 → Fin 144 → Fin 128 → Elt F .f32) (V3 : Vec F S128x224 .bf16) (V : Vec F S1x18x64x128 .f32) (k : ℕ) : Prop :=
  ∀ (kp : Fin 18) (q : Fin 64) (l : Fin 128), kp.val < k → V (ix4 0 kp q l) = xsv A V3 kp (ix4 0 0 q l)

theorem step6 (A : Fin 56 → Fin 144 → Fin 128 → Elt F .f32) (V3 : Vec F S128x224 .bf16) (m : Memref sig .tc .vmem S1x18x64x128 .f32)
    (f : BufTy.Contents (Elt F) m.view.ty) (k : ℕ) (hk : k < 18) (hf : inv6 A V3 (m.view.read (Elt F) f) k) (off : Fin 4 → ℕ)
    (hoff : off = ![0, k, 0, 0]) (inb : _) (pay : FVec F S1x1x64x128 .f32) (hp : pay = xsv A V3 ⟨k, hk⟩) :
    inv6 A V3 (m.view.read (Elt F) (m.view.writes (Elt F) f [⟨Rect.unit (s := S1x18x64x128) off S1x1x64x128.size inb, pay⟩])) (k + 1) := by
  subst hoff hp
  intro kp q l hkp
  by_cases hc : kp.val = k
  · rw [View.read_writes_cons_hit_of_coords (x := (ix4 0 0 q l : S1x1x64x128.Idx))]
    · have e : (⟨k, hk⟩ : Fin 18) = kp := Fin.ext hc.symm
      rw [e]
    · intro a
      match a with
      | ⟨0, _⟩ => rfl
      | ⟨1, _⟩ => show kp.val = k + 1 * 0; omega
      | ⟨2, _⟩ => show q.val = 0 + 1 * q.val; omega
      | ⟨3, _⟩ => show l.val = 0 + 1 * l.val; omega
  · rw [View.read_writes_cons_miss]
    · exact hf kp q l (by omega)
    · refine not_mem_rect _ _ fun x hx => hc ?_
      have h1 := hx 1
      have hx1 : (x 1).val < 1 := (x 1).isLt
      replace h1 : kp.val = k + 1 * (x 1).val := h1
      omega

/-- What the second loop holds before trip `k`. -/
abbrev res2 (X3 : BufTy.Contents (Elt F) arg3.view.ty) (X7 : BufTy.Contents (Elt F) arg7.view.ty) (k : ℕ) : sProp 𝕄G :=
  iprop((arg3.view.loc (c : Thread nD τ) ↦[arg3.view.set]{fullShare} X3) ∗ (arg7.view.loc (c : Thread nD τ) ↦[arg7.view.set]{fullShare} X7)
    ∗ ∃ f, (arg6.view.loc (c : Thread nD τ) ↦[arg6.view.set]{fullShare} f)
      ∗ ⌜inv6 (A7 (arg7.view.read (Elt F) X7)) (arg3.view.read (Elt F) X3) (arg6.view.read (Elt F) f) k⌝)

set_option warn.classDefReducibility false in
set_option maxHeartbeats 4000000 in
/-- The loop over pairs of row frequencies by its invariant. -/
@[sl_loop] def loop2 (X3 : BufTy.Contents (Elt F) arg3.view.ty) (X7 : BufTy.Contents (Elt F) arg7.view.ty) :
    Idealize.ShloMosaic.LoopInv (M := 𝕄G) Idealize.ShloMosaic.frame (wpE (defs₀ (F := F)) Variants.none (c : Thread nD τ) none) Set.univ
      k0_t2_loop.lb k0_t2_loop.ub k0_t2_loop.st k0_t2_ok () (k0_t2_body (F := F) i arg1 harg1 arg2 harg2 arg3 harg3 arg4 harg4 arg5 harg5 arg6 harg6 arg7 harg7) where
  inv k _ := res2 c arg3 arg6 arg7 X3 X7 k
  step k acc := by
    have hk : k.val < 18 := Nat.lt_of_lt_of_le k.isLt k0_t2_abs.2.1
    unfold k0_t2_body
    iintro ⟨H3, H7, ⟨%f, H6, %hf⟩⟩
    sl_exec
    sl_step
    isplitl [H3]; · iexact H3
    isplitl [H7]; · iexact H7
    iexists _
    isplitl [H6]; · iexact H6
    ipureintro
    refine step6 _ _ arg6 f k.val hk hf _ (k0_off6_eq k) _ _ ?_
    unfold xsv
    rw [← a_read arg7 X7 (k0_off5 k 0#32 0#32 0#32) ⟨k.val, hk⟩ 0 0 0 (k0_off5_eq k ⟨0, by decide⟩ ⟨0, by decide⟩ ⟨0, by decide⟩) (k0_off5_inb k 0 0 0),
      ← a_read arg7 X7 (k0_off5 k 0#32 0#32 1#32) ⟨k.val, hk⟩ 0 0 1 (k0_off5_eq k ⟨0, by decide⟩ ⟨0, by decide⟩ ⟨1, by decide⟩) (k0_off5_inb k 0 0 1),
      ← a_read arg7 X7 (k0_off5 k 36#32 0#32 0#32) ⟨k.val, hk⟩ 1 0 0 (k0_off5_eq k ⟨1, by decide⟩ ⟨0, by decide⟩ ⟨0, by decide⟩) (k0_off5_inb k 1 0 0),
      ← a_read arg7 X7 (k0_off5 k 36#32 0#32 1#32) ⟨k.val, hk⟩ 1 0 1 (k0_off5_eq k ⟨1, by decide⟩ ⟨0, by decide⟩ ⟨1, by decide⟩) (k0_off5_inb k 1 0 1),
      ← a_read arg7 X7 (k0_off5 k 0#32 1#32 0#32) ⟨k.val, hk⟩ 0 1 0 (k0_off5_eq k ⟨0, by decide⟩ ⟨1, by decide⟩ ⟨0, by decide⟩) (k0_off5_inb k 0 1 0),
      ← a_read arg7 X7 (k0_off5 k 0#32 1#32 1#32) ⟨k.val, hk⟩ 0 1 1 (k0_off5_eq k ⟨0, by decide⟩ ⟨1, by decide⟩ ⟨1, by decide⟩) (k0_off5_inb k 0 1 1),
      ← a_read arg7 X7 (k0_off5 k 36#32 1#32 0#32) ⟨k.val, hk⟩ 1 1 0 (k0_off5_eq k ⟨1, by decide⟩ ⟨1, by decide⟩ ⟨0, by decide⟩) (k0_off5_inb k 1 1 0),
      ← a_read arg7 X7 (k0_off5 k 36#32 1#32 1#32) ⟨k.val, hk⟩ 1 1 1 (k0_off5_eq k ⟨1, by decide⟩ ⟨1, by decide⟩ ⟨1, by decide⟩) (k0_off5_inb k 1 1 1),
      ← full_read2 arg3 X3 inb_S128x224_S128x224_0_0]
    rfl

end Cert.Analyze.Hand

end
-- ==== Proof.Analyze.Body.lean ====
/-
  The body of the kernel at one grid point.
-/
module

public import proofs.«01_k».proof.Proof.Gen.Analyze
public import proofs.«01_k».proof.Proof.Gen.Analyze.Skeleton
public import proofs.«01_k».proof.Proof.Gen.Analyze.Launch
public import proofs.«01_k».proof.Proof.Gen.Analyze.Points
public import proofs.«01_k».proof.Proof.Gen.Analyze.Frame
public import proofs.«01_k».proof.Proof.Analyze.Loop1
public import proofs.«01_k».proof.Proof.Analyze.Loop2

@[expose] public section

set_option maxRecDepth 16384

noncomputable section

namespace Cert.Analyze.Hand

open Cert.Analyze Cert.Analyze.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The condition under which the kernel clears the last rows of the scratch buffer: it is at the first grid point. -/
abbrev first (i : grid0.Coords) : Prop :=
  Scalar.cmpi .ne (Scalar.extui (Scalar.cmpi .eq (BitVec.ofNat 32 (i 0).val) 0#32) : BitVec 32) 0#32 = 1#1

/-- The last six groups of the scratch buffer hold zeros. -/
def zeros (d : Vec F S8288x128 .f32) : Prop :=
  ∀ (ng : Fin 56) (r : Fin 144) (l : Fin 128), 50 ≤ ng.val → A7 d ng r l = Scalar.ofBits (F := F) .f32 0x00000000#32

/-- Clearing the last rows makes them zeros. -/
theorem cleared (m : Memref sig .tc .vmem S8288x128 .f32) (f : BufTy.Contents (Elt F) m.view.ty) (inb : _) :
    zeros (m.view.read (Elt F) (m.view.writes (Elt F) f [⟨Rect.unit (s := S8288x128) ![7400, 0] S888x128.size inb, k0_pay1 (F := F)⟩])) := by
  intro ng r l hn
  have hr := r.isLt
  have hg := ng.isLt
  unfold A7
  rw [View.read_writes_cons_hit_of_coords (x := (ix2 ⟨148 * ng.val + r.val - 7400, by omega⟩ l : S888x128.Idx))]
  · pointwise [k0_pay1]
  · intro a
    match a with
    | ⟨0, _⟩ => show 148 * ng.val + r.val = 7400 + 1 * (148 * ng.val + r.val - 7400); omega
    | ⟨1, _⟩ => show l.val = 0 + 1 * l.val; omega

/-- What the two loops leave. -/
theorem finish (V1 : Vec F S1x200x64x256 .bf16) (V2 : Vec F S80x256 .bf16) (V3 : Vec F S128x224 .bf16)
    (V4 : Vec F S1x200x64x256 .fp8e4m3) (V5 : Vec F S1x200x256 .f32) (V6 : Vec F S1x18x64x128 .f32) (V7 : Vec F S8288x128 .f32)
    (n1 n2 : ℕ) (hn1 : 25 ≤ n1) (hn2 : 18 ≤ n2) (h4 : inv4 V1 V4 n1) (h5 : inv5 V1 V5 n1) (h7 : inv7 V1 V2 V7 n1)
    (h6 : inv6 (A7 V7) V3 V6 n2) : V4 = cBlock V1 ∧ V5 = sBlock V1 ∧ V6 = xBlock V1 V2 V3 ∧ zeros V7 := by
  have eA : A7 V7 = arow V1 V2 := by
    funext ng r l
    exact h7 ng r l (by omega)
  have hz : zeros V7 := by
    intro ng r l hn
    rw [eA]
    unfold arow
    rw [dif_neg (by omega)]
  refine ⟨?_, ?_, ?_, hz⟩
  · funext y
    have h0 : (y 0).val < 1 := (y 0).isLt
    have ey : y = ix4 0 (y 1) (y 2) (y 3) := by
      funext a
      apply Fin.ext
      match a with
      | ⟨0, _⟩ => show (y 0).val = 0; omega
      | ⟨1, _⟩ => rfl
      | ⟨2, _⟩ => rfl
      | ⟨3, _⟩ => rfl
    refine (congrArg V4 ey).trans ((h4 (y 1) (y 2) (y 3) ?_).trans (congrArg (cBlock V1) ey.symm))
    have h1 : (y 1).val < 200 := (y 1).isLt
    omega
  · funext y
    have h0 : (y 0).val < 1 := (y 0).isLt
    have ey : y = ix3 0 (y 1) (y 2) := by
      funext a
      apply Fin.ext
      match a with
      | ⟨0, _⟩ => show (y 0).val = 0; omega
      | ⟨1, _⟩ => rfl
      | ⟨2, _⟩ => rfl
    refine (congrArg V5 ey).trans ((h5 (y 1) (y 2) ?_).trans (congrArg (sBlock V1) ey.symm))
    have h1 : (y 1).val < 200 := (y 1).isLt
    omega
  · funext y
    have h0 : (y 0).val < 1 := (y 0).isLt
    have ey : y = ix4 0 (y 1) (y 2) (y 3) := by
      funext a
      apply Fin.ext
      match a with
      | ⟨0, _⟩ => show (y 0).val = 0; omega
      | ⟨1, _⟩ => rfl
      | ⟨2, _⟩ => rfl
      | ⟨3, _⟩ => rfl
    refine (congrArg V6 ey).trans ((h6 (y 1) (y 2) (y 3) ?_).trans ?_)
    · have h1 : (y 1).val < 18 := (y 1).isLt
      omega
    · rw [eA]; rfl

variable (c : Dev nD) (i : grid0.Coords)
  (arg1 : Memref sig .tc .vmem S1x200x64x256 .bf16) (harg1 : arg1.IsWhole)
  (arg2 : Memref sig .tc .vmem S80x256 .bf16) (harg2 : arg2.IsWhole)
  (arg3 : Memref sig .tc .vmem S128x224 .bf16) (harg3 : arg3.IsWhole)
  (arg4 : Memref sig .tc .vmem S1x200x64x256 .fp8e4m3) (harg4 : arg4.IsWhole)
  (arg5 : Memref sig .tc .vmem S1x200x256 .f32) (harg5 : arg5.IsWhole)
  (arg6 : Memref sig .tc .vmem S1x18x64x128 .f32) (harg6 : arg6.IsWhole)
  (arg7 : Memref sig .tc .vmem S8288x128 .f32) (harg7 : arg7.IsWhole)

set_option maxHeartbeats 4000000 in
theorem sound_kernel (x1 : Vec F S1x200x64x256 .bf16) (x2 : Vec F S80x256 .bf16) (x3 : Vec F S128x224 .bf16) (K : PUnit → sProp 𝕄G) :
    iprop(owns (c : Thread nD τ) arg1 fullShare x1 ∗ owns (c : Thread nD τ) arg2 fullShare x2 ∗ owns (c : Thread nD τ) arg3 fullShare x3
      ∗ (∃ d, owns (c : Thread nD τ) arg4 fullShare d) ∗ (∃ d, owns (c : Thread nD τ) arg5 fullShare d) ∗ (∃ d, owns (c : Thread nD τ) arg6 fullShare d)
      ∗ (∃ d, owns (c : Thread nD τ) arg7 fullShare d ∗ ⌜¬ first i → zeros d⌝)
      ∗ (iprop(owns (c : Thread nD τ) arg1 fullShare x1 ∗ owns (c : Thread nD τ) arg2 fullShare x2 ∗ owns (c : Thread nD τ) arg3 fullShare x3
        ∗ owns (c : Thread nD τ) arg4 fullShare (cBlock x1) ∗ owns (c : Thread nD τ) arg5 fullShare (sBlock x1)
        ∗ owns (c : Thread nD τ) arg6 fullShare (xBlock x1 x2 x3)
        ∗ (∃ d, owns (c : Thread nD τ) arg7 fullShare d ∗ ⌜zeros d⌝)) -∗ K ⟨⟩))
      ⊢ wp frame (wpE (defs₀ (F := F)) Variants.none c none) Set.univ (cc0_analyze (F := F) i arg1 harg1 arg2 harg2 arg3 harg3 arg4 harg4 arg5 harg5 arg6 harg6 arg7 harg7) K := by
  simp only [cc0_analyze_eq_skeleton]; unfold cc0_analyze_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, ⟨%f7, %hf7, H7⟩, %hz⟩, Hk⟩
  subst hf1 hf2 hf3 hf7
  have h0 : inv7 (arg1.view.read (Elt F) f1) (arg2.view.read (Elt F) f2) (arg7.view.read (Elt F) (if hc : first i then
      arg7.view.writes (Elt F) f7 [⟨Rect.unit (s := S8288x128) ![7400, 0] S888x128.size inb_S8288x128_S888x128_7400_0, k0_pay1 (F := F)⟩]
    else f7)) 0 := by
    intro ng r l hn
    refine Eq.trans ?_ (show Scalar.ofBits (F := F) .f32 0x00000000#32 = _ from by unfold arow; rw [dif_neg (by omega)])
    split
    · exact cleared arg7 f7 _ ng r l (by omega)
    · exact hz ‹_› ng r l (by omega)
  sl_exec
  sl_step
  iapply Hk
  obtain ⟨o4, o5, o6, hze⟩ := finish (arg1.view.read (Elt F) f1) (arg2.view.read (Elt F) f2) (arg3.view.read (Elt F) f3)
    (arg4.view.read (Elt F) fL0) (arg5.view.read (Elt F) fL1) (arg6.view.read (Elt F) fL3) (arg7.view.read (Elt F) fL2)
    _ _ (by decide) (by decide) hL3 hL5 hL7 hL11
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists fL0; isplitr; · ipureintro; exact o4
                  iexact H4
  isplitl [H5]; · iexists fL1; isplitr; · ipureintro; exact o5
                  iexact H5
  isplitl [H6]; · iexists fL3; isplitr; · ipureintro; exact o6
                  iexact H6
  iexists _
  isplitl [H7]
  · iexists fL2; isplitr
    on_goal 2 => iexact H7
    ipureintro; rfl
  · ipureintro; exact hze

end Cert.Analyze.Hand

end
-- ==== Proof.Analyze.Run.lean ====
/-
  The run of the kernel: what every grid point leaves, and that the arguments end unchanged.
-/
module

public import proofs.«01_k».proof.Proof.Gen.Analyze
public import proofs.«01_k».proof.Proof.Gen.Analyze.Skeleton
public import proofs.«01_k».proof.Proof.Gen.Analyze.Launch
public import proofs.«01_k».proof.Proof.Gen.Analyze.Points
public import proofs.«01_k».proof.Proof.Gen.Analyze.Frame
public import proofs.«01_k».proof.Proof.Analyze.Body
public import Idealize.ShloMosaic.Lib.Claim

@[expose] public section

set_option maxRecDepth 16384

noncomputable section

namespace Cert.Analyze.Hand

open Cert.Analyze Cert.Analyze.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- At grid point zero the body clears the padding rows. -/
theorem first_zero : ∀ t : Fin cfg0.N, t.val = 0 → first (grid0.coords t) := by
  decide +kernel

/-- What passes from one grid point to the next: the scratch buffer, with cleared padding rows from the first
    point on, and the generator register. -/
def track (c : Dev nD) (n : ℕ) : sProp 𝕄G :=
  iprop((∃ d, owns (c : Thread nD τ) (Memref.whole cc0_scratch0) fullShare d ∗ ⌜n ≠ 0 → zeros d⌝) ∗ ∃ r, prngReg c r)

/-- The proof data of the pipeline: after the body every input window's buffer holds its block, every output window's
    the block the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => cBlock (iblk m c 0 t)
    | ⟨4, _⟩ => sBlock (iblk m c 0 t)
    | ⟨5, _⟩ => xBlock (iblk m c 0 t) (iblk m c 1 t) (iblk m c 2 t)
  Φ t := track c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = cBlock (iblk m c 0 t) := by dsimp only [dats]
theorem after0_4 (c : Dev nD) (t : Fin cfg0.N) : (dats m 0 c).after 4 t = sBlock (iblk m c 0 t) := by dsimp only [dats]
theorem after0_5 (c : Dev nD) (t : Fin cfg0.N) : (dats m 0 c).after 5 t = xBlock (iblk m c 0 t) (iblk m c 1 t) (iblk m c 2 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = track c t.val from rfl, show (dats m 0 c).Φ t.succ = track c (t.val + 1) from rfl,
    show (dats m 0 c).owesAt () t.succ = (dats m 0 c).owesAt () t.castSucc from rfl,
    after0_0, after0_1, after0_2, after0_3, after0_4, after0_5]
  unfold track
  iintro ⟨⟨⟨%s, Hs, %hs⟩, Hp⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [Hs]
  · iexists s; isplitl [Hs]; · iexact Hs
    ipureintro; exact fun h => hs fun h0 => h (first_zero t h0)
  iintro ⟨H0, H1, H2, H3, H4, H5, ⟨%s', Hs, %hs'⟩⟩
  isplitl [Hs Hp]
  · isplitl [Hs]
    · iexists s'; isplitl [Hs]; · iexact Hs
      ipureintro; exact fun _ => hs'
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffer and the register at anything are the invariant before the first point, -/
theorem track_in (c : Dev nD) : Pipeline.ΦA (U := UR sig nD τ) (Val := Elt F) spec0 c ⊢ track c 0 := by
  unfold Pipeline.ΦA track
  rw [scopedRest0_eq]
  simp only [owns_whole]
  iintro ⟨⟨%f, Hf⟩, Hp⟩
  isplitl [Hf]
  · iexists f
    isplitl [Hf]
    · iexact Hf
    ipureintro; exact fun h => absurd rfl h
  iexact Hp

/-- and the invariant after the last point gives them back. -/
theorem track_out (c : Dev nD) (n : ℕ) : track (F := F) c n ⊢ Pipeline.ΦA (U := UR sig nD τ) spec0 c := by
  unfold Pipeline.ΦA track
  rw [scopedRest0_eq]
  simp only [owns_whole]
  iintro ⟨⟨%f, Hf, -⟩, Hp⟩
  isplitl [Hf]
  · iexists f
    iexact Hf
  iexact Hp

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => track_in c) (hout := fun c => track_out c _)

theorem run_main : θ_run defs (onTc (τ := τ) (main (F := F))) (s₀ m ρ) (Pipeline.FramePost cfgs (dats m) 0 (V m)) :=
  (θ_run defs _ _).mono (fun _ h => h.1) (run_main_quiescent m ρ)

/-- The program runs to the end, leaves its arguments as they were and every semaphore at zero. -/
theorem frame_hand : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Analyze.Hand

end
-- ==== Proof.AnalyzeIdeal.Values.lean ====
/-
  What the body of the kernel computes, as plain functions of what its operands hold.
-/
module

public import proofs.«01_k».proof.Proof.Gen.AnalyzeIdeal
public import proofs.«01_k».proof.Proof.Gen.AnalyzeIdeal.Skeleton
public import proofs.«01_k».proof.Proof.Gen.AnalyzeIdeal.Launch
public import proofs.«01_k».proof.Proof.Gen.AnalyzeIdeal.Points
public import proofs.«01_k».proof.Proof.Gen.AnalyzeIdeal.Frame
public import Idealize.ShloMosaic.Lib.PointwiseCore
public import Idealize.ShloMosaic.Lib.Pipeline.FrameBody

@[expose] public section

set_option maxRecDepth 16384

noncomputable section

namespace Cert.AnalyzeIdeal.Hand

open Cert.AnalyzeIdeal Cert.AnalyzeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- One spatial column of the input block. -/
def xcol (V1 : Vec F S1x200x64x256 .bf16) (w : Fin 200) : FVec F S64x256 .bf16 := fun y => V1 (ix4 0 w (y 0) (y 1))

/-- Four spatial columns of the input block. -/
def x4 (V1 : Vec F S1x200x64x256 .bf16) (ng : Fin 50) : Vec F S1x4x64x256 .bf16 :=
  fun y => V1 (ix4 0 ⟨4 * ng.val + (y 1).val, by have h : (y 1).val < 4 := (y 1).isLt; omega⟩ (y 2) (y 3))

/-- One of four spatial columns. -/
def col (v : Vec F S1x4x64x256 .bf16) (i : Fin 4) : FVec F S64x256 .bf16 := fun y => v (ix4 0 i (y 0) (y 1))

/-- The scaled largest magnitude over the channels. -/
def amax (x : FVec F S64x256 .bf16) : FVec F S1x256 .f32 :=
  mulf (shapeCast S1x256 (multiReduction .maximumf [0] S256 (extf .f32 (absf x) bitsLt_bf16_f32) 0xFF800000#32
    reduces_S64x256_S256 (.inl rfl) rfl) shapeCasts_S256_S1x256) (broadcast S1x256 (Scalar.ofBits .f32 0x3B124925#32))

/-- The scales of one spatial column. -/
def scr (x : FVec F S64x256 .bf16) : FVec F S1x256 .f32 := k0_pay13 k0_pay10 (amax x)

/-- The codes of one spatial column. -/
def cdc (x : FVec F S64x256 .bf16) : FVec F S1x1x64x256 .fp8e4m3 := k0_pay14 x k0_pay10 (amax x)

/-- The scratch buffer, by group of four spatial columns, row and lane: the row transform of the group, then zeros. -/
def arow (V1 : Vec F S1x200x64x256 .bf16) (V2 : Vec F S80x256 .bf16) (ng : Fin 56) (r : Fin 144) (l : Fin 128) : Elt F .f32 :=
  if h : ng.val < 50 then
    k0_pay6 (x4 V1 ⟨ng.val, h⟩) V2 (ix2 ⟨r.val / 2, by omega⟩ ⟨r.val % 2 * 128 + l.val, by omega⟩)
  else Scalar.ofBits (F := F) .f32 0x00000000#32

/-- The scratch buffer's contents read by group, row and lane. -/
def A7 (V : Vec F S8288x128 .f32) (ng : Fin 56) (r : Fin 144) (l : Fin 128) : Elt F .f32 :=
  V (ix2 ⟨148 * ng.val + r.val, by omega⟩ l)

/-- What a strided load of the scratch buffer reads: one row of every group. -/
def awin (A : Fin 56 → Fin 144 → Fin 128 → Elt F .f32) (k : Fin 18) (p k2 t : Fin 2) : Vec F S56x128 .f32 :=
  fun y => A (y 0) ⟨72 * p.val + 4 * k.val + 2 * k2.val + t.val, by omega⟩ (y 1)

/-- The spectrum rows of one pair of row frequencies. -/
def xsv (A : Fin 56 → Fin 144 → Fin 128 → Elt F .f32) (V3 : Vec F S128x224 .bf16) (k : Fin 18) : FVec F S1x1x64x128 .f32 :=
  k0_pay4
    (k0_pay59 (k0_pay57 (awin A k 0 0 0) (awin A k 0 0 1) (awin A k 1 0 0) (awin A k 1 0 1)) (awin A k 0 1 0) (awin A k 0 1 1) (awin A k 1 1 0) (awin A k 1 1 1) V3)
    (k0_pay60 (k0_pay57 (awin A k 0 0 0) (awin A k 0 0 1) (awin A k 1 0 0) (awin A k 1 0 1)) (awin A k 0 1 0) (awin A k 0 1 1) (awin A k 1 1 0) (awin A k 1 1 1) V3)
    (k0_pay61 (k0_pay57 (awin A k 0 0 0) (awin A k 0 0 1) (awin A k 1 0 0) (awin A k 1 0 1)) (awin A k 0 1 0) (awin A k 0 1 1) (awin A k 1 1 0) (awin A k 1 1 1) V3)
    (k0_pay62 (k0_pay57 (awin A k 0 0 0) (awin A k 0 0 1) (awin A k 1 0 0) (awin A k 1 0 1)) (awin A k 0 1 0) (awin A k 0 1 1) (awin A k 1 1 0) (awin A k 1 1 1) V3)

/-- The blocks of the three results at one batch element: the codes, -/
def cBlock (V1 : Vec F S1x200x64x256 .bf16) : Vec F S1x200x64x256 .fp8e4m3 :=
  fun y => cdc (xcol V1 (y 1)) (ix4 0 0 (y 2) (y 3))

/-- the scales -/
def sBlock (V1 : Vec F S1x200x64x256 .bf16) : Vec F S1x200x256 .f32 := fun y => scr (xcol V1 (y 1)) (ix2 0 (y 2))

/-- and the spectrum. -/
def xBlock (V1 : Vec F S1x200x64x256 .bf16) (V2 : Vec F S80x256 .bf16) (V3 : Vec F S128x224 .bf16) : Vec F S1x18x64x128 .f32 :=
  fun y => xsv (arow V1 V2) V3 (y 1) (ix4 0 0 (y 2) (y 3))

omit [FloatOps F] in
/-- A place whose coordinates no index of the rectangle reaches lies outside it. -/
theorem not_mem_rect {s : Shape} (r : Rect s) (y : s.Idx)
    (h : ∀ x : r.shape.Idx, (∀ a, (y a).val = r.off a + r.stride a * (x a).val) → False) : y ∉ r.set := by
  intro hy
  obtain ⟨x, rfl⟩ := r.exists_idx_of_mem hy
  exact h x fun a => Rect.emb_apply ..

omit [FloatOps F] in
/-- Reading after a list of writes that all agree with `G`, at a place that already agreed or that one of them covers. -/
theorem read_writes_of {κ : Kind} {sp : Space} {s : Shape} {e : EltTy} (v : View sig κ sp s e) (f : v.ty.Contents (Elt F)) (G : s.Idx → Elt F e) :
    ∀ L : List (View.Piece (Elt F) s e), (∀ p ∈ L, ∀ x, p.2 x = G (p.1.emb x)) →
      ∀ y, (v.read (Elt F) f y = G y ∨ ∃ p ∈ L, y ∈ p.1.set) → v.read (Elt F) (v.writes (Elt F) f L) y = G y
  | [], _, y, h => by
    rcases h with h | ⟨p, hp, -⟩
    · exact h
    · exact absurd hp List.not_mem_nil
  | p :: L, hL, y, h => by
    by_cases hy : y ∈ p.1.set
    · obtain ⟨x, rfl⟩ := p.1.exists_idx_of_mem hy
      exact (View.read_writes_cons_emb v f p.1 p.2 L x).trans (hL p List.mem_cons_self x)
    · rw [View.read_writes_cons_miss _ _ _ _ _ hy]
      refine read_writes_of v f G L (fun q hq => hL q (List.mem_cons_of_mem _ hq)) y ?_
      rcases h with h | ⟨q, hq, hyq⟩
      · exact Or.inl h
      · rcases List.mem_cons.1 hq with rfl | hq
        · exact absurd hyq hy
        · exact Or.inr ⟨q, hq, hyq⟩

omit [FloatOps F] in
theorem full_read2 {A B : ℕ} {η : EltTy} (m : Memref sig .tc .vmem ⟨2, ![A, B]⟩ η) (X : BufTy.Contents (Elt F) m.view.ty) (inb : _) :
    View.readAt (Elt F) m.view (Rect.unit (s := ⟨2, ![A, B]⟩) ![0, 0] ![A, B] inb).toLoadRect X = m.view.read (Elt F) X := by
  funext y
  show m.view.read (Elt F) X _ = m.view.read (Elt F) X _
  congr 1
  funext a
  apply Fin.ext
  match a with
  | ⟨0, _⟩ => show 0 + 1 * (y 0).val = (y 0).val; omega
  | ⟨1, _⟩ => show 0 + 1 * (y 1).val = (y 1).val; omega

/-! The stored payloads, each as printed, are the codes and the scales of one of four columns. -/

theorem s0 (v : Vec F S1x4x64x256 .bf16) : shapeCast S64x256 (extractStridedSlice S1x64x256 ![0, 0, 0] (k0_pay5 v) slices_S4x64x256_o0_0_0_S1x64x256) shapeCasts_S1x64x256_S64x256 = col v 0 := by
  funext y; idx_vars y; pointwise [k0_pay5, col]
theorem s1 (v : Vec F S1x4x64x256 .bf16) : shapeCast S64x256 (extractStridedSlice S1x64x256 ![1, 0, 0] (k0_pay5 v) slices_S4x64x256_o1_0_0_S1x64x256) shapeCasts_S1x64x256_S64x256 = col v 1 := by
  funext y; idx_vars y; pointwise [k0_pay5, col]
theorem s2 (v : Vec F S1x4x64x256 .bf16) : shapeCast S64x256 (extractStridedSlice S1x64x256 ![2, 0, 0] (k0_pay5 v) slices_S4x64x256_o2_0_0_S1x64x256) shapeCasts_S1x64x256_S64x256 = col v 2 := by
  funext y; idx_vars y; pointwise [k0_pay5, col]
theorem s3 (v : Vec F S1x4x64x256 .bf16) : shapeCast S64x256 (extractStridedSlice S1x64x256 ![3, 0, 0] (k0_pay5 v) slices_S4x64x256_o3_0_0_S1x64x256) shapeCasts_S1x64x256_S64x256 = col v 3 := by
  funext y; idx_vars y; pointwise [k0_pay5, col]

theorem c00 (v : Vec F S1x4x64x256 .bf16) : k0_pay14 (k0_pay9 v) k0_pay10 (k0_pay11 v) = cdc (col v 0) := by rw [← s0]; rfl
theorem d00 (v : Vec F S1x4x64x256 .bf16) : k0_pay13 k0_pay10 (k0_pay11 v) = scr (col v 0) := by rw [← s0]; rfl
theorem c01 (v : Vec F S1x4x64x256 .bf16) : k0_pay20 (k0_pay15 (k0_pay5 v)) (k0_pay16 (k0_pay5 v)) k0_pay17 23#32 = cdc (col v 1) := by rw [← s1]; rfl
theorem d01 (v : Vec F S1x4x64x256 .bf16) : k0_pay19 (k0_pay16 (k0_pay5 v)) k0_pay17 23#32 = scr (col v 1) := by rw [← s1]; rfl
theorem c02 (v : Vec F S1x4x64x256 .bf16) : k0_pay25 (k0_pay21 (k0_pay5 v)) (k0_pay22 (k0_pay5 v)) = cdc (col v 2) := by rw [← s2]; rfl
theorem d02 (v : Vec F S1x4x64x256 .bf16) : k0_pay24 (k0_pay22 (k0_pay5 v)) = scr (col v 2) := by rw [← s2]; rfl
theorem c03 (v : Vec F S1x4x64x256 .bf16) : k0_pay30 (k0_pay29 (k0_pay5 v)) = cdc (col v 3) := by rw [← s3]; rfl
theorem d03 (v : Vec F S1x4x64x256 .bf16) : k0_pay28 (k0_pay5 v) = scr (col v 3) := by rw [← s3]; rfl
theorem c10 (v : Vec F S1x4x64x256 .bf16) : k0_pay41 (k0_pay35 v) (k0_pay36 v) k0_pay37 k0_pay38 = cdc (col v 0) := by rw [← s0]; rfl
theorem d10 (v : Vec F S1x4x64x256 .bf16) : k0_pay40 (k0_pay36 v) k0_pay37 k0_pay38 = scr (col v 0) := by rw [← s0]; rfl
theorem c11 (v : Vec F S1x4x64x256 .bf16) : k0_pay46 (k0_pay42 (k0_pay31 v)) (k0_pay43 (k0_pay31 v)) = cdc (col v 1) := by rw [← s1]; rfl
theorem d11 (v : Vec F S1x4x64x256 .bf16) : k0_pay45 (k0_pay43 (k0_pay31 v)) = scr (col v 1) := by rw [← s1]; rfl
theorem c12 (v : Vec F S1x4x64x256 .bf16) : k0_pay52 (k0_pay51 (k0_pay47 (k0_pay31 v))) = cdc (col v 2) := by rw [← s2]; rfl
theorem d12 (v : Vec F S1x4x64x256 .bf16) : k0_pay50 (k0_pay47 (k0_pay31 v)) = scr (col v 2) := by rw [← s2]; rfl
theorem c13 (v : Vec F S1x4x64x256 .bf16) : k0_pay2 (k0_pay56 (k0_pay31 v)) = cdc (col v 3) := by rw [← s3]; rfl
theorem d13 (v : Vec F S1x4x64x256 .bf16) : k0_pay55 (k0_pay31 v) = scr (col v 3) := by rw [← s3]; rfl
theorem p33 (v : Vec F S1x4x64x256 .bf16) (w : Vec F S80x256 .bf16) : k0_pay33 v w = k0_pay7 v w := rfl
theorem p34 (v : Vec F S1x4x64x256 .bf16) (w : Vec F S80x256 .bf16) : k0_pay34 v w = k0_pay8 v w := rfl

end Cert.AnalyzeIdeal.Hand

end
-- ==== Proof.AnalyzeIdeal.Sum.lean ====
/-
  The kernel over the extended reals: its products as sums.
-/
module

public import proofs.«01_k».proof.Proof.AnalyzeIdeal.Values
public import Idealize.ShloMosaic.Lib.ValueIdx
public import Idealize.ShloMosaic.Lib.Pointwise
public import Idealize.ShloMosaic.Lib.MatmulPlain

@[expose] public section

set_option maxRecDepth 16384

noncomputable section

namespace Cert.AnalyzeIdeal.Hand

open Cert.AnalyzeIdeal Cert.AnalyzeIdeal.Gen
open Idealize.ShloMosaic Idealize.ShloMosaic.TcCoe

theorem arow_at (V1 : Vec Ideal S1x200x64x256 .bf16) (V2 : Vec Ideal S80x256 .bf16) (ng : Fin 56) (r : Fin 144) (l : Fin 128) (hng : ng.val < 50) :
    arow V1 V2 ng r l = ∑ h : Fin 256, (V2 (ix2 ⟨r.val / 2, by omega⟩ h) : EReal) *
      V1 (ix4 0 ⟨4 * ng.val + (r.val % 2 * 128 + l.val) / 64, by omega⟩ ⟨l.val % 64, by omega⟩ h) := by
  unfold arow
  rw [dif_pos hng]
  unfold k0_pay6 k0_pay5
  pointwise
  refine Finset.sum_congr rfl fun h _ => congrArg (_ * ·) ?_
  refine congrArg V1 ?_
  funext a
  apply Fin.ext
  have hh := h.isLt
  have hl := l.isLt
  match a with
  | ⟨0, _⟩ => rfl
  | ⟨1, _⟩ => rfl
  | ⟨2, _⟩ => show (r.val % 2 * 128 + l.val) % 64 = l.val % 64; omega
  | ⟨3, _⟩ => rfl

variable (A : Fin 56 → Fin 144 → Fin 128 → Elt Ideal .f32) (V3 : Vec Ideal S128x224 .bf16) (k : Fin 18)

/-- The product of one pair of row frequencies. -/
def rmat : FVec Ideal S128x256 .f32 :=
  k0_pay58 (k0_pay57 (awin A k 0 0 0) (awin A k 0 0 1) (awin A k 1 0 0) (awin A k 1 0 1)) (awin A k 0 1 0) (awin A k 0 1 1) (awin A k 1 1 0) (awin A k 1 1 1) V3

theorem awin_at (p k2 t : Fin 2) (a : Fin 56) (b : Fin 128) (ng : Fin 56) (r : Fin 144) (l : Fin 128) (h1 : a.val = ng.val) (h2 : 72 * p.val + 4 * k.val + 2 * k2.val + t.val = r.val) (h3 : b.val = l.val) :
    awin A k p k2 t (ix2 a b) = A ng r l := by
  show A a ⟨_, _⟩ b = _
  obtain rfl : a = ng := Fin.ext h1
  obtain rfl : b = l := Fin.ext h3
  exact congrArg (A a · b) (Fin.ext h2)

set_option maxHeartbeats 1000000 in
theorem rmat_at (r : Fin 128) (l : Fin 256) : rmat A V3 k (ix2 r l) = ∑ j : Fin 224, (V3 (ix2 r j) : EReal) *
    A ⟨j.val % 56, by omega⟩ ⟨72 * (j.val / 112) + 4 * k.val + 2 * (l.val / 128) + j.val / 56 % 2, by omega⟩ ⟨l.val % 128, by omega⟩ := by
  unfold rmat k0_pay58 k0_pay57
  pointwise
  refine Finset.sum_congr rfl fun j _ => congrArg (_ * ·) ?_
  have hj := j.isLt
  have hl := l.isLt
  split_ifs <;> first
    | (exfalso; omega)
    | (refine awin_at A k _ _ _ _ _ _ _ _ ?_ ?_ ?_ <;> first | (simp; omega) | (dsimp only; omega))

theorem slt_lo (n : ℕ) (h : n < 64) : IntOp.cmpi CmpIPredicate.slt (BitVec.ofNat 32 n) 64#32 = 1#1 :=
  (by decide : ∀ i : Fin 64, IntOp.cmpi CmpIPredicate.slt (BitVec.ofNat 32 i.val) 64#32 = 1#1) ⟨n, h⟩

theorem slt_hi (n : ℕ) (h : 64 ≤ n) (h' : n < 128) : IntOp.cmpi CmpIPredicate.slt (BitVec.ofNat 32 n) 64#32 = 0#1 := by
  have e := (by decide : ∀ i : Fin 64, IntOp.cmpi CmpIPredicate.slt (BitVec.ofNat 32 (64 + i.val)) 64#32 = 0#1) ⟨n - 64, by omega⟩
  rwa [show 64 + (n - 64) = n by omega] at e

set_option maxHeartbeats 1000000 in
theorem xsv_at (m : Fin 64) (l : Fin 128) : xsv A V3 k (ix4 0 0 m l) =
    (rmat A V3 k (ix2 ⟨m.val, by omega⟩ ⟨l.val / 64 * 128 + l.val % 64, by omega⟩) : EReal) + rmat A V3 k (ix2 ⟨64 + m.val, by omega⟩ ⟨l.val / 64 * 128 + 64 + l.val % 64, by omega⟩) := by
  show k0_pay4 (F := Ideal) (extractStridedSlice S64x128 ![0, 0] (rmat A V3 k) slices_S128x256_o0_0_S64x128) (extractStridedSlice S64x128 ![64, 0] (rmat A V3 k) slices_S128x256_o64_0_S64x128)
    (extractStridedSlice S64x128 ![0, 128] (rmat A V3 k) slices_S128x256_o0_128_S64x128) (extractStridedSlice S64x128 ![64, 128] (rmat A V3 k) slices_S128x256_o64_128_S64x128) (ix4 0 0 m l) = _
  generalize rmat A V3 k = R
  unfold k0_pay4
  pointwise
  have hl := l.isLt
  have hm := m.isLt
  by_cases h : l.val < 64
  · have e1 : IntOp.cmpi CmpIPredicate.slt (BitVec.ofNat 32 l.val) 64#32 = 1#1 := slt_lo _ h
    have e2 : IntOp.cmpi CmpIPredicate.slt (BitVec.ofNat 32 ((l.val + 128 - 64) % 128)) 64#32 = 0#1 := slt_hi _ (by omega) (by omega)
    rw [e1, e2]
    exact congrArg₂ (fun x y : EReal => x + y) (congrArg R (congrArg₂ ix2 rfl (Fin.ext (by dsimp only; omega))))
      (congrArg R (congrArg₂ ix2 rfl (Fin.ext (by dsimp only; omega))))
  · have e1 : IntOp.cmpi CmpIPredicate.slt (BitVec.ofNat 32 l.val) 64#32 = 0#1 := slt_hi _ (by omega) (by omega)
    have e2 : IntOp.cmpi CmpIPredicate.slt (BitVec.ofNat 32 ((l.val + 128 - 64) % 128)) 64#32 = 1#1 := slt_lo _ (by omega)
    rw [e1, e2]
    refine (add_comm _ _).trans ?_
    exact congrArg₂ (fun x y : EReal => x + y) (congrArg R (congrArg₂ ix2 rfl (Fin.ext (by dsimp only; omega))))
      (congrArg R (congrArg₂ ix2 rfl (Fin.ext (by dsimp only; omega))))

end Cert.AnalyzeIdeal.Hand

end
-- ==== Proof.Quant.lean ====
/-
  The quantiser over the extended reals: the scale of 64 values, and the code of one of them.
-/
module

public import Idealize.ShloMosaic.Lib.ValueIdx
public import Idealize.ShloMosaic.Lib.Pointwise

@[expose] public section

noncomputable section

namespace Cert.Quant

open Idealize.ShloMosaic

/-- The number of powers of two, from the least normal one on, that do not exceed the scaled largest magnitude. -/
def count (f : Fin 64 → EReal) : BitVec 32 :=
  Finset.univ.fold IntOp.addi 0#32 fun i : Fin 255 => BitVec.setWidth 32 (BitVec.ofBool (decide
    (Ideal.ofBits .f32 (IntOp.shli .vector (IntOp.addi (BitVec.ofNat 32 i.val) 1#32) 23#32)
      ≤ Finset.univ.fold max (Ideal.ofBits .f32 0xFF800000#32) (fun j => FloatOps.absf (F := Ideal) (φ := .f32) (f j)) * Ideal.ofBits .f32 0x3B124925#32)))

/-- The biased exponent. -/
def expo (f : Fin 64 → EReal) : BitVec 32 := Scalar.select (IntOp.cmpi .eq (count f) 0#32) 126#32 (count f)

/-- The scale. -/
def scale (f : Fin 64 → EReal) : EReal := Ideal.ofBits .f32 (IntOp.shli .vector (IntOp.addi (expo f) 1#32) 23#32)

/-- The code of a value. -/
def code (f : Fin 64 → EReal) (v : EReal) : EReal :=
  min (Ideal.ofBits .f32 0x43E00000#32) (max (Ideal.ofBits .f32 0xC3E00000#32) (v * Ideal.ofBits .f32 (IntOp.shli .vector (IntOp.subi 253#32 (expo f)) 23#32)))

end Cert.Quant

end
-- ==== Proof.AnalyzeIdeal.Codes.lean ====
/-
  The codes and the scales over the extended reals.
-/
module

public import proofs.«01_k».proof.Proof.Quant
public import proofs.«01_k».proof.Proof.AnalyzeIdeal.Values
public import Idealize.ShloMosaic.Lib.ValueIdx
public import Idealize.ShloMosaic.Lib.Pointwise

@[expose] public section

set_option maxRecDepth 16384

noncomputable section

namespace Cert.AnalyzeIdeal.Hand

open Cert.AnalyzeIdeal Cert.AnalyzeIdeal.Gen
open Idealize.ShloMosaic Idealize.ShloMosaic.TcCoe

theorem scr_at (x : FVec Ideal S64x256 .bf16) (h : Fin 256) : scr x (ix2 0 h) = Cert.Quant.scale fun i => x (ix2 i h) := by
  unfold scr k0_pay13 k0_pay12 k0_pay10 amax
  pointwise
  rfl

theorem cdc_at (x : FVec Ideal S64x256 .bf16) (c : Fin 64) (h : Fin 256) : cdc x (ix4 0 0 c h) = Cert.Quant.code (fun i => x (ix2 i h)) (x (ix2 c h)) := by
  unfold cdc k0_pay14 k0_pay12 k0_pay10 amax
  pointwise
  rfl

end Cert.AnalyzeIdeal.Hand

end
-- ==== Proof.AnalyzeIdeal.Host.lean ====
/-
  The operands of the kernel's region over the extended reals, at an index.
-/
module

public import proofs.«01_k».proof.Proof.AnalyzeIdeal.Values
public import Idealize.ShloMosaic.Lib.StableHlo.ReadAt
public import Idealize.ShloMosaic.Lib.ValueIdx
public import Idealize.ShloMosaic.Lib.Pointwise

@[expose] public section

set_option maxRecDepth 16384

noncomputable section

namespace Cert.AnalyzeIdeal.Hand

open Cert.AnalyzeIdeal Cert.AnalyzeIdeal.Gen
open Idealize.ShloMosaic Idealize.ShloMosaic.TcCoe

variable (m : (ℓ : Loc nD τ sig) → Buf (Elt Ideal) ℓ) (c : Dev nD)

theorem V_x (b : Fin 40) (w : Fin 200) (ch : Fin 64) (h : Fin 256) (X : Vec Ideal S40x256x200x64 .bf16) (hX : m ((c : Thread nD τ).loc main_arg0) = X) :
    V m c main_v0 (ix4 b w ch h) = X (ix4 b h w ch) := by
  subst hX
  unfold V
  after_reads_at

theorem V_fh (r : Fin 80) (hr : r.val < 72) (h : Fin 256) (H : Vec Ideal S2x36x256 .bf16) (hH : m ((c : Thread nD τ).loc main_arg1) = H) :
    V m c main_v2 (ix2 r h) = H (ix3 ⟨r.val / 36, by omega⟩ ⟨r.val % 36, by omega⟩ h) := by
  subst hH
  unfold V
  after_reads_at
  exact dif_pos hr

theorem V_gm (r : Fin 128) (j : Fin 224) (G : Vec Ideal S2x200x2x28 .bf16) (hG : m ((c : Thread nD τ).loc main_arg2) = G) :
    (V m c main_v7 (ix2 r j) : EReal) = if h : j.val % 56 < 50 ∧ r.val % 32 < 28 then
      G (ix4 ⟨j.val / 112, by omega⟩ ⟨4 * (j.val % 56) + 2 * (j.val / 56 % 2) + r.val / 64, by omega⟩ ⟨r.val / 32 % 2, by omega⟩ ⟨r.val % 32, h.2⟩) else 0 := by
  subst hG
  unfold V
  after_reads_at
  have hr := r.isLt
  have hj := j.isLt
  have h0 : (FloatOps.sitofp (F := Ideal) FTy.bf16 0#32 : EReal) = 0 := by
    show (((0#32 : BitVec 32).toInt : ℝ) : EReal) = 0
    simp
  split_ifs <;> first
    | (exfalso; omega)
    | exact h0
    | (refine congrArg (m (c, Proc.tc.devRef main_arg2)) ?_
       refine congrArg (fun x => ix4 _ x _ _) (Fin.ext ?_)
       dsimp only; omega)

end Cert.AnalyzeIdeal.Hand

end
-- ==== Proof.AnalyzeIdeal.Loop1.lean ====
/-
  The loop over pairs of column groups: one trip quantises eight spatial columns and transforms them along the rows.
-/
module

public import proofs.«01_k».proof.Proof.Gen.AnalyzeIdeal
public import proofs.«01_k».proof.Proof.Gen.AnalyzeIdeal.Skeleton
public import proofs.«01_k».proof.Proof.Gen.AnalyzeIdeal.Launch
public import proofs.«01_k».proof.Proof.Gen.AnalyzeIdeal.Points
public import proofs.«01_k».proof.Proof.Gen.AnalyzeIdeal.Frame
public import proofs.«01_k».proof.Proof.AnalyzeIdeal.Values

@[expose] public section

set_option maxRecDepth 16384

noncomputable section

namespace Cert.AnalyzeIdeal.Hand

open Cert.AnalyzeIdeal Cert.AnalyzeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .bf16) (harg1 : arg1.IsWhole)
  (arg2 : Memref sig .tc .vmem S80x256 .bf16) (harg2 : arg2.IsWhole)
  (arg3 : Memref sig .tc .vmem S128x224 .bf16) (harg3 : arg3.IsWhole)
  (arg4 : Memref sig .tc .vmem S1x200x64x256 .fp8e4m3) (harg4 : arg4.IsWhole)
  (arg5 : Memref sig .tc .vmem S1x200x256 .f32) (harg5 : arg5.IsWhole)
  (arg6 : Memref sig .tc .vmem S1x18x64x128 .f32) (harg6 : arg6.IsWhole)
  (arg7 : Memref sig .tc .vmem S8288x128 .f32) (harg7 : arg7.IsWhole)

omit [FloatOps F] in
/-- A load of one group of four columns of the input block. -/
theorem x_read (m : Memref sig .tc .vmem S1x200x64x256 .bf16) (X : BufTy.Contents (Elt F) m.view.ty) (off : Fin 4 → ℕ)
    (g : Fin 50) (hoff : off = ![0, 4 * g.val, 0, 0]) (inb : _) :
    View.readAt (Elt F) m.view (Rect.unit off S1x4x64x256.size inb : Rect S1x200x64x256).toLoadRect X = x4 (m.view.read (Elt F) X) g := by
  subst hoff
  funext y
  show m.view.read (Elt F) X _ = m.view.read (Elt F) X _
  congr 1
  funext a
  apply Fin.ext
  match a with
  | ⟨0, _⟩ => show 0 + 1 * (y 0).val = 0; have h0 : (y 0).val < 1 := (y 0).isLt; omega
  | ⟨1, _⟩ => show 4 * g.val + 1 * (y 1).val = 4 * g.val + (y 1).val; omega
  | ⟨2, _⟩ => show 0 + 1 * (y 2).val = (y 2).val; omega
  | ⟨3, _⟩ => show 0 + 1 * (y 3).val = (y 3).val; omega

/-- Before trip `k` the groups before `2k` of the scratch buffer hold their row transforms, the last six zeros. -/
abbrev inv7 (V1 : Vec F S1x200x64x256 .bf16) (V2 : Vec F S80x256 .bf16) (V : Vec F S8288x128 .f32) (k : ℕ) : Prop :=
  ∀ (ng : Fin 56) (r : Fin 144) (l : Fin 128), ng.val < 2 * k ∨ 50 ≤ ng.val → A7 V ng r l = arow V1 V2 ng r l

/-- Before trip `k` the columns before `8k` of the codes are written, -/
abbrev inv4 (V1 : Vec F S1x200x64x256 .bf16) (V : Vec F S1x200x64x256 .fp8e4m3) (k : ℕ) : Prop :=
  ∀ (w : Fin 200) (ch : Fin 64) (h : Fin 256), w.val < 8 * k → V (ix4 0 w ch h) = cBlock V1 (ix4 0 w ch h)

/-- and those of the scales. -/
abbrev inv5 (V1 : Vec F S1x200x64x256 .bf16) (V : Vec F S1x200x256 .f32) (k : ℕ) : Prop :=
  ∀ (w : Fin 200) (h : Fin 256), w.val < 8 * k → V (ix3 0 w h) = sBlock V1 (ix3 0 w h)

/-- One write into the scratch buffer: every second row of one group. -/
theorem hit7 (V1 : Vec F S1x200x64x256 .bf16) (V2 : Vec F S80x256 .bf16) (m : Memref sig .tc .vmem S8288x128 .f32)
    (f : BufTy.Contents (Elt F) m.view.ty) (L : List (View.Piece (Elt F) S8288x128 .f32)) (ng : Fin 56) (r : Fin 144) (l : Fin 128)
    (off : Fin 2 → ℕ) (g : Fin 50) (t : Fin 2) (hoff : off = ![148 * g.val + t.val, 0]) (inb : _) (pay : FVec F S72x128 .f32)
    (hp : ∀ (j : Fin 72), pay (ix2 j l) = k0_pay6 (x4 V1 g) V2 (ix2 ⟨j.val, by omega⟩ ⟨t.val * 128 + l.val, by omega⟩))
    (h : (ng.val = g.val ∧ r.val % 2 = t.val) ∨ A7 (m.view.read (Elt F) (m.view.writes (Elt F) f L)) ng r l = arow V1 V2 ng r l) :
    A7 (m.view.read (Elt F) (m.view.writes (Elt F) f
      (⟨({ off := off, size := S72x128.size, stride := ![2, 1], inb := inb, stride_pos := spos_2_1 } : Rect S8288x128), pay⟩ :: L))) ng r l
      = arow V1 V2 ng r l := by
  subst hoff
  have hr := r.isLt
  by_cases hc : ng.val = g.val ∧ r.val % 2 = t.val
  · obtain ⟨hn, ht⟩ := hc
    unfold A7
    rw [View.read_writes_cons_hit_of_coords (x := (ix2 ⟨r.val / 2, by omega⟩ l : S72x128.Idx))]
    · rw [hp]
      unfold arow
      have hg : ng.val < 50 := by have := g.isLt; omega
      rw [dif_pos hg]
      have e1 : (⟨ng.val, hg⟩ : Fin 50) = g := Fin.ext hn
      rw [e1]
      congr 1
      congr 1
      apply Fin.ext
      show t.val * 128 + l.val = r.val % 2 * 128 + l.val
      omega
    · intro a
      match a with
      | ⟨0, _⟩ => show 148 * ng.val + r.val = 148 * g.val + t.val + 2 * (r.val / 2); omega
      | ⟨1, _⟩ => show l.val = 0 + 1 * l.val; omega
  · refine Eq.trans ?_ (h.resolve_left hc)
    unfold A7
    rw [View.read_writes_cons_miss]
    refine not_mem_rect _ _ fun x hx => hc ?_
    have h0 := hx 0
    have hx0 : (x 0).val < 72 := (x 0).isLt
    replace h0 : 148 * ng.val + r.val = 148 * g.val + t.val + 2 * (x 0).val := h0
    have ht := t.isLt
    constructor <;> omega

theorem pay7 (v : Vec F S1x4x64x256 .bf16) (w : Vec F S80x256 .bf16) (j : Fin 72) (l : Fin 128) :
    k0_pay7 v w (ix2 j l) = k0_pay6 v w (ix2 ⟨j.val, by omega⟩ ⟨(0 : Fin 2).val * 128 + l.val, by have := l.isLt; show 0 * 128 + l.val < 256; omega⟩) := by
  have e : (⟨(0 : Fin 2).val * 128 + l.val, by have := l.isLt; show 0 * 128 + l.val < 256; omega⟩ : Fin 256) = ⟨l.val, by omega⟩ :=
    Fin.ext (by show 0 * 128 + l.val = l.val; omega)
  rw [e]
  pointwise [k0_pay7]

theorem pay8 (v : Vec F S1x4x64x256 .bf16) (w : Vec F S80x256 .bf16) (j : Fin 72) (l : Fin 128) :
    k0_pay8 v w (ix2 j l) = k0_pay6 v w (ix2 ⟨j.val, by omega⟩ ⟨(1 : Fin 2).val * 128 + l.val, by have := l.isLt; show 1 * 128 + l.val < 256; omega⟩) := by
  have e : (⟨(1 : Fin 2).val * 128 + l.val, by have := l.isLt; show 1 * 128 + l.val < 256; omega⟩ : Fin 256) = ⟨128 + l.val, by omega⟩ :=
    Fin.ext (by show 1 * 128 + l.val = 128 + l.val; omega)
  rw [e]
  pointwise [k0_pay8]

/-- One trip's four strided stores extend the property by two groups. -/
theorem step7 (V1 : Vec F S1x200x64x256 .bf16) (V2 : Vec F S80x256 .bf16) (m : Memref sig .tc .vmem S8288x128 .f32)
    (f : BufTy.Contents (Elt F) m.view.ty) (k : ℕ) (hk : k < 25) (hf : inv7 V1 V2 (m.view.read (Elt F) f) k)
    (o3 o2 o1 o0 : Fin 2 → ℕ) (e3 : o3 = ![296 * k + 148 * 1 + 1, 0]) (e2 : o2 = ![296 * k + 148 * 1 + 0, 0])
    (e1 : o1 = ![296 * k + 148 * 0 + 1, 0]) (e0 : o0 = ![296 * k + 148 * 0 + 0, 0]) (i3 i2 i1 i0 : _)
    (v1 v0 : Vec F S1x4x64x256 .bf16) (w1 w0 : Vec F S80x256 .bf16)
    (h1 : v1 = x4 V1 ⟨2 * k + 1, by omega⟩) (h0 : v0 = x4 V1 ⟨2 * k, by omega⟩) (hw1 : w1 = V2) (hw0 : w0 = V2) :
    inv7 V1 V2 (m.view.read (Elt F) (m.view.writes (Elt F) f
      [⟨({ off := o3, size := S72x128.size, stride := ![2, 1], inb := i3, stride_pos := spos_2_1 } : Rect S8288x128), k0_pay34 v1 w1⟩,
       ⟨({ off := o2, size := S72x128.size, stride := ![2, 1], inb := i2, stride_pos := spos_2_1 } : Rect S8288x128), k0_pay33 v1 w1⟩,
       ⟨({ off := o1, size := S72x128.size, stride := ![2, 1], inb := i1, stride_pos := spos_2_1 } : Rect S8288x128), k0_pay8 v0 w0⟩,
       ⟨({ off := o0, size := S72x128.size, stride := ![2, 1], inb := i0, stride_pos := spos_2_1 } : Rect S8288x128), k0_pay7 v0 w0⟩])) (k + 1) := by
  subst h1 h0 hw1 hw0
  have q3 : o3 = ![148 * (⟨2 * k + 1, by omega⟩ : Fin 50).val + (1 : Fin 2).val, 0] := e3.trans (by congr 1; show 296 * k + 148 * 1 + 1 = 148 * (2 * k + 1) + 1; omega)
  have q2 : o2 = ![148 * (⟨2 * k + 1, by omega⟩ : Fin 50).val + (0 : Fin 2).val, 0] := e2.trans (by congr 1; show 296 * k + 148 * 1 + 0 = 148 * (2 * k + 1) + 0; omega)
  have q1 : o1 = ![148 * (⟨2 * k, by omega⟩ : Fin 50).val + (1 : Fin 2).val, 0] := e1.trans (by congr 1; show 296 * k + 148 * 0 + 1 = 148 * (2 * k) + 1; omega)
  have q0 : o0 = ![148 * (⟨2 * k, by omega⟩ : Fin 50).val + (0 : Fin 2).val, 0] := e0.trans (by congr 1; show 296 * k + 148 * 0 + 0 = 148 * (2 * k) + 0; omega)
  intro ng r l hn
  refine hit7 V1 _ m f _ ng r l o3 ⟨2 * k + 1, by omega⟩ 1 q3 _ _ (fun j => (congrFun (p34 _ _) _).trans (pay8 _ _ j l)) ?_
  by_cases c3 : ng.val = 2 * k + 1 ∧ r.val % 2 = 1
  · exact Or.inl c3
  right
  refine hit7 V1 _ m f _ ng r l o2 ⟨2 * k + 1, by omega⟩ 0 q2 _ _ (fun j => (congrFun (p33 _ _) _).trans (pay7 _ _ j l)) ?_
  by_cases c2 : ng.val = 2 * k + 1 ∧ r.val % 2 = 0
  · exact Or.inl c2
  right
  refine hit7 V1 _ m f _ ng r l o1 ⟨2 * k, by omega⟩ 1 q1 _ _ (fun j => pay8 _ _ j l) ?_
  by_cases c1 : ng.val = 2 * k ∧ r.val % 2 = 1
  · exact Or.inl c1
  right
  refine hit7 V1 _ m f _ ng r l o0 ⟨2 * k, by omega⟩ 0 q0 _ _ (fun j => pay7 _ _ j l) ?_
  by_cases c0 : ng.val = 2 * k ∧ r.val % 2 = 0
  · exact Or.inl c0
  right
  exact hf ng r l (by omega)

/-- A column of a group of four is the column of the block. -/
theorem xcol_x4 (V1 : Vec F S1x200x64x256 .bf16) (g : Fin 50) (i : Fin 4) (w : Fin 200) (h : 4 * g.val + i.val = w.val) :
    col (x4 V1 g) i = xcol V1 w := by
  have e : (⟨4 * g.val + i.val, by omega⟩ : Fin 200) = w := Fin.ext h
  rw [← e]
  rfl

theorem c00_at (V1 : Vec F S1x200x64x256 .bf16) (v : Vec F S1x4x64x256 .bf16) (g : Fin 50) (w : Fin 200) (hv : v = x4 V1 g) (h : 4 * g.val + 0 = w.val) :
    k0_pay14 (k0_pay9 v) k0_pay10 (k0_pay11 v) = cdc (xcol V1 w) := by
  subst hv
  exact (c00 _).trans (by rw [xcol_x4 V1 g 0 w h])
theorem d00_at (V1 : Vec F S1x200x64x256 .bf16) (v : Vec F S1x4x64x256 .bf16) (g : Fin 50) (w : Fin 200) (hv : v = x4 V1 g) (h : 4 * g.val + 0 = w.val) :
    k0_pay13 k0_pay10 (k0_pay11 v) = scr (xcol V1 w) := by
  subst hv
  exact (d00 _).trans (by rw [xcol_x4 V1 g 0 w h])
theorem c01_at (V1 : Vec F S1x200x64x256 .bf16) (v : Vec F S1x4x64x256 .bf16) (g : Fin 50) (w : Fin 200) (hv : v = x4 V1 g) (h : 4 * g.val + 1 = w.val) :
    k0_pay20 (k0_pay15 (k0_pay5 v)) (k0_pay16 (k0_pay5 v)) k0_pay17 23#32 = cdc (xcol V1 w) := by
  subst hv
  exact (c01 _).trans (by rw [xcol_x4 V1 g 1 w h])
theorem d01_at (V1 : Vec F S1x200x64x256 .bf16) (v : Vec F S1x4x64x256 .bf16) (g : Fin 50) (w : Fin 200) (hv : v = x4 V1 g) (h : 4 * g.val + 1 = w.val) :
    k0_pay19 (k0_pay16 (k0_pay5 v)) k0_pay17 23#32 = scr (xcol V1 w) := by
  subst hv
  exact (d01 _).trans (by rw [xcol_x4 V1 g 1 w h])
theorem c02_at (V1 : Vec F S1x200x64x256 .bf16) (v : Vec F S1x4x64x256 .bf16) (g : Fin 50) (w : Fin 200) (hv : v = x4 V1 g) (h : 4 * g.val + 2 = w.val) :
    k0_pay25 (k0_pay21 (k0_pay5 v)) (k0_pay22 (k0_pay5 v)) = cdc (xcol V1 w) := by
  subst hv
  exact (c02 _).trans (by rw [xcol_x4 V1 g 2 w h])
theorem d02_at (V1 : Vec F S1x200x64x256 .bf16) (v : Vec F S1x4x64x256 .bf16) (g : Fin 50) (w : Fin 200) (hv : v = x4 V1 g) (h : 4 * g.val + 2 = w.val) :
    k0_pay24 (k0_pay22 (k0_pay5 v)) = scr (xcol V1 w) := by
  subst hv
  exact (d02 _).trans (by rw [xcol_x4 V1 g 2 w h])
theorem c03_at (V1 : Vec F S1x200x64x256 .bf16) (v : Vec F S1x4x64x256 .bf16) (g : Fin 50) (w : Fin 200) (hv : v = x4 V1 g) (h : 4 * g.val + 3 = w.val) :
    k0_pay30 (k0_pay29 (k0_pay5 v)) = cdc (xcol V1 w) := by
  subst hv
  exact (c03 _).trans (by rw [xcol_x4 V1 g 3 w h])
theorem d03_at (V1 : Vec F S1x200x64x256 .bf16) (v : Vec F S1x4x64x256 .bf16) (g : Fin 50) (w : Fin 200) (hv : v = x4 V1 g) (h : 4 * g.val + 3 = w.val) :
    k0_pay28 (k0_pay5 v) = scr (xcol V1 w) := by
  subst hv
  exact (d03 _).trans (by rw [xcol_x4 V1 g 3 w h])
theorem c10_at (V1 : Vec F S1x200x64x256 .bf16) (v : Vec F S1x4x64x256 .bf16) (g : Fin 50) (w : Fin 200) (hv : v = x4 V1 g) (h : 4 * g.val + 0 = w.val) :
    k0_pay41 (k0_pay35 v) (k0_pay36 v) k0_pay37 k0_pay38 = cdc (xcol V1 w) := by
  subst hv
  exact (c10 _).trans (by rw [xcol_x4 V1 g 0 w h])
theorem d10_at (V1 : Vec F S1x200x64x256 .bf16) (v : Vec F S1x4x64x256 .bf16) (g : Fin 50) (w : Fin 200) (hv : v = x4 V1 g) (h : 4 * g.val + 0 = w.val) :
    k0_pay40 (k0_pay36 v) k0_pay37 k0_pay38 = scr (xcol V1 w) := by
  subst hv
  exact (d10 _).trans (by rw [xcol_x4 V1 g 0 w h])
theorem c11_at (V1 : Vec F S1x200x64x256 .bf16) (v : Vec F S1x4x64x256 .bf16) (g : Fin 50) (w : Fin 200) (hv : v = x4 V1 g) (h : 4 * g.val + 1 = w.val) :
    k0_pay46 (k0_pay42 (k0_pay31 v)) (k0_pay43 (k0_pay31 v)) = cdc (xcol V1 w) := by
  subst hv
  exact (c11 _).trans (by rw [xcol_x4 V1 g 1 w h])
theorem d11_at (V1 : Vec F S1x200x64x256 .bf16) (v : Vec F S1x4x64x256 .bf16) (g : Fin 50) (w : Fin 200) (hv : v = x4 V1 g) (h : 4 * g.val + 1 = w.val) :
    k0_pay45 (k0_pay43 (k0_pay31 v)) = scr (xcol V1 w) := by
  subst hv
  exact (d11 _).trans (by rw [xcol_x4 V1 g 1 w h])
theorem c12_at (V1 : Vec F S1x200x64x256 .bf16) (v : Vec F S1x4x64x256 .bf16) (g : Fin 50) (w : Fin 200) (hv : v = x4 V1 g) (h : 4 * g.val + 2 = w.val) :
    k0_pay52 (k0_pay51 (k0_pay47 (k0_pay31 v))) = cdc (xcol V1 w) := by
  subst hv
  exact (c12 _).trans (by rw [xcol_x4 V1 g 2 w h])
theorem d12_at (V1 : Vec F S1x200x64x256 .bf16) (v : Vec F S1x4x64x256 .bf16) (g : Fin 50) (w : Fin 200) (hv : v = x4 V1 g) (h : 4 * g.val + 2 = w.val) :
    k0_pay50 (k0_pay47 (k0_pay31 v)) = scr (xcol V1 w) := by
  subst hv
  exact (d12 _).trans (by rw [xcol_x4 V1 g 2 w h])
theorem c13_at (V1 : Vec F S1x200x64x256 .bf16) (v : Vec F S1x4x64x256 .bf16) (g : Fin 50) (w : Fin 200) (hv : v = x4 V1 g) (h : 4 * g.val + 3 = w.val) :
    k0_pay2 (k0_pay56 (k0_pay31 v)) = cdc (xcol V1 w) := by
  subst hv
  exact (c13 _).trans (by rw [xcol_x4 V1 g 3 w h])
theorem d13_at (V1 : Vec F S1x200x64x256 .bf16) (v : Vec F S1x4x64x256 .bf16) (g : Fin 50) (w : Fin 200) (hv : v = x4 V1 g) (h : 4 * g.val + 3 = w.val) :
    k0_pay55 (k0_pay31 v) = scr (xcol V1 w) := by
  subst hv
  exact (d13 _).trans (by rw [xcol_x4 V1 g 3 w h])

/-- A column of the codes agrees with the block of the codes. -/
theorem piece4 (V1 : Vec F S1x200x64x256 .bf16) (w : Fin 200) (off : Fin 4 → ℕ) (hoff : off = ![0, w.val, 0, 0]) (inb : _)
    (pay : FVec F S1x1x64x256 .fp8e4m3) (hp : pay = cdc (xcol V1 w)) :
    ∀ x, pay x = cBlock V1 ((Rect.unit (s := S1x200x64x256) off S1x1x64x256.size inb).emb x) := by
  subst hoff hp
  intro x
  unfold cBlock
  have hx0 : (x 0).val < 1 := (x 0).isLt
  have hx1 : (x 1).val < 1 := (x 1).isLt
  have e1 : ((Rect.unit (s := S1x200x64x256) ![0, w.val, 0, 0] S1x1x64x256.size inb).emb x) 1 = w := by
    apply Fin.ext; show w.val + 1 * (x 1).val = w.val; omega
  rw [e1]
  congr 1
  funext a
  apply Fin.ext
  match a with
  | ⟨0, _⟩ => show (x 0).val = 0; omega
  | ⟨1, _⟩ => show (x 1).val = 0; omega
  | ⟨2, _⟩ => show (x 2).val = 0 + 1 * (x 2).val; omega
  | ⟨3, _⟩ => show (x 3).val = 0 + 1 * (x 3).val; omega

omit [FloatOps F] in
/-- A place of the column the rectangle covers lies in it. -/
theorem mem4 (w : Fin 200) (ch : Fin 64) (h : Fin 256) (off : Fin 4 → ℕ) (u : ℕ) (hoff : off = ![0, u, 0, 0]) (hu : w.val = u) (inb : _) :
    (ix4 0 w ch h : S1x200x64x256.Idx) ∈ (Rect.unit (s := S1x200x64x256) off S1x1x64x256.size inb).set := by
  subst hoff hu
  refine (Rect.mem_set_unit (inb := inb)).2 fun a => ?_
  have hch := ch.isLt
  have hh := h.isLt
  match a with
  | ⟨0, _⟩ => show 0 ≤ 0 ∧ 0 < 0 + 1; omega
  | ⟨1, _⟩ => show w.val ≤ w.val ∧ w.val < w.val + 1; omega
  | ⟨2, _⟩ => show 0 ≤ ch.val ∧ ch.val < 0 + 64; omega
  | ⟨3, _⟩ => show 0 ≤ h.val ∧ h.val < 0 + 256; omega

/-- One trip's eight columns of codes extend the property. -/
theorem step4 (V1 : Vec F S1x200x64x256 .bf16) (m : Memref sig .tc .vmem S1x200x64x256 .fp8e4m3) (f : BufTy.Contents (Elt F) m.view.ty)
    (k : ℕ) (hk : k < 25) (hf : inv4 V1 (m.view.read (Elt F) f) k) (o7 o6 o5 o4 o3 o2 o1 o0 : Fin 4 → ℕ)
    (e7 : o7 = ![0, 8 * k + 4 * 1 + 3, 0, 0])
    (e6 : o6 = ![0, 8 * k + 4 * 1 + 2, 0, 0])
    (e5 : o5 = ![0, 8 * k + 4 * 1 + 1, 0, 0])
    (e4 : o4 = ![0, 8 * k + 4 * 1 + 0, 0, 0])
    (e3 : o3 = ![0, 8 * k + 4 * 0 + 3, 0, 0])
    (e2 : o2 = ![0, 8 * k + 4 * 0 + 2, 0, 0])
    (e1 : o1 = ![0, 8 * k + 4 * 0 + 1, 0, 0])
    (e0 : o0 = ![0, 8 * k + 4 * 0 + 0, 0, 0])
    (i7 i6 i5 i4 i3 i2 i1 i0 : _) (p7 p6 p5 p4 p3 p2 p1 p0 : FVec F S1x1x64x256 .fp8e4m3)
    (h7 : p7 = cdc (xcol V1 ⟨8 * k + 4 * 1 + 3, by omega⟩))
    (h6 : p6 = cdc (xcol V1 ⟨8 * k + 4 * 1 + 2, by omega⟩))
    (h5 : p5 = cdc (xcol V1 ⟨8 * k + 4 * 1 + 1, by omega⟩))
    (h4 : p4 = cdc (xcol V1 ⟨8 * k + 4 * 1 + 0, by omega⟩))
    (h3 : p3 = cdc (xcol V1 ⟨8 * k + 4 * 0 + 3, by omega⟩))
    (h2 : p2 = cdc (xcol V1 ⟨8 * k + 4 * 0 + 2, by omega⟩))
    (h1 : p1 = cdc (xcol V1 ⟨8 * k + 4 * 0 + 1, by omega⟩))
    (h0 : p0 = cdc (xcol V1 ⟨8 * k + 4 * 0 + 0, by omega⟩)) :
    inv4 V1 (m.view.read (Elt F) (m.view.writes (Elt F) f
      [⟨Rect.unit (s := S1x200x64x256) o7 S1x1x64x256.size i7, p7⟩,
       ⟨Rect.unit (s := S1x200x64x256) o6 S1x1x64x256.size i6, p6⟩,
       ⟨Rect.unit (s := S1x200x64x256) o5 S1x1x64x256.size i5, p5⟩,
       ⟨Rect.unit (s := S1x200x64x256) o4 S1x1x64x256.size i4, p4⟩,
       ⟨Rect.unit (s := S1x200x64x256) o3 S1x1x64x256.size i3, p3⟩,
       ⟨Rect.unit (s := S1x200x64x256) o2 S1x1x64x256.size i2, p2⟩,
       ⟨Rect.unit (s := S1x200x64x256) o1 S1x1x64x256.size i1, p1⟩,
       ⟨Rect.unit (s := S1x200x64x256) o0 S1x1x64x256.size i0, p0⟩])) (k + 1) := by
  intro w ch h hw
  refine read_writes_of m.view f (cBlock V1) _ ?_ (ix4 0 w ch h) ?_
  · refine List.forall_mem_cons.2 ⟨piece4 V1 ⟨8 * k + 4 * 1 + 3, by omega⟩ o7 e7 i7 p7 h7, ?_⟩
    refine List.forall_mem_cons.2 ⟨piece4 V1 ⟨8 * k + 4 * 1 + 2, by omega⟩ o6 e6 i6 p6 h6, ?_⟩
    refine List.forall_mem_cons.2 ⟨piece4 V1 ⟨8 * k + 4 * 1 + 1, by omega⟩ o5 e5 i5 p5 h5, ?_⟩
    refine List.forall_mem_cons.2 ⟨piece4 V1 ⟨8 * k + 4 * 1 + 0, by omega⟩ o4 e4 i4 p4 h4, ?_⟩
    refine List.forall_mem_cons.2 ⟨piece4 V1 ⟨8 * k + 4 * 0 + 3, by omega⟩ o3 e3 i3 p3 h3, ?_⟩
    refine List.forall_mem_cons.2 ⟨piece4 V1 ⟨8 * k + 4 * 0 + 2, by omega⟩ o2 e2 i2 p2 h2, ?_⟩
    refine List.forall_mem_cons.2 ⟨piece4 V1 ⟨8 * k + 4 * 0 + 1, by omega⟩ o1 e1 i1 p1 h1, ?_⟩
    refine List.forall_mem_cons.2 ⟨piece4 V1 ⟨8 * k + 4 * 0 + 0, by omega⟩ o0 e0 i0 p0 h0, ?_⟩
    exact fun p hp => absurd hp List.not_mem_nil
  · by_cases hc : w.val < 8 * k
    · exact Or.inl (hf w ch h hc)
    right
    have hd : w.val = 8 * k + 4 * 1 + 3 ∨ w.val = 8 * k + 4 * 1 + 2 ∨ w.val = 8 * k + 4 * 1 + 1 ∨ w.val = 8 * k + 4 * 1 + 0 ∨ w.val = 8 * k + 4 * 0 + 3 ∨ w.val = 8 * k + 4 * 0 + 2 ∨ w.val = 8 * k + 4 * 0 + 1 ∨ w.val = 8 * k + 4 * 0 + 0 := by omega
    rcases hd with hd | hd | hd | hd | hd | hd | hd | hd
    · exact ⟨_, (List.Mem.head _), mem4 w ch h _ _ e7 hd i7⟩
    · exact ⟨_, (List.Mem.tail _ (List.Mem.head _)), mem4 w ch h _ _ e6 hd i6⟩
    · exact ⟨_, (List.Mem.tail _ (List.Mem.tail _ (List.Mem.head _))), mem4 w ch h _ _ e5 hd i5⟩
    · exact ⟨_, (List.Mem.tail _ (List.Mem.tail _ (List.Mem.tail _ (List.Mem.head _)))), mem4 w ch h _ _ e4 hd i4⟩
    · exact ⟨_, (List.Mem.tail _ (List.Mem.tail _ (List.Mem.tail _ (List.Mem.tail _ (List.Mem.head _))))), mem4 w ch h _ _ e3 hd i3⟩
    · exact ⟨_, (List.Mem.tail _ (List.Mem.tail _ (List.Mem.tail _ (List.Mem.tail _ (List.Mem.tail _ (List.Mem.head _)))))), mem4 w ch h _ _ e2 hd i2⟩
    · exact ⟨_, (List.Mem.tail _ (List.Mem.tail _ (List.Mem.tail _ (List.Mem.tail _ (List.Mem.tail _ (List.Mem.tail _ (List.Mem.head _))))))), mem4 w ch h _ _ e1 hd i1⟩
    · exact ⟨_, (List.Mem.tail _ (List.Mem.tail _ (List.Mem.tail _ (List.Mem.tail _ (List.Mem.tail _ (List.Mem.tail _ (List.Mem.tail _ (List.Mem.head _)))))))), mem4 w ch h _ _ e0 hd i0⟩

/-- Eight rows of scales agree with the block of the scales. -/
theorem piece5 (V1 : Vec F S1x200x64x256 .bf16) (k : ℕ) (hk : k < 25) (a0 a1 a2 a3 a4 a5 a6 a7 : FVec F S1x256 .f32)
    (h0 : a0 = scr (xcol V1 ⟨8 * k + 0, by omega⟩)) (h1 : a1 = scr (xcol V1 ⟨8 * k + 1, by omega⟩)) (h2 : a2 = scr (xcol V1 ⟨8 * k + 2, by omega⟩))
    (h3 : a3 = scr (xcol V1 ⟨8 * k + 3, by omega⟩)) (h4 : a4 = scr (xcol V1 ⟨8 * k + 4, by omega⟩)) (h5 : a5 = scr (xcol V1 ⟨8 * k + 5, by omega⟩))
    (h6 : a6 = scr (xcol V1 ⟨8 * k + 6, by omega⟩)) (h7 : a7 = scr (xcol V1 ⟨8 * k + 7, by omega⟩)) (j : Fin 8) (h : Fin 256) :
    k0_pay3 a0 a1 a2 a3 a4 a5 a6 a7 (ix3 0 j h) = scr (xcol V1 ⟨8 * k + j.val, by omega⟩) (ix2 0 h) := by
  subst h0 h1 h2 h3 h4 h5 h6 h7
  match j with
  | ⟨0, _⟩ => pointwise [k0_pay3]
  | ⟨1, _⟩ => pointwise [k0_pay3]
  | ⟨2, _⟩ => pointwise [k0_pay3]
  | ⟨3, _⟩ => pointwise [k0_pay3]
  | ⟨4, _⟩ => pointwise [k0_pay3]
  | ⟨5, _⟩ => pointwise [k0_pay3]
  | ⟨6, _⟩ => pointwise [k0_pay3]
  | ⟨7, _⟩ => pointwise [k0_pay3]

theorem step5 (V1 : Vec F S1x200x64x256 .bf16) (m : Memref sig .tc .vmem S1x200x256 .f32) (f : BufTy.Contents (Elt F) m.view.ty)
    (k : ℕ) (hk : k < 25) (hf : inv5 V1 (m.view.read (Elt F) f) k) (off : Fin 3 → ℕ) (hoff : off = ![0, 8 * k, 0]) (inb : _) (pay : FVec F S1x8x256 .f32)
    (hp : ∀ (j : Fin 8) (h : Fin 256), pay (ix3 0 j h) = scr (xcol V1 ⟨8 * k + j.val, by omega⟩) (ix2 0 h)) :
    inv5 V1 (m.view.read (Elt F) (m.view.writes (Elt F) f [⟨Rect.unit (s := S1x200x256) off S1x8x256.size inb, pay⟩])) (k + 1) := by
  subst hoff
  intro w h hw
  by_cases hc : 8 * k ≤ w.val
  · rw [View.read_writes_cons_hit_of_coords (x := (ix3 0 ⟨w.val - 8 * k, by omega⟩ h : S1x8x256.Idx))]
    · rw [hp]
      unfold sBlock
      have e : (⟨8 * k + (w.val - 8 * k), by have := w.isLt; omega⟩ : Fin 200) = w := Fin.ext (by show 8 * k + (w.val - 8 * k) = w.val; omega)
      show scr (xcol V1 ⟨8 * k + (w.val - 8 * k), _⟩) (ix2 0 h) = scr (xcol V1 w) (ix2 0 h)
      rw [e]
    · intro a
      match a with
      | ⟨0, _⟩ => rfl
      | ⟨1, _⟩ => show w.val = 8 * k + 1 * (w.val - 8 * k); omega
      | ⟨2, _⟩ => show h.val = 0 + 1 * h.val; omega
  · rw [View.read_writes_cons_miss]
    · exact hf w h (by omega)
    · refine not_mem_rect _ _ fun x hx => hc ?_
      have h1 := hx 1
      replace h1 : w.val = 8 * k + 1 * (x 1).val := h1
      omega

/-- What the first loop holds before trip `k`. -/
abbrev res1 (X1 : BufTy.Contents (Elt F) arg1.view.ty) (X2 : BufTy.Contents (Elt F) arg2.view.ty) (k : ℕ) : sProp 𝕄G :=
  iprop((arg1.view.loc (c : Thread nD τ) ↦[arg1.view.set]{fullShare} X1) ∗ (arg2.view.loc (c : Thread nD τ) ↦[arg2.view.set]{fullShare} X2)
    ∗ (∃ f, (arg4.view.loc (c : Thread nD τ) ↦[arg4.view.set]{fullShare} f) ∗ ⌜inv4 (arg1.view.read (Elt F) X1) (arg4.view.read (Elt F) f) k⌝)
    ∗ (∃ f, (arg5.view.loc (c : Thread nD τ) ↦[arg5.view.set]{fullShare} f) ∗ ⌜inv5 (arg1.view.read (Elt F) X1) (arg5.view.read (Elt F) f) k⌝)
    ∗ ∃ f, (arg7.view.loc (c : Thread nD τ) ↦[arg7.view.set]{fullShare} f)
      ∗ ⌜inv7 (arg1.view.read (Elt F) X1) (arg2.view.read (Elt F) X2) (arg7.view.read (Elt F) f) k⌝)

set_option warn.classDefReducibility false in
set_option maxHeartbeats 4000000 in
/-- The loop over pairs of groups by its invariant. -/
@[sl_loop] def loop1 (X1 : BufTy.Contents (Elt F) arg1.view.ty) (X2 : BufTy.Contents (Elt F) arg2.view.ty) :
    Idealize.ShloMosaic.LoopInv (M := 𝕄G) Idealize.ShloMosaic.frame (wpE (defs₀ (F := F)) Variants.none (c : Thread nD τ) none) Set.univ
      k0_t1_loop.lb k0_t1_loop.ub k0_t1_loop.st k0_t1_ok () (k0_t1_body (F := F) i arg1 harg1 arg2 harg2 arg3 harg3 arg4 harg4 arg5 harg5 arg6 harg6 arg7 harg7) where
  inv k _ := res1 c arg1 arg2 arg4 arg5 arg7 X1 X2 k
  step k acc := by
    have hk : k.val < 25 := Nat.lt_of_lt_of_le k.isLt k0_t1_abs.2.1
    unfold k0_t1_body
    iintro ⟨H1, H2, ⟨%f4, H4, %hf4⟩, ⟨%f5, H5, %hf5⟩, ⟨%f7, H7, %hf7⟩⟩
    sl_exec
    sl_step
    have eX0 := x_read arg1 X1 (k0_off1 k 0#32) ⟨2 * k.val, by omega⟩ ((k0_off1_eq k ⟨0, by decide⟩).trans (by congr 2; show 8 * k.val + 4 * 0 = 4 * (2 * k.val); omega))
    have eX1 := x_read arg1 X1 (k0_off1 k 1#32) ⟨2 * k.val + 1, by omega⟩ ((k0_off1_eq k ⟨1, by decide⟩).trans (by congr 2; show 8 * k.val + 4 * 1 = 4 * (2 * k.val + 1); omega))
    have eW := full_read2 arg2 X2
    isplitl [H1]; · iexact H1
    isplitl [H2]; · iexact H2
    isplitl [H4]
    · iexists _
      isplitl [H4]; · iexact H4
      ipureintro
      refine step4 _ arg4 f4 k.val hk hf4 _ _ _ _ _ _ _ _
        (k0_off3_eq k ⟨1, by decide⟩ ⟨3, by decide⟩)
        (k0_off3_eq k ⟨1, by decide⟩ ⟨2, by decide⟩)
        (k0_off3_eq k ⟨1, by decide⟩ ⟨1, by decide⟩)
        (k0_off3_eq k ⟨1, by decide⟩ ⟨0, by decide⟩)
        (k0_off3_eq k ⟨0, by decide⟩ ⟨3, by decide⟩)
        (k0_off3_eq k ⟨0, by decide⟩ ⟨2, by decide⟩)
        (k0_off3_eq k ⟨0, by decide⟩ ⟨1, by decide⟩)
        (k0_off3_eq k ⟨0, by decide⟩ ⟨0, by decide⟩)
        _ _ _ _ _ _ _ _ _ _ _ _ _ _ _ _ ?_ ?_ ?_ ?_ ?_ ?_ ?_ ?_
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c13_at _ (View.readAt (Elt F) arg1.view (Rect.unit (s := S1x200x64x256) (k0_off1 k 1#32) S1x4x64x256.size (k0_off1_inb k 1)).toLoadRect X1) ⟨2 * k.val + 1, by omega⟩ ⟨8 * k.val + 4 * 1 + 3, by omega⟩ (eX1 _) (by show 4 * (2 * k.val + 1) + 3 = 8 * k.val + 4 * 1 + 3; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c12_at _ (View.readAt (Elt F) arg1.view (Rect.unit (s := S1x200x64x256) (k0_off1 k 1#32) S1x4x64x256.size (k0_off1_inb k 1)).toLoadRect X1) ⟨2 * k.val + 1, by omega⟩ ⟨8 * k.val + 4 * 1 + 2, by omega⟩ (eX1 _) (by show 4 * (2 * k.val + 1) + 2 = 8 * k.val + 4 * 1 + 2; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c11_at _ (View.readAt (Elt F) arg1.view (Rect.unit (s := S1x200x64x256) (k0_off1 k 1#32) S1x4x64x256.size (k0_off1_inb k 1)).toLoadRect X1) ⟨2 * k.val + 1, by omega⟩ ⟨8 * k.val + 4 * 1 + 1, by omega⟩ (eX1 _) (by show 4 * (2 * k.val + 1) + 1 = 8 * k.val + 4 * 1 + 1; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c10_at _ (View.readAt (Elt F) arg1.view (Rect.unit (s := S1x200x64x256) (k0_off1 k 1#32) S1x4x64x256.size (k0_off1_inb k 1)).toLoadRect X1) ⟨2 * k.val + 1, by omega⟩ ⟨8 * k.val + 4 * 1 + 0, by omega⟩ (eX1 _) (by show 4 * (2 * k.val + 1) + 0 = 8 * k.val + 4 * 1 + 0; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c03_at _ (View.readAt (Elt F) arg1.view (Rect.unit (s := S1x200x64x256) (k0_off1 k 0#32) S1x4x64x256.size (k0_off1_inb k 0)).toLoadRect X1) ⟨2 * k.val, by omega⟩ ⟨8 * k.val + 4 * 0 + 3, by omega⟩ (eX0 _) (by show 4 * (2 * k.val) + 3 = 8 * k.val + 4 * 0 + 3; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c02_at _ (View.readAt (Elt F) arg1.view (Rect.unit (s := S1x200x64x256) (k0_off1 k 0#32) S1x4x64x256.size (k0_off1_inb k 0)).toLoadRect X1) ⟨2 * k.val, by omega⟩ ⟨8 * k.val + 4 * 0 + 2, by omega⟩ (eX0 _) (by show 4 * (2 * k.val) + 2 = 8 * k.val + 4 * 0 + 2; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c01_at _ (View.readAt (Elt F) arg1.view (Rect.unit (s := S1x200x64x256) (k0_off1 k 0#32) S1x4x64x256.size (k0_off1_inb k 0)).toLoadRect X1) ⟨2 * k.val, by omega⟩ ⟨8 * k.val + 4 * 0 + 1, by omega⟩ (eX0 _) (by show 4 * (2 * k.val) + 1 = 8 * k.val + 4 * 0 + 1; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact c00_at _ (View.readAt (Elt F) arg1.view (Rect.unit (s := S1x200x64x256) (k0_off1 k 0#32) S1x4x64x256.size (k0_off1_inb k 0)).toLoadRect X1) ⟨2 * k.val, by omega⟩ ⟨8 * k.val + 4 * 0 + 0, by omega⟩ (eX0 _) (by show 4 * (2 * k.val) + 0 = 8 * k.val + 4 * 0 + 0; omega)
    isplitl [H5]
    · iexists _
      isplitl [H5]; · iexact H5
      ipureintro
      refine step5 _ arg5 f5 k.val hk hf5 _ (k0_off4_eq k) _ _ (piece5 _ k.val hk _ _ _ _ _ _ _ _ ?_ ?_ ?_ ?_ ?_ ?_ ?_ ?_)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d00_at _ (View.readAt (Elt F) arg1.view (Rect.unit (s := S1x200x64x256) (k0_off1 k 0#32) S1x4x64x256.size (k0_off1_inb k 0)).toLoadRect X1) ⟨2 * k.val, by omega⟩ ⟨8 * k.val + 0, by omega⟩ (eX0 _) (by show 4 * (2 * k.val) + 0 = 8 * k.val + 0; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d01_at _ (View.readAt (Elt F) arg1.view (Rect.unit (s := S1x200x64x256) (k0_off1 k 0#32) S1x4x64x256.size (k0_off1_inb k 0)).toLoadRect X1) ⟨2 * k.val, by omega⟩ ⟨8 * k.val + 1, by omega⟩ (eX0 _) (by show 4 * (2 * k.val) + 1 = 8 * k.val + 1; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d02_at _ (View.readAt (Elt F) arg1.view (Rect.unit (s := S1x200x64x256) (k0_off1 k 0#32) S1x4x64x256.size (k0_off1_inb k 0)).toLoadRect X1) ⟨2 * k.val, by omega⟩ ⟨8 * k.val + 2, by omega⟩ (eX0 _) (by show 4 * (2 * k.val) + 2 = 8 * k.val + 2; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d03_at _ (View.readAt (Elt F) arg1.view (Rect.unit (s := S1x200x64x256) (k0_off1 k 0#32) S1x4x64x256.size (k0_off1_inb k 0)).toLoadRect X1) ⟨2 * k.val, by omega⟩ ⟨8 * k.val + 3, by omega⟩ (eX0 _) (by show 4 * (2 * k.val) + 3 = 8 * k.val + 3; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d10_at _ (View.readAt (Elt F) arg1.view (Rect.unit (s := S1x200x64x256) (k0_off1 k 1#32) S1x4x64x256.size (k0_off1_inb k 1)).toLoadRect X1) ⟨2 * k.val + 1, by omega⟩ ⟨8 * k.val + 4, by omega⟩ (eX1 _) (by show 4 * (2 * k.val + 1) + 0 = 8 * k.val + 4; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d11_at _ (View.readAt (Elt F) arg1.view (Rect.unit (s := S1x200x64x256) (k0_off1 k 1#32) S1x4x64x256.size (k0_off1_inb k 1)).toLoadRect X1) ⟨2 * k.val + 1, by omega⟩ ⟨8 * k.val + 5, by omega⟩ (eX1 _) (by show 4 * (2 * k.val + 1) + 1 = 8 * k.val + 5; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d12_at _ (View.readAt (Elt F) arg1.view (Rect.unit (s := S1x200x64x256) (k0_off1 k 1#32) S1x4x64x256.size (k0_off1_inb k 1)).toLoadRect X1) ⟨2 * k.val + 1, by omega⟩ ⟨8 * k.val + 6, by omega⟩ (eX1 _) (by show 4 * (2 * k.val + 1) + 2 = 8 * k.val + 6; omega)
      · (try delta loop1.sl.r_22); (try delta loop1.sl.r_21); (try delta loop1.sl.r_20); (try delta loop1.sl.r_19); (try delta loop1.sl.r_18); (try delta loop1.sl.r_17); (try delta loop1.sl.r_16); (try delta loop1.sl.r_15); (try delta loop1.sl.r_14); (try delta loop1.sl.r_13); (try delta loop1.sl.r_12); (try delta loop1.sl.r_11); (try delta loop1.sl.r_10); (try delta loop1.sl.r_9); (try delta loop1.sl.r_8); (try delta loop1.sl.r_7); (try delta loop1.sl.r_6); (try delta loop1.sl.r_5); (try delta loop1.sl.r_4); (try delta loop1.sl.r_3); (try delta loop1.sl.r_2); (try delta loop1.sl.r_1); (try delta loop1.sl.r)
        exact d13_at _ (View.readAt (Elt F) arg1.view (Rect.unit (s := S1x200x64x256) (k0_off1 k 1#32) S1x4x64x256.size (k0_off1_inb k 1)).toLoadRect X1) ⟨2 * k.val + 1, by omega⟩ ⟨8 * k.val + 7, by omega⟩ (eX1 _) (by show 4 * (2 * k.val + 1) + 3 = 8 * k.val + 7; omega)
    iexists _
    isplitl [H7]; · iexact H7
    ipureintro
    exact step7 _ _ arg7 f7 k.val hk hf7 _ _ _ _ (k0_off2_eq k ⟨1, by decide⟩ ⟨1, by decide⟩) (k0_off2_eq k ⟨1, by decide⟩ ⟨0, by decide⟩)
      (k0_off2_eq k ⟨0, by decide⟩ ⟨1, by decide⟩) (k0_off2_eq k ⟨0, by decide⟩ ⟨0, by decide⟩) _ _ _ _ _ _ _ _ (eX1 _) (eX0 _) (eW _) (eW _)

end Cert.AnalyzeIdeal.Hand

end
-- ==== Proof.AnalyzeIdeal.Loop2.lean ====
/-
  The loop over pairs of row frequencies: one trip transforms one pair along the columns.
-/
module

public import proofs.«01_k».proof.Proof.Gen.AnalyzeIdeal
public import proofs.«01_k».proof.Proof.Gen.AnalyzeIdeal.Skeleton
public import proofs.«01_k».proof.Proof.Gen.AnalyzeIdeal.Launch
public import proofs.«01_k».proof.Proof.Gen.AnalyzeIdeal.Points
public import proofs.«01_k».proof.Proof.Gen.AnalyzeIdeal.Frame
public import proofs.«01_k».proof.Proof.AnalyzeIdeal.Values

@[expose] public section

set_option maxRecDepth 16384

noncomputable section

namespace Cert.AnalyzeIdeal.Hand

open Cert.AnalyzeIdeal Cert.AnalyzeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ
variable (c : Dev nD) (i : grid0.Coords)
  (arg1 : Memref sig .tc .vmem S1x200x64x256 .bf16) (harg1 : arg1.IsWhole)
  (arg2 : Memref sig .tc .vmem S80x256 .bf16) (harg2 : arg2.IsWhole)
  (arg3 : Memref sig .tc .vmem S128x224 .bf16) (harg3 : arg3.IsWhole)
  (arg4 : Memref sig .tc .vmem S1x200x64x256 .fp8e4m3) (harg4 : arg4.IsWhole)
  (arg5 : Memref sig .tc .vmem S1x200x256 .f32) (harg5 : arg5.IsWhole)
  (arg6 : Memref sig .tc .vmem S1x18x64x128 .f32) (harg6 : arg6.IsWhole)
  (arg7 : Memref sig .tc .vmem S8288x128 .f32) (harg7 : arg7.IsWhole)

omit [FloatOps F] in
/-- A load of one row of every group of the scratch buffer. -/
theorem a_read (m : Memref sig .tc .vmem S8288x128 .f32) (X : BufTy.Contents (Elt F) m.view.ty) (off : Fin 2 → ℕ)
    (k : Fin 18) (p k2 t : Fin 2) (hoff : off = ![72 * p.val + 4 * k.val + 2 * k2.val + t.val, 0])
    (inb : ∀ a, S56x128.size a = 0 ∨ off a + (![148, 1] : Fin 2 → ℕ) a * (S56x128.size a - 1) < S8288x128.size a) :
    View.readAt (Elt F) m.view (⟨off, S56x128.size, ![148, 1], inb⟩ : LoadRect S8288x128) X = awin (A7 (m.view.read (Elt F) X)) k p k2 t := by
  subst hoff
  funext y
  show m.view.read (Elt F) X _ = m.view.read (Elt F) X _
  congr 1
  funext a
  apply Fin.ext
  match a with
  | ⟨0, _⟩ =>
    show 72 * p.val + 4 * k.val + 2 * k2.val + t.val + 148 * (y 0).val = 148 * (y 0).val + (72 * p.val + 4 * k.val + 2 * k2.val + t.val)
    omega
  | ⟨1, _⟩ => show 0 + 1 * (y 1).val = (y 1).val; omega

/-- Before trip `k` the rows before `k` of the spectrum are written. -/
abbrev inv6 (A : Fin 56 → Fin 144 → Fin 128 → Elt F .f32) (V3 : Vec F S128x224 .bf16) (V : Vec F S1x18x64x128 .f32) (k : ℕ) : Prop :=
  ∀ (kp : Fin 18) (q : Fin 64) (l : Fin 128), kp.val < k → V (ix4 0 kp q l) = xsv A V3 kp (ix4 0 0 q l)

theorem step6 (A : Fin 56 → Fin 144 → Fin 128 → Elt F .f32) (V3 : Vec F S128x224 .bf16) (m : Memref sig .tc .vmem S1x18x64x128 .f32)
    (f : BufTy.Contents (Elt F) m.view.ty) (k : ℕ) (hk : k < 18) (hf : inv6 A V3 (m.view.read (Elt F) f) k) (off : Fin 4 → ℕ)
    (hoff : off = ![0, k, 0, 0]) (inb : _) (pay : FVec F S1x1x64x128 .f32) (hp : pay = xsv A V3 ⟨k, hk⟩) :
    inv6 A V3 (m.view.read (Elt F) (m.view.writes (Elt F) f [⟨Rect.unit (s := S1x18x64x128) off S1x1x64x128.size inb, pay⟩])) (k + 1) := by
  subst hoff hp
  intro kp q l hkp
  by_cases hc : kp.val = k
  · rw [View.read_writes_cons_hit_of_coords (x := (ix4 0 0 q l : S1x1x64x128.Idx))]
    · have e : (⟨k, hk⟩ : Fin 18) = kp := Fin.ext hc.symm
      rw [e]
    · intro a
      match a with
      | ⟨0, _⟩ => rfl
      | ⟨1, _⟩ => show kp.val = k + 1 * 0; omega
      | ⟨2, _⟩ => show q.val = 0 + 1 * q.val; omega
      | ⟨3, _⟩ => show l.val = 0 + 1 * l.val; omega
  · rw [View.read_writes_cons_miss]
    · exact hf kp q l (by omega)
    · refine not_mem_rect _ _ fun x hx => hc ?_
      have h1 := hx 1
      have hx1 : (x 1).val < 1 := (x 1).isLt
      replace h1 : kp.val = k + 1 * (x 1).val := h1
      omega

/-- What the second loop holds before trip `k`. -/
abbrev res2 (X3 : BufTy.Contents (Elt F) arg3.view.ty) (X7 : BufTy.Contents (Elt F) arg7.view.ty) (k : ℕ) : sProp 𝕄G :=
  iprop((arg3.view.loc (c : Thread nD τ) ↦[arg3.view.set]{fullShare} X3) ∗ (arg7.view.loc (c : Thread nD τ) ↦[arg7.view.set]{fullShare} X7)
    ∗ ∃ f, (arg6.view.loc (c : Thread nD τ) ↦[arg6.view.set]{fullShare} f)
      ∗ ⌜inv6 (A7 (arg7.view.read (Elt F) X7)) (arg3.view.read (Elt F) X3) (arg6.view.read (Elt F) f) k⌝)

set_option warn.classDefReducibility false in
set_option maxHeartbeats 4000000 in
/-- The loop over pairs of row frequencies by its invariant. -/
@[sl_loop] def loop2 (X3 : BufTy.Contents (Elt F) arg3.view.ty) (X7 : BufTy.Contents (Elt F) arg7.view.ty) :
    Idealize.ShloMosaic.LoopInv (M := 𝕄G) Idealize.ShloMosaic.frame (wpE (defs₀ (F := F)) Variants.none (c : Thread nD τ) none) Set.univ
      k0_t2_loop.lb k0_t2_loop.ub k0_t2_loop.st k0_t2_ok () (k0_t2_body (F := F) i arg1 harg1 arg2 harg2 arg3 harg3 arg4 harg4 arg5 harg5 arg6 harg6 arg7 harg7) where
  inv k _ := res2 c arg3 arg6 arg7 X3 X7 k
  step k acc := by
    have hk : k.val < 18 := Nat.lt_of_lt_of_le k.isLt k0_t2_abs.2.1
    unfold k0_t2_body
    iintro ⟨H3, H7, ⟨%f, H6, %hf⟩⟩
    sl_exec
    sl_step
    isplitl [H3]; · iexact H3
    isplitl [H7]; · iexact H7
    iexists _
    isplitl [H6]; · iexact H6
    ipureintro
    refine step6 _ _ arg6 f k.val hk hf _ (k0_off6_eq k) _ _ ?_
    unfold xsv
    rw [← a_read arg7 X7 (k0_off5 k 0#32 0#32 0#32) ⟨k.val, hk⟩ 0 0 0 (k0_off5_eq k ⟨0, by decide⟩ ⟨0, by decide⟩ ⟨0, by decide⟩) (k0_off5_inb k 0 0 0),
      ← a_read arg7 X7 (k0_off5 k 0#32 0#32 1#32) ⟨k.val, hk⟩ 0 0 1 (k0_off5_eq k ⟨0, by decide⟩ ⟨0, by decide⟩ ⟨1, by decide⟩) (k0_off5_inb k 0 0 1),
      ← a_read arg7 X7 (k0_off5 k 36#32 0#32 0#32) ⟨k.val, hk⟩ 1 0 0 (k0_off5_eq k ⟨1, by decide⟩ ⟨0, by decide⟩ ⟨0, by decide⟩) (k0_off5_inb k 1 0 0),
      ← a_read arg7 X7 (k0_off5 k 36#32 0#32 1#32) ⟨k.val, hk⟩ 1 0 1 (k0_off5_eq k ⟨1, by decide⟩ ⟨0, by decide⟩ ⟨1, by decide⟩) (k0_off5_inb k 1 0 1),
      ← a_read arg7 X7 (k0_off5 k 0#32 1#32 0#32) ⟨k.val, hk⟩ 0 1 0 (k0_off5_eq k ⟨0, by decide⟩ ⟨1, by decide⟩ ⟨0, by decide⟩) (k0_off5_inb k 0 1 0),
      ← a_read arg7 X7 (k0_off5 k 0#32 1#32 1#32) ⟨k.val, hk⟩ 0 1 1 (k0_off5_eq k ⟨0, by decide⟩ ⟨1, by decide⟩ ⟨1, by decide⟩) (k0_off5_inb k 0 1 1),
      ← a_read arg7 X7 (k0_off5 k 36#32 1#32 0#32) ⟨k.val, hk⟩ 1 1 0 (k0_off5_eq k ⟨1, by decide⟩ ⟨1, by decide⟩ ⟨0, by decide⟩) (k0_off5_inb k 1 1 0),
      ← a_read arg7 X7 (k0_off5 k 36#32 1#32 1#32) ⟨k.val, hk⟩ 1 1 1 (k0_off5_eq k ⟨1, by decide⟩ ⟨1, by decide⟩ ⟨1, by decide⟩) (k0_off5_inb k 1 1 1),
      ← full_read2 arg3 X3 inb_S128x224_S128x224_0_0]
    rfl

end Cert.AnalyzeIdeal.Hand

end
-- ==== Proof.AnalyzeIdeal.Body.lean ====
/-
  The body of the kernel at one grid point.
-/
module

public import proofs.«01_k».proof.Proof.Gen.AnalyzeIdeal
public import proofs.«01_k».proof.Proof.Gen.AnalyzeIdeal.Skeleton
public import proofs.«01_k».proof.Proof.Gen.AnalyzeIdeal.Launch
public import proofs.«01_k».proof.Proof.Gen.AnalyzeIdeal.Points
public import proofs.«01_k».proof.Proof.Gen.AnalyzeIdeal.Frame
public import proofs.«01_k».proof.Proof.AnalyzeIdeal.Loop1
public import proofs.«01_k».proof.Proof.AnalyzeIdeal.Loop2

@[expose] public section

set_option maxRecDepth 16384

noncomputable section

namespace Cert.AnalyzeIdeal.Hand

open Cert.AnalyzeIdeal Cert.AnalyzeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The condition under which the kernel clears the last rows of the scratch buffer: it is at the first grid point. -/
abbrev first (i : grid0.Coords) : Prop :=
  Scalar.cmpi .ne (Scalar.extui (Scalar.cmpi .eq (BitVec.ofNat 32 (i 0).val) 0#32) : BitVec 32) 0#32 = 1#1

/-- The last six groups of the scratch buffer hold zeros. -/
def zeros (d : Vec F S8288x128 .f32) : Prop :=
  ∀ (ng : Fin 56) (r : Fin 144) (l : Fin 128), 50 ≤ ng.val → A7 d ng r l = Scalar.ofBits (F := F) .f32 0x00000000#32

/-- Clearing the last rows makes them zeros. -/
theorem cleared (m : Memref sig .tc .vmem S8288x128 .f32) (f : BufTy.Contents (Elt F) m.view.ty) (inb : _) :
    zeros (m.view.read (Elt F) (m.view.writes (Elt F) f [⟨Rect.unit (s := S8288x128) ![7400, 0] S888x128.size inb, k0_pay1 (F := F)⟩])) := by
  intro ng r l hn
  have hr := r.isLt
  have hg := ng.isLt
  unfold A7
  rw [View.read_writes_cons_hit_of_coords (x := (ix2 ⟨148 * ng.val + r.val - 7400, by omega⟩ l : S888x128.Idx))]
  · pointwise [k0_pay1]
  · intro a
    match a with
    | ⟨0, _⟩ => show 148 * ng.val + r.val = 7400 + 1 * (148 * ng.val + r.val - 7400); omega
    | ⟨1, _⟩ => show l.val = 0 + 1 * l.val; omega

/-- What the two loops leave. -/
theorem finish (V1 : Vec F S1x200x64x256 .bf16) (V2 : Vec F S80x256 .bf16) (V3 : Vec F S128x224 .bf16)
    (V4 : Vec F S1x200x64x256 .fp8e4m3) (V5 : Vec F S1x200x256 .f32) (V6 : Vec F S1x18x64x128 .f32) (V7 : Vec F S8288x128 .f32)
    (n1 n2 : ℕ) (hn1 : 25 ≤ n1) (hn2 : 18 ≤ n2) (h4 : inv4 V1 V4 n1) (h5 : inv5 V1 V5 n1) (h7 : inv7 V1 V2 V7 n1)
    (h6 : inv6 (A7 V7) V3 V6 n2) : V4 = cBlock V1 ∧ V5 = sBlock V1 ∧ V6 = xBlock V1 V2 V3 ∧ zeros V7 := by
  have eA : A7 V7 = arow V1 V2 := by
    funext ng r l
    exact h7 ng r l (by omega)
  have hz : zeros V7 := by
    intro ng r l hn
    rw [eA]
    unfold arow
    rw [dif_neg (by omega)]
  refine ⟨?_, ?_, ?_, hz⟩
  · funext y
    have h0 : (y 0).val < 1 := (y 0).isLt
    have ey : y = ix4 0 (y 1) (y 2) (y 3) := by
      funext a
      apply Fin.ext
      match a with
      | ⟨0, _⟩ => show (y 0).val = 0; omega
      | ⟨1, _⟩ => rfl
      | ⟨2, _⟩ => rfl
      | ⟨3, _⟩ => rfl
    refine (congrArg V4 ey).trans ((h4 (y 1) (y 2) (y 3) ?_).trans (congrArg (cBlock V1) ey.symm))
    have h1 : (y 1).val < 200 := (y 1).isLt
    omega
  · funext y
    have h0 : (y 0).val < 1 := (y 0).isLt
    have ey : y = ix3 0 (y 1) (y 2) := by
      funext a
      apply Fin.ext
      match a with
      | ⟨0, _⟩ => show (y 0).val = 0; omega
      | ⟨1, _⟩ => rfl
      | ⟨2, _⟩ => rfl
    refine (congrArg V5 ey).trans ((h5 (y 1) (y 2) ?_).trans (congrArg (sBlock V1) ey.symm))
    have h1 : (y 1).val < 200 := (y 1).isLt
    omega
  · funext y
    have h0 : (y 0).val < 1 := (y 0).isLt
    have ey : y = ix4 0 (y 1) (y 2) (y 3) := by
      funext a
      apply Fin.ext
      match a with
      | ⟨0, _⟩ => show (y 0).val = 0; omega
      | ⟨1, _⟩ => rfl
      | ⟨2, _⟩ => rfl
      | ⟨3, _⟩ => rfl
    refine (congrArg V6 ey).trans ((h6 (y 1) (y 2) (y 3) ?_).trans ?_)
    · have h1 : (y 1).val < 18 := (y 1).isLt
      omega
    · rw [eA]; rfl

variable (c : Dev nD) (i : grid0.Coords)
  (arg1 : Memref sig .tc .vmem S1x200x64x256 .bf16) (harg1 : arg1.IsWhole)
  (arg2 : Memref sig .tc .vmem S80x256 .bf16) (harg2 : arg2.IsWhole)
  (arg3 : Memref sig .tc .vmem S128x224 .bf16) (harg3 : arg3.IsWhole)
  (arg4 : Memref sig .tc .vmem S1x200x64x256 .fp8e4m3) (harg4 : arg4.IsWhole)
  (arg5 : Memref sig .tc .vmem S1x200x256 .f32) (harg5 : arg5.IsWhole)
  (arg6 : Memref sig .tc .vmem S1x18x64x128 .f32) (harg6 : arg6.IsWhole)
  (arg7 : Memref sig .tc .vmem S8288x128 .f32) (harg7 : arg7.IsWhole)

set_option maxHeartbeats 4000000 in
theorem sound_kernel (x1 : Vec F S1x200x64x256 .bf16) (x2 : Vec F S80x256 .bf16) (x3 : Vec F S128x224 .bf16) (K : PUnit → sProp 𝕄G) :
    iprop(owns (c : Thread nD τ) arg1 fullShare x1 ∗ owns (c : Thread nD τ) arg2 fullShare x2 ∗ owns (c : Thread nD τ) arg3 fullShare x3
      ∗ (∃ d, owns (c : Thread nD τ) arg4 fullShare d) ∗ (∃ d, owns (c : Thread nD τ) arg5 fullShare d) ∗ (∃ d, owns (c : Thread nD τ) arg6 fullShare d)
      ∗ (∃ d, owns (c : Thread nD τ) arg7 fullShare d ∗ ⌜¬ first i → zeros d⌝)
      ∗ (iprop(owns (c : Thread nD τ) arg1 fullShare x1 ∗ owns (c : Thread nD τ) arg2 fullShare x2 ∗ owns (c : Thread nD τ) arg3 fullShare x3
        ∗ owns (c : Thread nD τ) arg4 fullShare (cBlock x1) ∗ owns (c : Thread nD τ) arg5 fullShare (sBlock x1)
        ∗ owns (c : Thread nD τ) arg6 fullShare (xBlock x1 x2 x3)
        ∗ (∃ d, owns (c : Thread nD τ) arg7 fullShare d ∗ ⌜zeros d⌝)) -∗ K ⟨⟩))
      ⊢ wp frame (wpE (defs₀ (F := F)) Variants.none c none) Set.univ (cc0_analyze (F := F) i arg1 harg1 arg2 harg2 arg3 harg3 arg4 harg4 arg5 harg5 arg6 harg6 arg7 harg7) K := by
  simp only [cc0_analyze_eq_skeleton]; unfold cc0_analyze_skel
  unfold owns
  iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, ⟨%f7, %hf7, H7⟩, %hz⟩, Hk⟩
  subst hf1 hf2 hf3 hf7
  have h0 : inv7 (arg1.view.read (Elt F) f1) (arg2.view.read (Elt F) f2) (arg7.view.read (Elt F) (if hc : first i then
      arg7.view.writes (Elt F) f7 [⟨Rect.unit (s := S8288x128) ![7400, 0] S888x128.size inb_S8288x128_S888x128_7400_0, k0_pay1 (F := F)⟩]
    else f7)) 0 := by
    intro ng r l hn
    refine Eq.trans ?_ (show Scalar.ofBits (F := F) .f32 0x00000000#32 = _ from by unfold arow; rw [dif_neg (by omega)])
    split
    · exact cleared arg7 f7 _ ng r l (by omega)
    · exact hz ‹_› ng r l (by omega)
  sl_exec
  sl_step
  iapply Hk
  obtain ⟨o4, o5, o6, hze⟩ := finish (arg1.view.read (Elt F) f1) (arg2.view.read (Elt F) f2) (arg3.view.read (Elt F) f3)
    (arg4.view.read (Elt F) fL0) (arg5.view.read (Elt F) fL1) (arg6.view.read (Elt F) fL3) (arg7.view.read (Elt F) fL2)
    _ _ (by decide) (by decide) hL3 hL5 hL7 hL11
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists fL0; isplitr; · ipureintro; exact o4
                  iexact H4
  isplitl [H5]; · iexists fL1; isplitr; · ipureintro; exact o5
                  iexact H5
  isplitl [H6]; · iexists fL3; isplitr; · ipureintro; exact o6
                  iexact H6
  iexists _
  isplitl [H7]
  · iexists fL2; isplitr
    on_goal 2 => iexact H7
    ipureintro; rfl
  · ipureintro; exact hze

end Cert.AnalyzeIdeal.Hand

end
-- ==== Proof.AnalyzeIdeal.Run.lean ====
/-
  The run of the kernel: what every grid point leaves, and that the arguments end unchanged.
-/
module

public import proofs.«01_k».proof.Proof.Gen.AnalyzeIdeal
public import proofs.«01_k».proof.Proof.Gen.AnalyzeIdeal.Skeleton
public import proofs.«01_k».proof.Proof.Gen.AnalyzeIdeal.Launch
public import proofs.«01_k».proof.Proof.Gen.AnalyzeIdeal.Points
public import proofs.«01_k».proof.Proof.Gen.AnalyzeIdeal.Frame
public import proofs.«01_k».proof.Proof.AnalyzeIdeal.Body
public import Idealize.ShloMosaic.Lib.Claim

@[expose] public section

set_option maxRecDepth 16384

noncomputable section

namespace Cert.AnalyzeIdeal.Hand

open Cert.AnalyzeIdeal Cert.AnalyzeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- At grid point zero the body clears the padding rows. -/
theorem first_zero : ∀ t : Fin cfg0.N, t.val = 0 → first (grid0.coords t) := by
  decide +kernel

/-- What passes from one grid point to the next: the scratch buffer, with cleared padding rows from the first
    point on, and the generator register. -/
def track (c : Dev nD) (n : ℕ) : sProp 𝕄G :=
  iprop((∃ d, owns (c : Thread nD τ) (Memref.whole cc0_scratch0) fullShare d ∗ ⌜n ≠ 0 → zeros d⌝) ∗ ∃ r, prngReg c r)

/-- The proof data of the pipeline: after the body every input window's buffer holds its block, every output window's
    the block the body computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => cBlock (iblk m c 0 t)
    | ⟨4, _⟩ => sBlock (iblk m c 0 t)
    | ⟨5, _⟩ => xBlock (iblk m c 0 t) (iblk m c 1 t) (iblk m c 2 t)
  Φ t := track c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = cBlock (iblk m c 0 t) := by dsimp only [dats]
theorem after0_4 (c : Dev nD) (t : Fin cfg0.N) : (dats m 0 c).after 4 t = sBlock (iblk m c 0 t) := by dsimp only [dats]
theorem after0_5 (c : Dev nD) (t : Fin cfg0.N) : (dats m 0 c).after 5 t = xBlock (iblk m c 0 t) (iblk m c 1 t) (iblk m c 2 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = track c t.val from rfl, show (dats m 0 c).Φ t.succ = track c (t.val + 1) from rfl,
    show (dats m 0 c).owesAt () t.succ = (dats m 0 c).owesAt () t.castSucc from rfl,
    after0_0, after0_1, after0_2, after0_3, after0_4, after0_5]
  unfold track
  iintro ⟨⟨⟨%s, Hs, %hs⟩, Hp⟩, Ho, ⟨%d0, H0⟩, ⟨%d1, H1⟩, ⟨%d2, H2⟩, ⟨%d3, H3⟩, ⟨%d4, H4⟩, ⟨%d5, H5⟩⟩
  iapply (sound_kernel c (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [Hs]
  · iexists s; isplitl [Hs]; · iexact Hs
    ipureintro; exact fun h => hs fun h0 => h (first_zero t h0)
  iintro ⟨H0, H1, H2, H3, H4, H5, ⟨%s', Hs, %hs'⟩⟩
  isplitl [Hs Hp]
  · isplitl [Hs]
    · iexists s'; isplitl [Hs]; · iexact Hs
      ipureintro; exact fun _ => hs'
    iexact Hp
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffer and the register at anything are the invariant before the first point, -/
theorem track_in (c : Dev nD) : Pipeline.ΦA (U := UR sig nD τ) (Val := Elt F) spec0 c ⊢ track c 0 := by
  unfold Pipeline.ΦA track
  rw [scopedRest0_eq]
  simp only [owns_whole]
  iintro ⟨⟨%f, Hf⟩, Hp⟩
  isplitl [Hf]
  · iexists f
    isplitl [Hf]
    · iexact Hf
    ipureintro; exact fun h => absurd rfl h
  iexact Hp

/-- and the invariant after the last point gives them back. -/
theorem track_out (c : Dev nD) (n : ℕ) : track (F := F) c n ⊢ Pipeline.ΦA (U := UR sig nD τ) spec0 c := by
  unfold Pipeline.ΦA track
  rw [scopedRest0_eq]
  simp only [owns_whole]
  iintro ⟨⟨%f, Hf, -⟩, Hp⟩
  isplitl [Hf]
  · iexists f
    iexact Hf
  iexact Hp

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => track_in c) (hout := fun c => track_out c _)

theorem run_main : θ_run defs (onTc (τ := τ) (main (F := F))) (s₀ m ρ) (Pipeline.FramePost cfgs (dats m) 0 (V m)) :=
  (θ_run defs _ _).mono (fun _ h => h.1) (run_main_quiescent m ρ)

/-- The program runs to the end, leaves its arguments as they were and every semaphore at zero. -/
theorem frame_hand : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.AnalyzeIdeal.Hand

end
-- ==== Proof.AnalyzeIdeal.Final.lean ====
/-
  The result arrays of the kernel after its run, from the region's operands.
-/
module

public import proofs.«01_k».proof.Proof.AnalyzeIdeal.Run
public import Idealize.ShloMosaic.Lib.Pipeline.ValueKit

@[expose] public section

set_option maxRecDepth 16384

noncomputable section

namespace Cert.AnalyzeIdeal.Hand

open Cert.AnalyzeIdeal Cert.AnalyzeIdeal.Gen
open Idealize.ShloMosaic Idealize.ShloMosaic.TcCoe

variable {F : FTy → Type} [FloatOps F]
variable (m : (ℓ : Loc nD τ sig) → Buf (Elt F) ℓ) (ρ : Dev nD → PrngReg) (c : Dev nD)

/-- The codes, from the region's operands, -/
def cOut (A0 : Vec F S40x200x64x256 .bf16) : Vec F S40x200x64x256 .fp8e4m3 :=
  fun i => cBlock (fun y => A0 (ix4 (i 0) (y 1) (y 2) (y 3))) (ix4 0 (i 1) (i 2) (i 3))

/-- the scales -/
def sOut (A0 : Vec F S40x200x64x256 .bf16) : Vec F S40x200x256 .f32 :=
  fun i => sBlock (fun y => A0 (ix4 (i 0) (y 1) (y 2) (y 3))) (ix3 0 (i 1) (i 2))

/-- and the spectrum. -/
def xOut (A0 : Vec F S40x200x64x256 .bf16) (A1 : Vec F S80x256 .bf16) (A2 : Vec F S128x224 .bf16) : Vec F S40x18x64x128 .f32 :=
  fun i => xBlock (fun y => A0 (ix4 (i 0) (y 1) (y 2) (y 3))) A1 A2 (ix4 0 (i 1) (i 2) (i 3))

theorem lt40 (t : Fin cfg0.N) : t.val < 40 := lt_of_lt_of_eq t.isLt N_0

theorem e0 : ∀ t : Fin cfg0.N, win0_0.index t = ![t.val, 0, 0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0, 0, 0] := (by decide +kernel : ∀ t : Fin grid0.N, _)
theorem e4 : ∀ t : Fin cfg0.N, win0_4.index t = ![t.val, 0, 0] := (by decide +kernel : ∀ t : Fin grid0.N, _)
theorem e5 : ∀ t : Fin cfg0.N, win0_5.index t = ![t.val, 0, 0, 0] := (by decide +kernel : ∀ t : Fin grid0.N, _)

theorem read0 (A : Vec F S40x200x64x256 .bf16) (t : Fin cfg0.N) (y : S1x200x64x256.Idx) : (win0_0.blk t).view.read (Elt F) A y = A (ix4 ⟨t.val, lt40 t⟩ (y 1) (y 2) (y 3)) := by
  blk_simp
  refine congrArg A ?_
  idx_bounds y
  blk_ext [e0]

theorem iblk0 (t : Fin cfg0.N) : iblk m c 0 t = fun y => V m c main_v0 (ix4 ⟨t.val, lt40 t⟩ (y 1) (y 2) (y 3)) := by
  funext y
  exact read0 (V m c main_v0) t y

theorem read1 (A : Vec F S80x256 .bf16) (t : Fin cfg0.N) (y : S80x256.Idx) : (win0_1.blk t).view.read (Elt F) A y = A y := by
  blk_simp
  refine congrArg A ?_
  idx_bounds y
  blk_ext [e1]

theorem iblk1 (t : Fin cfg0.N) : iblk m c 1 t = V m c main_v2 := by
  funext y
  exact read1 (V m c main_v2) t y

theorem read2 (A : Vec F S128x224 .bf16) (t : Fin cfg0.N) (y : S128x224.Idx) : (win0_2.blk t).view.read (Elt F) A y = A y := by
  blk_simp
  refine congrArg A ?_
  idx_bounds y
  blk_ext [e2]

theorem iblk2 (t : Fin cfg0.N) : iblk m c 2 t = V m c main_v7 := by
  funext y
  exact read2 (V m c main_v7) t y

theorem emb3 (t : Fin cfg0.N) (y : S1x200x64x256.Idx) : (win0_3.blk t).view.emb y = ix4 ⟨t.val, lt40 t⟩ (y 1) (y 2) (y 3) := by
  idx_bounds y
  blk_ext [e3]

theorem out3_emb (A0 : Vec F S40x200x64x256 .bf16) (t : Fin cfg0.N) (y : S1x200x64x256.Idx) :
    cBlock (fun y => A0 (ix4 ⟨t.val, lt40 t⟩ (y 1) (y 2) (y 3))) y = cOut A0 ((win0_3.blk t).view.emb y) := by
  rw [emb3]
  have hy : y = ix4 0 (y 1) (y 2) (y 3) := by
    funext a
    fin_cases a
    · exact Subsingleton.elim (α := Fin 1) _ _
    · rfl
    · rfl
    · rfl
  exact congrArg _ hy

theorem final3 : (dats m 0 c).arrAt 3 cfg0.N = cOut (V m c main_v0) := by
  refine (dats m 0 c).arrAt_eq_of_covers 3 _ (by decide +kernel) fun t hf y => ?_
  blk_simp
  rw [after0_3, iblk0]
  exact out3_emb _ t y

theorem emb4 (t : Fin cfg0.N) (y : S1x200x256.Idx) : (win0_4.blk t).view.emb y = ix3 ⟨t.val, lt40 t⟩ (y 1) (y 2) := by
  idx_bounds y
  blk_ext [e4]

theorem out4_emb (A0 : Vec F S40x200x64x256 .bf16) (t : Fin cfg0.N) (y : S1x200x256.Idx) :
    sBlock (fun y => A0 (ix4 ⟨t.val, lt40 t⟩ (y 1) (y 2) (y 3))) y = sOut A0 ((win0_4.blk t).view.emb y) := by
  rw [emb4]
  have hy : y = ix3 0 (y 1) (y 2) := by
    funext a
    fin_cases a
    · exact Subsingleton.elim (α := Fin 1) _ _
    · rfl
    · rfl
  exact congrArg _ hy

theorem final4 : (dats m 0 c).arrAt 4 cfg0.N = sOut (V m c main_v0) := by
  refine (dats m 0 c).arrAt_eq_of_covers 4 _ (by decide +kernel) fun t hf y => ?_
  blk_simp
  rw [after0_4, iblk0]
  exact out4_emb _ t y

theorem emb5 (t : Fin cfg0.N) (y : S1x18x64x128.Idx) : (win0_5.blk t).view.emb y = ix4 ⟨t.val, lt40 t⟩ (y 1) (y 2) (y 3) := by
  idx_bounds y
  blk_ext [e5]

theorem out5_emb (A0 : Vec F S40x200x64x256 .bf16) (A1 : Vec F S80x256 .bf16) (A2 : Vec F S128x224 .bf16) (t : Fin cfg0.N) (y : S1x18x64x128.Idx) :
    xBlock (fun y => A0 (ix4 ⟨t.val, lt40 t⟩ (y 1) (y 2) (y 3))) A1 A2 y = xOut A0 A1 A2 ((win0_5.blk t).view.emb y) := by
  rw [emb5]
  have hy : y = ix4 0 (y 1) (y 2) (y 3) := by
    funext a
    fin_cases a
    · exact Subsingleton.elim (α := Fin 1) _ _
    · rfl
    · rfl
    · rfl
  exact congrArg _ hy

theorem final5 : (dats m 0 c).arrAt 5 cfg0.N = xOut (V m c main_v0) (V m c main_v2) (V m c main_v7) := by
  refine (dats m 0 c).arrAt_eq_of_covers 5 _ (by decide +kernel) fun t hf y => ?_
  blk_simp
  rw [after0_5, iblk0, iblk1, iblk2]
  exact out5_emb _ _ _ t y

open Idealize.SL.Sem

/-- The run: the three results are the kernel's functions of the region's operands, and the arguments are unchanged. -/
theorem run_value : θ_run defs (onTc (τ := τ) (main (F := F))) ⟨m, fun _ => 0, ρ⟩ fun r => ∀ c : Dev nD,
      r.2.mem ((c : Thread nD τ).loc main_v8_0) = cOut (V m c main_v0)
      ∧ r.2.mem ((c : Thread nD τ).loc main_v8_1) = sOut (V m c main_v0)
      ∧ r.2.mem ((c : Thread nD τ).loc main_v8_2) = xOut (V m c main_v0) (V m c main_v2) (V m c main_v7)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final3 m c), ((h.1 c).1 4).trans (final4 m c), ((h.1 c).1 5).trans (final5 m c), h.2.1 c⟩)
    (θ_run_and (run_main m ρ) (frame_hand m ρ))

end Cert.AnalyzeIdeal.Hand

end
-- ==== Proof.AnalyzeIdeal.Equal.lean ====
/-
  The three results of the kernel over the extended reals, at an index, from the arguments.
-/
module

public import proofs.«01_k».proof.Proof.AnalyzeIdeal.Sum
public import proofs.«01_k».proof.Proof.AnalyzeIdeal.Codes
public import proofs.«01_k».proof.Proof.AnalyzeIdeal.Host
public import proofs.«01_k».proof.Proof.AnalyzeIdeal.Final

@[expose] public section

set_option maxRecDepth 16384

noncomputable section

namespace Cert.AnalyzeIdeal.Hand

open Cert.AnalyzeIdeal Cert.AnalyzeIdeal.Gen
open Idealize.ShloMosaic Idealize.ShloMosaic.TcCoe

/-- A sum over a product range as a double sum. -/
theorem sum_split {M : Type*} [AddCommMonoid M] (a b : ℕ) (f : Fin (a * b) → M) :
    ∑ j, f j = ∑ x : Fin a, ∑ y : Fin b, f ⟨b * x.val + y.val, by
      have := x.isLt; have := y.isLt; calc b * x.val + y.val < b * x.val + b := Nat.add_lt_add_left y.isLt _
        _ = b * (x.val + 1) := by ring
        _ ≤ b * a := Nat.mul_le_mul_left _ x.isLt
        _ = a * b := Nat.mul_comm ..⟩ := by
  rw [← Equiv.sum_comp finProdFinEquiv, Fintype.sum_prod_type]
  refine Finset.sum_congr rfl fun x _ => Finset.sum_congr rfl fun y _ => congrArg f (Fin.ext ?_)
  exact Nat.add_comm ..

/-- The terms of one parity of the column, by part, pair of columns and group of four columns, the padding groups left out. -/
theorem sum_groups {M : Type*} [AddCommMonoid M] (T : Fin 2 → Fin 200 → M) (e : Fin 2) :
    (∑ j : Fin 224, if h : j.val % 56 < 50 then T ⟨j.val / 112, by omega⟩ ⟨4 * (j.val % 56) + 2 * (j.val / 56 % 2) + e.val, by omega⟩ else 0)
      = ∑ p : Fin 2, ∑ t : Fin 2, ∑ a : Fin 50, T p ⟨4 * a.val + 2 * t.val + e.val, by omega⟩ := by
  refine (sum_split 2 112 _).trans (Finset.sum_congr rfl fun p _ => ?_)
  refine (sum_split 2 56 (fun y : Fin (2 * 56) => if h : (112 * p.val + y.val) % 56 < 50 then
    T ⟨(112 * p.val + y.val) / 112, by omega⟩ ⟨4 * ((112 * p.val + y.val) % 56) + 2 * ((112 * p.val + y.val) / 56 % 2) + e.val, by omega⟩ else 0)).trans
    (Finset.sum_congr rfl fun t _ => ?_)
  refine (Fin.sum_univ_add (a := 50) (b := 6) (fun a : Fin (50 + 6) => if h : (112 * p.val + (56 * t.val + a.val)) % 56 < 50 then
    T ⟨(112 * p.val + (56 * t.val + a.val)) / 112, by omega⟩ ⟨4 * ((112 * p.val + (56 * t.val + a.val)) % 56) + 2 * ((112 * p.val + (56 * t.val + a.val)) / 56 % 2) + e.val, by omega⟩ else 0)).trans ?_
  refine (congrArg₂ (· + ·) (Finset.sum_congr rfl fun a _ => ?_) (Finset.sum_eq_zero fun a _ => ?_)).trans (add_zero _)
  · have ha := a.isLt
    refine (dif_pos (by show (112 * p.val + (56 * t.val + a.val)) % 56 < 50; omega)).trans ?_
    refine congrArg₂ T (Fin.ext ?_) (Fin.ext ?_)
    · show (112 * p.val + (56 * t.val + a.val)) / 112 = p.val
      omega
    · show 4 * ((112 * p.val + (56 * t.val + a.val)) % 56) + 2 * ((112 * p.val + (56 * t.val + a.val)) / 56 % 2) + e.val = 4 * a.val + 2 * t.val + e.val
      omega
  · have ha := a.isLt
    exact dif_neg (by show ¬ (112 * p.val + (56 * t.val + (50 + a.val))) % 56 < 50; omega)

/-- Both parities together are the sum over all columns. -/
theorem sum_columns {M : Type*} [AddCommMonoid M] (T : Fin 2 → Fin 200 → M) :
    (∑ p : Fin 2, ∑ t : Fin 2, ∑ a : Fin 50, T p ⟨4 * a.val + 2 * t.val + (0 : Fin 2).val, by omega⟩)
      + (∑ p : Fin 2, ∑ t : Fin 2, ∑ a : Fin 50, T p ⟨4 * a.val + 2 * t.val + (1 : Fin 2).val, by omega⟩) = ∑ p : Fin 2, ∑ w : Fin 200, T p w := by
  rw [← Finset.sum_add_distrib]
  refine Finset.sum_congr rfl fun p _ => ?_
  refine Eq.trans ?_ (sum_split 50 4 (T p)).symm
  simp only [Fin.sum_univ_two, Fin.sum_univ_four, Finset.sum_add_distrib]
  have e : ∀ A B C D : M, A + C + (B + D) = A + B + C + D := fun A B C D => by abel
  exact e _ _ _ _

/-- One term of the transformed spectrum. -/
def term (X : Vec Ideal S40x256x200x64 .bf16) (H : Vec Ideal S2x36x256 .bf16) (G : Vec Ideal S2x200x2x28 .bf16)
    (b : Fin 40) (k : Fin 18) (r : Fin 64) (l : Fin 128) (hr : r.val % 32 < 28) (p : Fin 2) (w : Fin 200) : EReal :=
  (G (ix4 p w ⟨r.val / 32, by omega⟩ ⟨r.val % 32, hr⟩) : EReal) *
        ∑ h : Fin 256, (X (ix4 b h w ⟨l.val % 64, by omega⟩) : EReal) * H (ix3 p ⟨k.val * 2 + l.val / 64, by omega⟩ h)

section
variable (X : Vec Ideal S40x256x200x64 .bf16) (H : Vec Ideal S2x36x256 .bf16) (G : Vec Ideal S2x200x2x28 .bf16)
  (V1 : Vec Ideal S1x200x64x256 .bf16) (V2 : Vec Ideal S80x256 .bf16) (V3 : Vec Ideal S128x224 .bf16) (b : Fin 40)
  (h1 : ∀ w ch h, V1 (ix4 0 w ch h) = X (ix4 b h w ch))
  (h2 : ∀ (r : Fin 80) (hr : r.val < 72) (h : Fin 256), V2 (ix2 r h) = H (ix3 ⟨r.val / 36, by omega⟩ ⟨r.val % 36, by omega⟩ h))
  (h3 : ∀ (r : Fin 128) (j : Fin 224), (V3 (ix2 r j) : EReal) = if h : j.val % 56 < 50 ∧ r.val % 32 < 28 then
      G (ix4 ⟨j.val / 112, by omega⟩ ⟨4 * (j.val % 56) + 2 * (j.val / 56 % 2) + r.val / 64, by omega⟩ ⟨r.val / 32 % 2, by omega⟩ ⟨r.val % 32, h.2⟩) else 0)
include h1 h2 h3

theorem term_at (k : Fin 18) (r : Fin 64) (l : Fin 128) (e : Fin 2) (j : Fin 224) :
    (V3 (ix2 ⟨64 * e.val + r.val, by omega⟩ j) : EReal) *
      arow V1 V2 ⟨j.val % 56, by omega⟩ ⟨72 * (j.val / 112) + 4 * k.val + 2 * ((l.val / 64 * 128 + 64 * e.val + l.val % 64) / 128) + j.val / 56 % 2, by omega⟩
        ⟨(l.val / 64 * 128 + 64 * e.val + l.val % 64) % 128, by omega⟩
      = if h : j.val % 56 < 50 then (fun p w => if hr : r.val % 32 < 28 then term X H G b k r l hr p w else 0) ⟨j.val / 112, by omega⟩ ⟨4 * (j.val % 56) + 2 * (j.val / 56 % 2) + e.val, by omega⟩ else (0 : EReal) := by
  have hj := j.isLt
  have hl := l.isLt
  have hr' := r.isLt
  have he := e.isLt
  rw [h3]
  by_cases hn : j.val % 56 < 50
  · rw [dif_pos hn]
    by_cases hr : r.val % 32 < 28
    · have hb : j.val % 56 < 50 ∧ (64 * e.val + r.val) % 32 < 28 := ⟨hn, by omega⟩
      rw [dif_pos hb]
      show _ = if hr : r.val % 32 < 28 then term X H G b k r l hr ⟨j.val / 112, _⟩ ⟨4 * (j.val % 56) + 2 * (j.val / 56 % 2) + e.val, _⟩ else (0 : EReal)
      rw [dif_pos hr, arow_at V1 V2 _ _ _ hn]
      refine congrArg₂ (fun x y : EReal => x * y) ?_ (Finset.sum_congr rfl fun h _ => ?_)
      · refine congrArg G ?_
        funext a
        apply Fin.ext
        match a with
        | ⟨0, _⟩ => rfl
        | ⟨1, _⟩ => show 4 * (j.val % 56) + 2 * (j.val / 56 % 2) + (64 * e.val + r.val) / 64 = 4 * (j.val % 56) + 2 * (j.val / 56 % 2) + e.val; omega
        | ⟨2, _⟩ => show (64 * e.val + r.val) / 32 % 2 = r.val / 32; omega
        | ⟨3, _⟩ => show (64 * e.val + r.val) % 32 = r.val % 32; omega
      · rw [h1, h2 _ (by dsimp only; omega)]
        refine (mul_comm (G := EReal) _ _).trans ?_
        refine congrArg₂ (fun x y : EReal => x * y) (congrArg X ?_) (congrArg H ?_)
        · funext a
          apply Fin.ext
          match a with
          | ⟨0, _⟩ => rfl
          | ⟨1, _⟩ => rfl
          | ⟨2, _⟩ =>
            show 4 * (j.val % 56) + ((72 * (j.val / 112) + 4 * k.val + 2 * ((l.val / 64 * 128 + 64 * e.val + l.val % 64) / 128) + j.val / 56 % 2) % 2 * 128
              + (l.val / 64 * 128 + 64 * e.val + l.val % 64) % 128) / 64 = 4 * (j.val % 56) + 2 * (j.val / 56 % 2) + e.val
            omega
          | ⟨3, _⟩ => show (l.val / 64 * 128 + 64 * e.val + l.val % 64) % 128 % 64 = l.val % 64; omega
        · funext a
          apply Fin.ext
          match a with
          | ⟨0, _⟩ =>
            show (72 * (j.val / 112) + 4 * k.val + 2 * ((l.val / 64 * 128 + 64 * e.val + l.val % 64) / 128) + j.val / 56 % 2) / 2 / 36 = j.val / 112
            omega
          | ⟨1, _⟩ =>
            show (72 * (j.val / 112) + 4 * k.val + 2 * ((l.val / 64 * 128 + 64 * e.val + l.val % 64) / 128) + j.val / 56 % 2) / 2 % 36 = k.val * 2 + l.val / 64
            omega
          | ⟨2, _⟩ => rfl
    · rw [dif_neg (by dsimp only; omega)]
      show _ = if hr : r.val % 32 < 28 then term X H G b k r l hr ⟨j.val / 112, _⟩ ⟨4 * (j.val % 56) + 2 * (j.val / 56 % 2) + e.val, _⟩ else (0 : EReal)
      rw [dif_neg hr]
      exact zero_mul (M₀ := EReal) _
  · rw [dif_neg hn, dif_neg (fun h => hn h.1)]
    exact zero_mul (M₀ := EReal) _

theorem half_at (k : Fin 18) (r : Fin 64) (l : Fin 128) (e : Fin 2) (R : Fin 128) (L : Fin 256)
    (hR : R = ⟨64 * e.val + r.val, by omega⟩) (hL : L = ⟨l.val / 64 * 128 + 64 * e.val + l.val % 64, by omega⟩) :
    (rmat (arow V1 V2) V3 k (ix2 R L) : EReal)
      = ∑ p : Fin 2, ∑ t : Fin 2, ∑ a : Fin 50, (fun p w => if hr : r.val % 32 < 28 then term X H G b k r l hr p w else (0 : EReal)) p ⟨4 * a.val + 2 * t.val + e.val, by omega⟩ := by
  subst hR hL
  rw [rmat_at]
  rw [← sum_groups (fun p w => if hr : r.val % 32 < 28 then term X H G b k r l hr p w else (0 : EReal)) e]
  exact Finset.sum_congr rfl fun j _ => term_at X H G V1 V2 V3 b h1 h2 h3 k r l e j

theorem xsv_spec (k : Fin 18) (r : Fin 64) (l : Fin 128) :
    (xsv (arow V1 V2) V3 k (ix4 0 0 r l) : EReal) = if hr : r.val % 32 < 28 then ∑ p : Fin 2, ∑ w : Fin 200, term X H G b k r l hr p w else 0 := by
  have hl := l.isLt
  rw [xsv_at, half_at X H G V1 V2 V3 b h1 h2 h3 k r l 0 _ _ (Fin.ext (by show r.val = 64 * 0 + r.val; omega)) (Fin.ext (by show l.val / 64 * 128 + l.val % 64 = l.val / 64 * 128 + 64 * 0 + l.val % 64; omega)),
    half_at X H G V1 V2 V3 b h1 h2 h3 k r l 1 _ _ (Fin.ext (by show 64 + r.val = 64 * 1 + r.val; omega)) (Fin.ext (by show l.val / 64 * 128 + 64 + l.val % 64 = l.val / 64 * 128 + 64 * 1 + l.val % 64; omega))]
  rw [sum_columns (fun p w => if hr : r.val % 32 < 28 then term X H G b k r l hr p w else (0 : EReal))]
  by_cases hr : r.val % 32 < 28
  · rw [dif_pos hr]
    exact Finset.sum_congr rfl fun p _ => Finset.sum_congr rfl fun w _ => dif_pos hr
  · rw [dif_neg hr]
    exact Finset.sum_eq_zero fun p _ => Finset.sum_eq_zero fun w _ => dif_neg hr
end

variable (m : (ℓ : Loc nD τ sig) → Buf (Elt Ideal) ℓ) (c : Dev nD)

theorem xOut_at (X : Vec Ideal S40x256x200x64 .bf16) (H : Vec Ideal S2x36x256 .bf16) (G : Vec Ideal S2x200x2x28 .bf16)
    (hX : m ((c : Thread nD τ).loc main_arg0) = X) (hH : m ((c : Thread nD τ).loc main_arg1) = H) (hG : m ((c : Thread nD τ).loc main_arg2) = G)
    (b : Fin 40) (k : Fin 18) (r : Fin 64) (l : Fin 128) :
    (xOut (F := Ideal) (V m c main_v0) (V m c main_v2) (V m c main_v7) (ix4 b k r l) : EReal)
      = if hr : r.val % 32 < 28 then ∑ p : Fin 2, ∑ w : Fin 200, term X H G b k r l hr p w else 0 :=
  xsv_spec X H G _ _ _ b (fun w ch h => V_x m c b w ch h X hX) (fun r hr h => V_fh m c r hr h H hH) (fun r j => V_gm m c r j G hG) k r l

theorem cOut_at (X : Vec Ideal S40x256x200x64 .bf16) (hX : m ((c : Thread nD τ).loc main_arg0) = X) (b : Fin 40) (w : Fin 200) (ch : Fin 64) (h : Fin 256) :
    (cOut (F := Ideal) (V m c main_v0) (ix4 b w ch h) : EReal) = Cert.Quant.code (fun i => X (ix4 b h w i)) (X (ix4 b h w ch)) := by
  refine (cdc_at _ ch h).trans ?_
  exact congrArg₂ Cert.Quant.code (funext fun i => V_x m c b w i h X hX) (V_x m c b w ch h X hX)

theorem sOut_at (X : Vec Ideal S40x256x200x64 .bf16) (hX : m ((c : Thread nD τ).loc main_arg0) = X) (b : Fin 40) (w : Fin 200) (h : Fin 256) :
    (sOut (F := Ideal) (V m c main_v0) (ix3 b w h) : EReal) = Cert.Quant.scale fun i => X (ix4 b h w i) := by
  refine (scr_at _ h).trans ?_
  exact congrArg Cert.Quant.scale (funext fun i => V_x m c b w i h X hX)

end Cert.AnalyzeIdeal.Hand

end
-- ==== Proof.AnalyzeReferenceIdeal.Scale.lean ====
/-
  The reference over the extended reals, at an index.
-/
module

public import proofs.«01_k».proof.Proof.Quant
public import proofs.«01_k».proof.Proof.Gen.AnalyzeReferenceIdeal.Frame
public import Idealize.ShloMosaic.Lib.StableHlo.ReadAt
public import Idealize.ShloMosaic.Lib.ValueIdx
public import Idealize.ShloMosaic.Lib.Pointwise
public import Idealize.ShloMosaic.Lib.Pipeline.ValueKit

@[expose] public section

set_option maxRecDepth 16384

noncomputable section

namespace Cert.AnalyzeReferenceIdeal.Hand

open Cert.AnalyzeReferenceIdeal Cert.AnalyzeReferenceIdeal.Gen
open Idealize.ShloMosaic Idealize.ShloMosaic.TcCoe

variable (m : (ℓ : Loc nD τ sig) → Buf (Elt Ideal) ℓ) (c : Dev nD)

theorem max_at (v : FVec Ideal S40x200x64x256 .f32) (b : Fin 40) (w : Fin 200) (h : Fin 256) :
    multiReduction .maximumf [2] S40x200x256 v 0xFF800000#32 reduces_S40x200x64x256_S40x200x256 (.inl rfl) rfl (ix3 b w h)
      = Finset.univ.fold max (Ideal.ofBits .f32 0xFF800000#32) (fun i : Fin 64 => v (ix4 b w i h)) := by
  pointwise

theorem add_at (v : IVec S40x200x255x256 32) (b : Fin 40) (w : Fin 200) (h : Fin 256) :
    multiReductionI .add [2] S40x200x256 v 0#32 reduces_S40x200x255x256_S40x200x256 rfl (ix3 b w h)
      = Finset.univ.fold IntOp.addi 0#32 (fun i : Fin 255 => v (ix4 b w i h)) := by
  pointwise

theorem bc_at (v : FVec Ideal S40x200x256 .f32) (b : Fin 40) (w : Fin 200) (i : Fin 255) (h : Fin 256) :
    broadcastTo S40x200x255x256 (shapeCast S40x200x1x256 v shapeCasts_S40x200x256_S40x200x1x256) broadcasts_S40x200x1x256_S40x200x255x256 (ix4 b w i h) = v (ix3 b w h) := by
  pointwise

theorem bd_at (v : FVec Ideal S40x200x256 .f32) (b : Fin 40) (w : Fin 200) (i : Fin 64) (h : Fin 256) :
    broadcastTo S40x200x64x256 (shapeCast S40x200x1x256 v shapeCasts_S40x200x256_S40x200x1x256) broadcasts_S40x200x1x256_S40x200x64x256 (ix4 b w i h) = v (ix3 b w h) := by
  pointwise

theorem id_at (v : FVec Ideal S40x200x64x256 .bf16) (b : Fin 40) (w : Fin 200) (i : Fin 64) (h : Fin 256) :
    (k0_pay2 (F := Ideal) v (ix4 b w i h) : EReal) = v (ix4 b w i h) := by
  unfold k0_pay2
  pointwise

theorem iota_at (b : Fin 40) (w : Fin 200) (i : Fin 255) (h : Fin 256) :
    iota .tc S40x200x255x256 32 [2] iota_S40x200x255x256_d2_w32 (ix4 b w i h) = BitVec.ofNat 32 i.val := by
  pointwise

/-- The scaled largest magnitude over the channels. -/
def amax (x : Vec Ideal S40x200x64x256 .bf16) : FVec Ideal S40x200x256 .f32 :=
  mulf (multiReduction .maximumf [2] S40x200x256 (absf (k0_pay2 (F := Ideal) x)) 0xFF800000#32 reduces_S40x200x64x256_S40x200x256 (.inl rfl) rfl)
    (broadcast S40x200x256 (Scalar.ofBits (F := Ideal) .f32 0x3B124925#32))

theorem amax_at (x : Vec Ideal S40x200x64x256 .bf16) (b : Fin 40) (w : Fin 200) (h : Fin 256) :
    (amax x (ix3 b w h) : EReal) = Finset.univ.fold max (Ideal.ofBits .f32 0xFF800000#32) (fun j : Fin 64 => FloatOps.absf (F := Ideal) (φ := .f32) (x (ix4 b w j h)))
      * Ideal.ofBits .f32 0x3B124925#32 := by
  unfold amax
  rw [mulf_apply, max_at, Ideal.mulf_def]
  refine congrArg (fun y : EReal => y * Ideal.ofBits .f32 0x3B124925#32) (Finset.fold_congr fun j _ => ?_)
  rw [absf_apply]
  exact congrArg (FloatOps.absf (F := Ideal) (φ := .f32)) (id_at x b w j h)

/-- Where the powers of two do not exceed it. -/
def below (x : Vec Ideal S40x200x64x256 .bf16) : IVec S40x200x255x256 32 :=
  extui 32 (cmpf .oge (broadcastTo S40x200x255x256 (shapeCast S40x200x1x256 (amax x) shapeCasts_S40x200x256_S40x200x1x256) broadcasts_S40x200x1x256_S40x200x255x256)
    (bitcastToFloat .f32 (shli (addi (iota .tc S40x200x255x256 32 [2] iota_S40x200x255x256_d2_w32) (broadcast S40x200x255x256 1#32)) (broadcast S40x200x255x256 23#32)))) natLt_1_32

theorem below_at (x : Vec Ideal S40x200x64x256 .bf16) (b : Fin 40) (w : Fin 200) (i : Fin 255) (h : Fin 256) :
    below x (ix4 b w i h) = BitVec.setWidth 32 (BitVec.ofBool (decide
    (Ideal.ofBits .f32 (IntOp.shli .vector (IntOp.addi (BitVec.ofNat 32 i.val) 1#32) 23#32)
      ≤ Finset.univ.fold max (Ideal.ofBits .f32 0xFF800000#32) (fun j : Fin 64 => FloatOps.absf (F := Ideal) (φ := .f32) (x (ix4 b w j h))) * Ideal.ofBits .f32 0x3B124925#32))) := by
  show BitVec.setWidth 32 (FloatOps.cmpf (F := Ideal) (φ := .f32) .oge
    (broadcastTo S40x200x255x256 (shapeCast S40x200x1x256 (amax x) shapeCasts_S40x200x256_S40x200x1x256) broadcasts_S40x200x1x256_S40x200x255x256 (ix4 b w i h))
    (Ideal.ofBits .f32 (IntOp.shli .vector (IntOp.addi (iota .tc S40x200x255x256 32 [2] iota_S40x200x255x256_d2_w32 (ix4 b w i h)) 1#32) 23#32))) = _
  rw [bc_at, iota_at, amax_at]
  rfl

theorem count_at (x : Vec Ideal S40x200x64x256 .bf16) (b : Fin 40) (w : Fin 200) (h : Fin 256) :
    multiReductionI .add [2] S40x200x256 (below x) 0#32 reduces_S40x200x255x256_S40x200x256 rfl (ix3 b w h) = Cert.Quant.count fun i => x (ix4 b w i h) :=
  (add_at _ b w h).trans (Finset.fold_congr fun i _ => below_at x b w i h)

theorem expo_at (x : Vec Ideal S40x200x64x256 .bf16) (b : Fin 40) (w : Fin 200) (h : Fin 256) : k0_pay3 (F := Ideal) x (ix3 b w h) = Cert.Quant.expo fun i => x (ix4 b w i h) := by
  show Scalar.select (IntOp.cmpi .eq (multiReductionI .add [2] S40x200x256 (below x) 0#32 reduces_S40x200x255x256_S40x200x256 rfl (ix3 b w h)) 0#32) 126#32
    (multiReductionI .add [2] S40x200x256 (below x) 0#32 reduces_S40x200x255x256_S40x200x256 rfl (ix3 b w h)) = _
  rw [count_at]
  rfl

theorem scale_at (x : Vec Ideal S40x200x64x256 .bf16) (b : Fin 40) (w : Fin 200) (h : Fin 256) : k0_pay4 (F := Ideal) x (ix3 b w h) = Cert.Quant.scale fun i => x (ix4 b w i h) := by
  show Ideal.ofBits .f32 (IntOp.shli .vector (IntOp.addi (k0_pay3 (F := Ideal) x (ix3 b w h)) 1#32) 23#32) = _
  rw [expo_at]
  rfl

theorem code_at (x : Vec Ideal S40x200x64x256 .bf16) (b : Fin 40) (w : Fin 200) (ch : Fin 64) (h : Fin 256) :
    k0_pay1 (F := Ideal) (k0_pay5 x) k0_pay6 (ix4 b w ch h) = Cert.Quant.code (fun i => x (ix4 b w i h)) (x (ix4 b w ch h)) := by
  unfold k0_pay1 k0_pay5 k0_pay6
  dsimp only
  rw [truncf_apply, minimumf_apply, maximumf_apply, mulf_apply, bd_at, bitcastToFloat_apply, shli_apply, subi_apply, expo_at,
    Ideal.truncf_def, Ideal.minimumf_def, Ideal.maximumf_def, Ideal.mulf_def]
  exact congrArg (fun y : EReal => min (Ideal.ofBits .f32 0x43E00000#32) (max (Ideal.ofBits .f32 0xC3E00000#32) (y * Ideal.ofBits .f32 (IntOp.shli .vector (IntOp.subi 253#32 (Cert.Quant.expo fun i => x (ix4 b w i h))) 23#32)))) (id_at x b w ch h)

end Cert.AnalyzeReferenceIdeal.Hand

end
-- ==== Proof.AnalyzeReferenceIdeal.Spec.lean ====
/-
  The reference over the extended reals, at an index.
-/
module

public import proofs.«01_k».proof.Proof.Quant
public import proofs.«01_k».proof.Proof.Gen.AnalyzeReferenceIdeal.Frame
public import Idealize.ShloMosaic.Lib.StableHlo.ReadAt
public import Idealize.ShloMosaic.Lib.ValueIdx
public import Idealize.ShloMosaic.Lib.Pointwise
public import Idealize.ShloMosaic.Lib.Pipeline.ValueKit

@[expose] public section

set_option maxRecDepth 16384

noncomputable section

namespace Cert.AnalyzeReferenceIdeal.Hand

open Cert.AnalyzeReferenceIdeal Cert.AnalyzeReferenceIdeal.Gen
open Idealize.ShloMosaic Idealize.ShloMosaic.TcCoe

variable (m : (ℓ : Loc nD τ sig) → Buf (Elt Ideal) ℓ) (c : Dev nD)

theorem V_spec (b : Fin 40) (k : Fin 18) (r : Fin 64) (l : Fin 128) (X : Vec Ideal S40x256x200x64 .bf16) (H : Vec Ideal S2x36x256 .bf16) (G : Vec Ideal S2x200x2x28 .bf16)
    (hX : m ((c : Thread nD τ).loc main_arg0) = X) (hH : m ((c : Thread nD τ).loc main_arg1) = H) (hG : m ((c : Thread nD τ).loc main_arg2) = G) :
    (V m c main_v8 (ix4 b k r l) : EReal) = if hr : r.val % 32 < 28 then
      ∑ p : Fin 2, ∑ w : Fin 200, (G (ix4 p w ⟨r.val / 32, by omega⟩ ⟨r.val % 32, hr⟩) : EReal) *
        ∑ h : Fin 256, (X (ix4 b h w ⟨l.val % 64, by omega⟩) : EReal) * H (ix3 p ⟨k.val * 2 + l.val / 64, by omega⟩ h) else 0 := by
  subst hX hH hG
  unfold V
  after_reads_at
  have h0 : (FloatOps.sitofp (F := Ideal) FTy.f32 0#32 : EReal) = 0 := by
    show (((0#32 : BitVec 32).toInt : ℝ) : EReal) = 0
    simp
  have hk := k.isLt
  have hl := l.isLt
  split_ifs <;> first
    | (exfalso; omega)
    | exact h0
    | rfl

end Cert.AnalyzeReferenceIdeal.Hand

end
-- ==== Proof.AnalyzeReferenceIdeal.Value.lean ====
/-
  The reference over the extended reals, at an index.
-/
module

public import proofs.«01_k».proof.Proof.Quant
public import proofs.«01_k».proof.Proof.AnalyzeReferenceIdeal.Scale
public import proofs.«01_k».proof.Proof.AnalyzeReferenceIdeal.Spec
public import proofs.«01_k».proof.Proof.Gen.AnalyzeReferenceIdeal.Frame
public import Idealize.ShloMosaic.Lib.StableHlo.ReadAt
public import Idealize.ShloMosaic.Lib.ValueIdx
public import Idealize.ShloMosaic.Lib.Pointwise
public import Idealize.ShloMosaic.Lib.Pipeline.ValueKit

@[expose] public section

set_option maxRecDepth 16384

noncomputable section

namespace Cert.AnalyzeReferenceIdeal.Hand

open Cert.AnalyzeReferenceIdeal Cert.AnalyzeReferenceIdeal.Gen
open Idealize.ShloMosaic Idealize.ShloMosaic.TcCoe

variable (m : (ℓ : Loc nD τ sig) → Buf (Elt Ideal) ℓ) (c : Dev nD)

theorem V_x (b : Fin 40) (w : Fin 200) (ch : Fin 64) (h : Fin 256) (X : Vec Ideal S40x256x200x64 .bf16) (hX : m ((c : Thread nD τ).loc main_arg0) = X) :
    V m c main_v9 (ix4 b w ch h) = X (ix4 b h w ch) := by
  subst hX
  unfold V
  after_reads_at

theorem out1_at (x : Vec Ideal S40x200x64x256 .bf16) (b : Fin 40) (w : Fin 200) (ch : Fin 64) (h : Fin 256) :
    out0_1 x (ix4 b w ch h) = Cert.Quant.code (fun i => x (ix4 b w i h)) (x (ix4 b w ch h)) := by
  unfold out0_1
  rw [View.canon_cons_unit_lit _ _ _ (by decide), View.ld_unit_lit _ _ (by decide)]
  exact code_at x b w ch h

theorem out2_at (x : Vec Ideal S40x200x64x256 .bf16) (b : Fin 40) (w : Fin 200) (h : Fin 256) :
    out0_2 x (ix3 b w h) = Cert.Quant.scale fun i => x (ix4 b w i h) := by
  unfold out0_2
  rw [View.canon_cons_unit_lit _ _ _ (by decide), View.ld_unit_lit _ _ (by decide)]
  exact scale_at x b w h

theorem e0 : ∀ t : Fin cfg0.N, win0_0.index t = ![0, 0, 0, 0] := (by decide +kernel : ∀ t : Fin grid0.N, _)
theorem e1 : ∀ t : Fin cfg0.N, win0_1.index t = ![0, 0, 0, 0] := (by decide +kernel : ∀ t : Fin grid0.N, _)
theorem e2 : ∀ t : Fin cfg0.N, win0_2.index t = ![0, 0, 0] := (by decide +kernel : ∀ t : Fin grid0.N, _)

theorem read0 (A : Vec Ideal S40x200x64x256 .bf16) (t : Fin cfg0.N) (y : S40x200x64x256.Idx) : (win0_0.blk t).view.read (Elt Ideal) A y = A y := by
  blk_simp
  refine congrArg A ?_
  idx_bounds y
  blk_ext [e0]

theorem iblk0 (t : Fin cfg0.N) : iblk m c 0 t = V m c main_v9 := by
  funext y
  exact read0 (V m c main_v9) t y

theorem emb1 (t : Fin cfg0.N) (y : S40x200x64x256.Idx) : (win0_1.blk t).view.emb y = y := by
  idx_bounds y
  blk_ext [e1]

theorem emb2 (t : Fin cfg0.N) (y : S40x200x256.Idx) : (win0_2.blk t).view.emb y = y := by
  idx_bounds y
  blk_ext [e2]

theorem final1 : (dats m 0 c).arrAt 1 cfg0.N = out0_1 (V m c main_v9) := by
  refine (dats m 0 c).arrAt_eq_of_covers 1 _ (by decide +kernel) fun t hf y => ?_
  blk_simp
  rw [after0_1, iblk0]
  exact congrArg _ (emb1 t y).symm

theorem final2 : (dats m 0 c).arrAt 2 cfg0.N = out0_2 (V m c main_v9) := by
  refine (dats m 0 c).arrAt_eq_of_covers 2 _ (by decide +kernel) fun t hf y => ?_
  blk_simp
  rw [after0_2, iblk0]
  exact congrArg _ (emb2 t y).symm

open Idealize.SL.Sem

/-- The run: codes and scales are the quantiser's, the spectrum is as the host operations left it, and the arguments are unchanged. -/
theorem run_value (ρ : Dev nD → PrngReg) : θ_run defs (onTc (τ := τ) (main (F := Ideal))) ⟨m, fun _ => 0, ρ⟩ fun r => ∀ c : Dev nD,
      r.2.mem ((c : Thread nD τ).loc main_v10_0) = out0_1 (V m c main_v9)
      ∧ r.2.mem ((c : Thread nD τ).loc main_v10_1) = out0_2 (V m c main_v9)
      ∧ r.2.mem ((c : Thread nD τ).loc main_v8) = V m c main_v8
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 1).trans (final1 m c), ((h.1 c).1 2).trans (final2 m c),
      (h.1 c).2 main_v8 (Pipeline.mem_restRefs_of main_v8 (by decide) (by decide)), h.2.1 c⟩)
    (θ_run_and (run_main m ρ) (frame m ρ))

end Cert.AnalyzeReferenceIdeal.Hand

end
-- ==== Proof.AnalyzeReferenceIdeal.Equal.lean ====
/- The results of the two programs of the forward transform and the quantiser, index by index. -/
module

public import proofs.«01_k».proof.Defs
public import proofs.«01_k».proof.Proof.AnalyzeIdeal.Equal
public import proofs.«01_k».proof.Proof.AnalyzeReferenceIdeal.Value

@[expose] public section

set_option maxRecDepth 16384

noncomputable section

namespace Cert.Proof

open Idealize.ShloMosaic Idealize.SL.Sem

section
variable (m : (ℓ : Loc AnalyzeIdeal.nD AnalyzeIdeal.τ AnalyzeIdeal.sig) → Buf (Elt Ideal) ℓ)
  (m' : (ℓ : Loc AnalyzeReferenceIdeal.nD AnalyzeReferenceIdeal.τ AnalyzeReferenceIdeal.sig) → Buf (Elt Ideal) ℓ) (c : Dev AnalyzeIdeal.nD)
  (e0 : m' ((c.tc : Thread AnalyzeReferenceIdeal.nD AnalyzeReferenceIdeal.τ).loc AnalyzeReferenceIdeal.main_arg0) = m ((c.tc : Thread AnalyzeIdeal.nD AnalyzeIdeal.τ).loc AnalyzeIdeal.main_arg0))
include e0

/-- The codes of the quantiser. -/
theorem codes_eq : AnalyzeReferenceIdeal.Gen.out0_1 (F := Ideal) (AnalyzeReferenceIdeal.Gen.V m' c AnalyzeReferenceIdeal.main_v9)
    = AnalyzeIdeal.Hand.cOut (F := Ideal) (AnalyzeIdeal.Gen.V m c AnalyzeIdeal.main_v0) := by
  funext i
  have hi : i = ix4 (i 0) (i 1) (i 2) (i 3) := by
    funext a
    fin_cases a <;> rfl
  rw [hi]
  refine ((AnalyzeReferenceIdeal.Hand.out1_at _ (i 0) (i 1) (i 2) (i 3)).trans ?_).trans (AnalyzeIdeal.Hand.cOut_at m c _ rfl (i 0) (i 1) (i 2) (i 3)).symm
  exact congrArg₂ Cert.Quant.code (funext fun k => AnalyzeReferenceIdeal.Hand.V_x m' c (i 0) (i 1) k (i 3) _ e0)
    (AnalyzeReferenceIdeal.Hand.V_x m' c (i 0) (i 1) (i 2) (i 3) _ e0)

/-- The scales of the quantiser. -/
theorem scales_eq : AnalyzeReferenceIdeal.Gen.out0_2 (F := Ideal) (AnalyzeReferenceIdeal.Gen.V m' c AnalyzeReferenceIdeal.main_v9)
    = AnalyzeIdeal.Hand.sOut (F := Ideal) (AnalyzeIdeal.Gen.V m c AnalyzeIdeal.main_v0) := by
  funext i
  have hi : i = ix3 (i 0) (i 1) (i 2) := by
    funext a
    fin_cases a <;> rfl
  rw [hi]
  refine ((AnalyzeReferenceIdeal.Hand.out2_at _ (i 0) (i 1) (i 2)).trans ?_).trans (AnalyzeIdeal.Hand.sOut_at m c _ rfl (i 0) (i 1) (i 2)).symm
  exact congrArg Cert.Quant.scale (funext fun k => AnalyzeReferenceIdeal.Hand.V_x m' c (i 0) (i 1) k (i 2) _ e0)

/-- The forward transform. -/
theorem spectrum_eq (e1 : m' ((c.tc : Thread AnalyzeReferenceIdeal.nD AnalyzeReferenceIdeal.τ).loc AnalyzeReferenceIdeal.main_arg1) = m ((c.tc : Thread AnalyzeIdeal.nD AnalyzeIdeal.τ).loc AnalyzeIdeal.main_arg1))
    (e2 : m' ((c.tc : Thread AnalyzeReferenceIdeal.nD AnalyzeReferenceIdeal.τ).loc AnalyzeReferenceIdeal.main_arg2) = m ((c.tc : Thread AnalyzeIdeal.nD AnalyzeIdeal.τ).loc AnalyzeIdeal.main_arg2)) :
    AnalyzeReferenceIdeal.Gen.V (F := Ideal) m' c AnalyzeReferenceIdeal.main_v8
      = AnalyzeIdeal.Hand.xOut (F := Ideal) (AnalyzeIdeal.Gen.V m c AnalyzeIdeal.main_v0) (AnalyzeIdeal.Gen.V m c AnalyzeIdeal.main_v2) (AnalyzeIdeal.Gen.V m c AnalyzeIdeal.main_v7) := by
  funext i
  have hi : i = ix4 (i 0) (i 1) (i 2) (i 3) := by
    funext a
    fin_cases a <;> rfl
  rw [hi]
  exact (AnalyzeReferenceIdeal.Hand.V_spec m' c (i 0) (i 1) (i 2) (i 3) _ _ _ e0 e1 e2).trans
    (AnalyzeIdeal.Hand.xOut_at m c _ _ _ rfl rfl rfl (i 0) (i 1) (i 2) (i 3)).symm
end

theorem algebraic_analyze : Cert.algebraic_AnalyzeIdeal_AnalyzeReferenceIdeal (hAnalyzeIdeal := Cert.AnalyzeIdeal.Gen.facts)
    (hAnalyzeReferenceIdeal := Cert.AnalyzeReferenceIdeal.Gen.facts) := by
  intro m g m' g' _ hargs
  refine ⟨_, _, _, AnalyzeIdeal.Hand.run_value (F := Ideal) m g, ?_⟩
  refine (θ_run _ _ _).mono (fun r h c => ⟨(h c).1.trans ?_, (h c).2.1.trans ?_, (h c).2.2.1.trans ?_, (h c).2.2.2⟩) (AnalyzeReferenceIdeal.Hand.run_value m' g')
  · exact codes_eq m m' c (hargs c).1
  · exact scales_eq m m' c (hargs c).1
  · exact spectrum_eq m m' c (hargs c).1 (hargs c).2.1 (hargs c).2.2

end Cert.Proof

end
-- ==== Proof.lean ====
module

public import proofs.«01_k».proof.Defs
public import proofs.«01_k».proof.Proof.Kernel.Run
public import proofs.«01_k».proof.Proof.KernelIdeal.Result
public import proofs.«01_k».proof.Proof.ReferenceIdeal.Value
public import proofs.«01_k».proof.Proof.Finite
public import proofs.«01_k».proof.Proof.Analyze.Run
public import proofs.«01_k».proof.Proof.AnalyzeReferenceIdeal.Equal

@[expose] public section

set_option maxRecDepth 16384

noncomputable section

namespace Cert.Proof

open Idealize.ShloMosaic Idealize.SL.Sem

/-- What the reference stores, in the same words as the kernel's result. -/
theorem ref_at (A0 : Vec Ideal KernelIdeal.S40x200x64x256 .fp8e4m3) (A1 : Vec Ideal KernelIdeal.S40x200x256 .f32) (Y : Vec Ideal KernelIdeal.S40x14x18x4x128 .f32)
    (S : Vec Ideal KernelIdeal.S64x64 .fp8e4m3) (s b : Vec Ideal KernelIdeal.S64 .f32) (H : Vec Ideal KernelIdeal.S2x256x2x36 .bf16) (W : Vec Ideal KernelIdeal.S2x28x200 .bf16)
    (m : (ℓ : Loc ReferenceIdeal.nD ReferenceIdeal.τ ReferenceIdeal.sig) → Buf (Elt Ideal) ℓ) (c : Dev ReferenceIdeal.nD)
    (h2 : m ((c.tc : Thread ReferenceIdeal.nD ReferenceIdeal.τ).loc ReferenceIdeal.main_arg2) = Y)
    (h6 : m ((c.tc : Thread ReferenceIdeal.nD ReferenceIdeal.τ).loc ReferenceIdeal.main_arg6) = H)
    (h7 : m ((c.tc : Thread ReferenceIdeal.nD ReferenceIdeal.τ).loc ReferenceIdeal.main_arg7) = W)
    (n : Fin 40) (w : Fin 200) (ch : Fin 64) (h : Fin 256) :
    (ReferenceIdeal.Gen.out0_6 (F := Ideal) A0 A1 (ReferenceIdeal.Gen.V m c ReferenceIdeal.main_v11) S s b (ix4 n w ch h) : EReal)
      = Ideal.ofBits .f32 0x3F000000#32 * KernelIdeal.Hand.vval A0 A1 Y S s b H W n w ch h
        * (1 + Ideal.erf (KernelIdeal.Hand.vval A0 A1 Y S s b H W n w ch h * Ideal.ofBits .f32 0x3F3504F3#32)) := by
  refine (ReferenceIdeal.Hand.out_at A0 A1 _ S s b n w ch h).trans ?_
  exact congrArg (fun x : EReal => Ideal.ofBits .f32 0x3F000000#32 * (x + ((∑ i : Fin 64, (A0 (ix4 n w i h) : EReal) * S (ix2 i ch)) * (A1 (ix3 n w h) * s (ix1 ch)) + b (ix1 ch)))
    * (1 + Ideal.erf ((x + ((∑ i : Fin 64, (A0 (ix4 n w i h) : EReal) * S (ix2 i ch)) * (A1 (ix3 n w h) * s (ix1 ch)) + b (ix1 ch))) * Ideal.ofBits .f32 0x3F3504F3#32)))
    (ReferenceIdeal.Hand.V_spec m c n w ch h Y H W h2 h6 h7)

/-- The two results are one array. -/
theorem results_eq (A0 : Vec Ideal KernelIdeal.S40x200x64x256 .fp8e4m3) (A1 : Vec Ideal KernelIdeal.S40x200x256 .f32) (Y : Vec Ideal KernelIdeal.S40x14x18x4x128 .f32)
    (S : Vec Ideal KernelIdeal.S64x64 .fp8e4m3) (s b : Vec Ideal KernelIdeal.S64 .f32) (H : Vec Ideal KernelIdeal.S2x256x2x36 .bf16) (W : Vec Ideal KernelIdeal.S2x28x200 .bf16)
    (m : (ℓ : Loc ReferenceIdeal.nD ReferenceIdeal.τ ReferenceIdeal.sig) → Buf (Elt Ideal) ℓ) (c : Dev ReferenceIdeal.nD)
    (h2 : m ((c.tc : Thread ReferenceIdeal.nD ReferenceIdeal.τ).loc ReferenceIdeal.main_arg2) = Y)
    (h6 : m ((c.tc : Thread ReferenceIdeal.nD ReferenceIdeal.τ).loc ReferenceIdeal.main_arg6) = H)
    (h7 : m ((c.tc : Thread ReferenceIdeal.nD ReferenceIdeal.τ).loc ReferenceIdeal.main_arg7) = W)
    (hW : ∀ i, (W i : EReal) ≠ ⊤ ∧ (W i : EReal) ≠ ⊥) (hb : ∀ i, (b i : EReal) ≠ ⊤ ∧ (b i : EReal) ≠ ⊥) :
    ReferenceIdeal.Gen.out0_6 (F := Ideal) A0 A1 (ReferenceIdeal.Gen.V m c ReferenceIdeal.main_v11) S s b
      = KernelIdeal.Hand.kout A0 A1 Y (KernelIdeal.Hand.hinv H) (KernelIdeal.Hand.table (F := Ideal) W) (KernelIdeal.Hand.skipT S) (KernelIdeal.Hand.shT s) (KernelIdeal.Hand.biasTable (F := Ideal) b) := by
  funext i
  have hi : i = ix4 (i 0) (i 1) (i 2) (i 3) := by
    funext a
    fin_cases a <;> rfl
  rw [hi]
  exact (ref_at A0 A1 Y S s b H W m c h2 h6 h7 (i 0) (i 1) (i 2) (i 3)).trans
    (KernelIdeal.Hand.kout_at A0 A1 Y S s b H W (i 0) (i 1) (i 2) (i 3) (fun q j => hW _) (hb _)).symm

theorem algebraic : Cert.algebraic_KernelIdeal_ReferenceIdeal_pre_finite (hKernelIdeal := Cert.KernelIdeal.Gen.facts) (hReferenceIdeal := Cert.ReferenceIdeal.Gen.facts)
    (hPre_finite := Cert.Pre_finite.facts) := by
  intro m g m' g' hpre hargs
  refine ⟨_, KernelIdeal.Hand.run_value m g, ?_⟩
  refine (θ_run _ _ _).mono (fun r h c => ⟨((h c).1.trans ?_), (h c).2⟩) (ReferenceIdeal.Value.run_blocks m' g')
  have fin := Cert.Pre_finite.finite_of _ _ _ _ _ _ _ _ (congrFun (hpre c) ix0)
  obtain ⟨e0, e1, e2, e3, e4, e5, e6, e7⟩ := hargs c
  refine (ReferenceIdeal.Hand.final6 m' c).trans ?_
  refine Eq.trans ?_ (results_eq _ _ _ _ _ _ _ _ m' c e2 e6 e7 fin.1 fin.2)
  rw [e0, e1, e3, e4, e5]

theorem claim : Cert.Claim := ⟨Cert.Kernel.Gen.facts, Cert.KernelIdeal.Gen.facts, Cert.ReferenceIdeal.Gen.facts, Cert.Analyze.Gen.facts, Cert.AnalyzeIdeal.Gen.facts,
  Cert.AnalyzeReferenceIdeal.Gen.facts, Cert.Pre_finite.facts,
  fun m g _ => Cert.Kernel.Hand.frame_hand m g, fun m g _ => Cert.KernelIdeal.Hand.frame_hand m g, fun m g _ => Cert.KernelIdeal.Hand.frame_hand m g,
  fun m g _ => Cert.ReferenceIdeal.Gen.frame m g, fun m g _ => Cert.ReferenceIdeal.Gen.frame m g,
  fun m g _ => Cert.Analyze.Hand.frame_hand m g, fun m g _ => Cert.AnalyzeIdeal.Hand.frame_hand m g, fun m g _ => Cert.AnalyzeReferenceIdeal.Gen.frame m g,
  trivial, algebraic, trivial, algebraic_analyze⟩

end Cert.Proof

end
